-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x1024 : Shape := ⟨2, ![1024, 1024]⟩
abbrev S2x2x1024x512 : Shape := ⟨4, ![2, 2, 1024, 512]⟩
abbrev S2x3x1024x512 : Shape := ⟨4, ![2, 3, 1024, 512]⟩
abbrev S4 : Shape := ⟨1, ![4]⟩
abbrev S2x3x4 : Shape := ⟨3, ![2, 3, 4]⟩
abbrev S2x4 : Shape := ⟨2, ![2, 4]⟩
abbrev S1 : Shape := ⟨1, ![1]⟩
abbrev S_ : Shape := ⟨0, ![]⟩
abbrev S1x1x1 : Shape := ⟨3, ![1, 1, 1]⟩
abbrev S1x1x256x512 : Shape := ⟨4, ![1, 1, 256, 512]⟩
abbrev S256x512 : Shape := ⟨2, ![256, 512]⟩
abbrev S1x1 : Shape := ⟨2, ![1, 1]⟩
abbrev S1024x512 : Shape := ⟨2, ![1024, 512]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .local _ .vmem, ⟨0, _⟩ => ⟨S4096x1024, .f32⟩
  | .local _ .vmem, ⟨1, _⟩ => ⟨S1024x1024, .bf16⟩
  | .local _ .vmem, ⟨2, _⟩ => ⟨S2x2x1024x512, .bf16⟩
  | .local _ .vmem, ⟨3, _⟩ => ⟨S2x3x1024x512, .bf16⟩
  | .local _ .vmem, ⟨4, _⟩ => ⟨S4096x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 108 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | _ => false

abbrev sig : RefSig :=
  (ofTc nBuf bufTy 1 108 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v25 : BitVec 32 := Scalar.addi v2 c0_i32_13
  let c4_i32_14 : BitVec 32 := 4#32
  let c0_i32_15 : BitVec 32 := 0#32
  let v26 : BitVec 1 := Scalar.cmpi .eq c4_i32_14 c0_i32_15
  let c1_i32_16 : BitVec 32 := 1#32
  let v27 : BitVec 32 := Scalar.select v26 c1_i32_16 c4_i32_14
  let v28 : BitVec 32 := Scalar.remsi v25 v27
  let c0_i32_18 : BitVec 32 := 0#32
  let v30 : BitVec 1 := Scalar.cmpi .slt v28 c0_i32_18
  let c0_i32_19 : BitVec 32 := 0#32
  let v31 : BitVec 1 := Scalar.cmpi .slt v27 c0_i32_19
  let v32 : BitVec 1 := Scalar.xori v30 v31
  let c0_i32_17 : BitVec 32 := 0#32
  let v29 : BitVec 1 := Scalar.cmpi .ne v28 c0_i32_17
  let v33 : BitVec 1 := Scalar.andi v32 v29
  let v34 : BitVec 32 := Scalar.addi v28 v27
  let v35 : BitVec 32 := Scalar.select v33 v34 v28
  let c1024_i32_20 : BitVec 32 := 1024#32
  let v37 : BitVec 32 := Scalar.muli v35 c1024_i32_20
  let c0_i32_22 : BitVec 32 := 0#32
  ![v37.toNat, 0]
def k0_dev1 (d0 : Dev nD) : Nat :=
  let c0_i32_60 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_59 : BitVec 32 := 1#32
  let v94 : BitVec 32 := Scalar.muli v13 c1_i32_59
  let v95 : BitVec 32 := Scalar.addi c0_i32_60 v94
  v95.toNat
def k0_dev2 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_62 : BitVec 32 := 1#32
  let v96 : BitVec 32 := Scalar.muli v24 c1_i32_62
  let v97 : BitVec 32 := Scalar.addi c0_i32_63 v96
  v97.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_68 : BitVec 32 := 1024#32
  let v102 : BitVec 32 := Scalar.muli v2 c1024_i32_68
  let v103 : Index := Scalar.indexCast v102
  let c0 : Index := 0#32
  ![v103.toNat, 0]
def k0_dev3 (d0 : Dev nD) : Nat :=
  let c0_i32_80 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_79 : BitVec 32 := 1#32
  let v109 : BitVec 32 := Scalar.muli v24 c1_i32_79
  let v110 : BitVec 32 := Scalar.addi c0_i32_80 v109
  v110.toNat
def k0_dev4 (d0 : Dev nD) : Nat :=
  let c0_i32_94 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_93 : BitVec 32 := 1#32
  let v118 : BitVec 32 := Scalar.muli v13 c1_i32_93
  let v119 : BitVec 32 := Scalar.addi c0_i32_94 v118
  v119.toNat
def k0_dev5 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_106 : BitVec 32 := 1#32
  let v127 : BitVec 32 := Scalar.muli v24 c1_i32_106
  let v128 : BitVec 32 := Scalar.addi c0_i32_107 v127
  v128.toNat
def k0_dev6 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_119 : BitVec 32 := 1#32
  let v136 : BitVec 32 := Scalar.muli v13 c1_i32_119
  let v137 : BitVec 32 := Scalar.addi c0_i32_120 v136
  v137.toNat
def k0_dev7 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_133 : BitVec 32 := 1#32
  let v145 : BitVec 32 := Scalar.muli v24 c1_i32_133
  let v146 : BitVec 32 := Scalar.addi c0_i32_134 v145
  v146.toNat
def k0_dev8 (d0 : Dev nD) : Nat :=
  let c0_i32_148 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_147 : BitVec 32 := 1#32
  let v154 : BitVec 32 := Scalar.muli v13 c1_i32_147
  let v155 : BitVec 32 := Scalar.addi c0_i32_148 v154
  v155.toNat
def k0_dev9 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_161 : BitVec 32 := 1#32
  let v163 : BitVec 32 := Scalar.muli v24 c1_i32_161
  let v164 : BitVec 32 := Scalar.addi c0_i32_162 v163
  v164.toNat
def k0_dev10 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_174 : BitVec 32 := 1#32
  let v172 : BitVec 32 := Scalar.muli v13 c1_i32_174
  let v173 : BitVec 32 := Scalar.addi c0_i32_175 v172
  v173.toNat
def k0_off3 (d0 : Dev nD) (c_m1_i32 : BitVec 32) (c0_i32_208 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v188 : BitVec 32 := Scalar.addi v2 c_m1_i32
  let c4_i32_194 : BitVec 32 := 4#32
  let c0_i32_195 : BitVec 32 := 0#32
  let v189 : BitVec 1 := Scalar.cmpi .eq c4_i32_194 c0_i32_195
  let c1_i32_196 : BitVec 32 := 1#32
  let v190 : BitVec 32 := Scalar.select v189 c1_i32_196 c4_i32_194
  let v191 : BitVec 32 := Scalar.remsi v188 v190
  let c0_i32_198 : BitVec 32 := 0#32
  let v193 : BitVec 1 := Scalar.cmpi .slt v191 c0_i32_198
  let c0_i32_199 : BitVec 32 := 0#32
  let v194 : BitVec 1 := Scalar.cmpi .slt v190 c0_i32_199
  let v195 : BitVec 1 := Scalar.xori v193 v194
  let c0_i32_197 : BitVec 32 := 0#32
  let v192 : BitVec 1 := Scalar.cmpi .ne v191 c0_i32_197
  let v196 : BitVec 1 := Scalar.andi v195 v192
  let v197 : BitVec 32 := Scalar.addi v191 v190
  let v198 : BitVec 32 := Scalar.select v196 v197 v191
  let c1024_i32_207 : BitVec 32 := 1024#32
  let v205 : BitVec 32 := Scalar.muli v198 c1024_i32_207
  let v206 : BitVec 32 := Scalar.addi v205 c0_i32_208
  let v207 : Index := Scalar.indexCast v206
  let c0_209 : Index := 0#32
  ![v207.toNat, 0]
def k0_dev11 (d0 : Dev nD) : Nat :=
  let c0_i32_225 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_224 : BitVec 32 := 1#32
  let v214 : BitVec 32 := Scalar.muli v24 c1_i32_224
  let v215 : BitVec 32 := Scalar.addi c0_i32_225 v214
  v215.toNat
def k0_off4 (d0 : Dev nD) (c1_i32_244 : BitVec 32) (c0_i32_258 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v231 : BitVec 32 := Scalar.addi v2 c1_i32_244
  let c4_i32_245 : BitVec 32 := 4#32
  let c0_i32_246 : BitVec 32 := 0#32
  let v232 : BitVec 1 := Scalar.cmpi .eq c4_i32_245 c0_i32_246
  let c1_i32_247 : BitVec 32 := 1#32
  let v233 : BitVec 32 := Scalar.select v232 c1_i32_247 c4_i32_245
  let v234 : BitVec 32 := Scalar.remsi v231 v233
  let c0_i32_249 : BitVec 32 := 0#32
  let v236 : BitVec 1 := Scalar.cmpi .slt v234 c0_i32_249
  let c0_i32_250 : BitVec 32 := 0#32
  let v237 : BitVec 1 := Scalar.cmpi .slt v233 c0_i32_250
  let v238 : BitVec 1 := Scalar.xori v236 v237
  let c0_i32_248 : BitVec 32 := 0#32
  let v235 : BitVec 1 := Scalar.cmpi .ne v234 c0_i32_248
  let v239 : BitVec 1 := Scalar.andi v238 v235
  let v240 : BitVec 32 := Scalar.addi v234 v233
  let v241 : BitVec 32 := Scalar.select v239 v240 v234
  let c1024_i32_257 : BitVec 32 := 1024#32
  let v248 : BitVec 32 := Scalar.muli v241 c1024_i32_257
  let v249 : BitVec 32 := Scalar.addi v248 c0_i32_258
  let v250 : Index := Scalar.indexCast v249
  let c512 : Index := 512#32
  ![v250.toNat, 512]
def k0_dev12 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_273 : BitVec 32 := 1#32
  let v257 : BitVec 32 := Scalar.muli v13 c1_i32_273
  let v258 : BitVec 32 := Scalar.addi c0_i32_274 v257
  v258.toNat
def k0_dev13 (d0 : Dev nD) : Nat :=
  let c0_i32_321 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_320 : BitVec 32 := 1#32
  let v296 : BitVec 32 := Scalar.muli v24 c1_i32_320
  let v297 : BitVec 32 := Scalar.addi c0_i32_321 v296
  v297.toNat
def k0_dev14 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_368 : BitVec 32 := 1#32
  let v335 : BitVec 32 := Scalar.muli v13 c1_i32_368
  let v336 : BitVec 32 := Scalar.addi c0_i32_369 v335
  v336.toNat
def k0_dev15 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_416 : BitVec 32 := 1#32
  let v374 : BitVec 32 := Scalar.muli v24 c1_i32_416
  let v375 : BitVec 32 := Scalar.addi c0_i32_417 v374
  v375.toNat
def k0_dev16 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_464 : BitVec 32 := 1#32
  let v413 : BitVec 32 := Scalar.muli v13 c1_i32_464
  let v414 : BitVec 32 := Scalar.addi c0_i32_465 v413
  v414.toNat
def k0_dev17 (d0 : Dev nD) : Nat :=
  let c0_i32_512 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_511 : BitVec 32 := 1#32
  let v452 : BitVec 32 := Scalar.muli v24 c1_i32_511
  let v453 : BitVec 32 := Scalar.addi c0_i32_512 v452
  v453.toNat
def k0_dev18 (d0 : Dev nD) : Nat :=
  let c0_i32_560 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_559 : BitVec 32 := 1#32
  let v491 : BitVec 32 := Scalar.muli v13 c1_i32_559
  let v492 : BitVec 32 := Scalar.addi c0_i32_560 v491
  v492.toNat
def k0_dev19 (d0 : Dev nD) : Nat :=
  let c0_i32_612 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_611 : BitVec 32 := 1#32
  let v535 : BitVec 32 := Scalar.muli v24 c1_i32_611
  let v536 : BitVec 32 := Scalar.addi c0_i32_612 v535
  v536.toNat
def k0_dev20 (d0 : Dev nD) : Nat :=
  let c0_i32_662 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_661 : BitVec 32 := 1#32
  let v575 : BitVec 32 := Scalar.muli v13 c1_i32_661
  let v576 : BitVec 32 := Scalar.addi c0_i32_662 v575
  v576.toNat
def k0_dev21 (d0 : Dev nD) : Nat :=
  let c0_i32_712 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_711 : BitVec 32 := 1#32
  let v615 : BitVec 32 := Scalar.muli v24 c1_i32_711
  let v616 : BitVec 32 := Scalar.addi c0_i32_712 v615
  v616.toNat
def k0_dev22 (d0 : Dev nD) : Nat :=
  let c0_i32_762 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_761 : BitVec 32 := 1#32
  let v655 : BitVec 32 := Scalar.muli v13 c1_i32_761
  let v656 : BitVec 32 := Scalar.addi c0_i32_762 v655
  v656.toNat
def k0_dev23 (d0 : Dev nD) : Nat :=
  let c0_i32_812 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_811 : BitVec 32 := 1#32
  let v695 : BitVec 32 := Scalar.muli v24 c1_i32_811
  let v696 : BitVec 32 := Scalar.addi c0_i32_812 v695
  v696.toNat
def k0_dev24 (d0 : Dev nD) : Nat :=
  let c0_i32_862 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_861 : BitVec 32 := 1#32
  let v735 : BitVec 32 := Scalar.muli v13 c1_i32_861
  let v736 : BitVec 32 := Scalar.addi c0_i32_862 v735
  v736.toNat
def k0_dev25 (d0 : Dev nD) : Nat :=
  let c0_i32_912 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_911 : BitVec 32 := 1#32
  let v775 : BitVec 32 := Scalar.muli v24 c1_i32_911
  let v776 : BitVec 32 := Scalar.addi c0_i32_912 v775
  v776.toNat
def k0_dev26 (d0 : Dev nD) : Nat :=
  let c0_i32_962 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_961 : BitVec 32 := 1#32
  let v815 : BitVec 32 := Scalar.muli v13 c1_i32_961
  let v816 : BitVec 32 := Scalar.addi c0_i32_962 v815
  v816.toNat
def k0_off5 (d0 : Dev nD) (c0_i32_994 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_967 : BitVec 32 := 4294967295#32
  let v825 : BitVec 32 := Scalar.subi v2 c_m1_i32_967
  let c4_i32_968 : BitVec 32 := 4#32
  let c0_i32_969 : BitVec 32 := 0#32
  let v826 : BitVec 1 := Scalar.cmpi .eq c4_i32_968 c0_i32_969
  let c1_i32_970 : BitVec 32 := 1#32
  let v827 : BitVec 32 := Scalar.select v826 c1_i32_970 c4_i32_968
  let v828 : BitVec 32 := Scalar.remsi v825 v827
  let c0_i32_972 : BitVec 32 := 0#32
  let v830 : BitVec 1 := Scalar.cmpi .slt v828 c0_i32_972
  let c0_i32_973 : BitVec 32 := 0#32
  let v831 : BitVec 1 := Scalar.cmpi .slt v827 c0_i32_973
  let v832 : BitVec 1 := Scalar.xori v830 v831
  let c0_i32_971 : BitVec 32 := 0#32
  let v829 : BitVec 1 := Scalar.cmpi .ne v828 c0_i32_971
  let v833 : BitVec 1 := Scalar.andi v832 v829
  let v834 : BitVec 32 := Scalar.addi v828 v827
  let v835 : BitVec 32 := Scalar.select v833 v834 v828
  let c1024_i32_993 : BitVec 32 := 1024#32
  let v846 : BitVec 32 := Scalar.muli v835 c1024_i32_993
  let v847 : BitVec 32 := Scalar.addi v846 c0_i32_994
  let v848 : Index := Scalar.indexCast v847
  let c0_995 : Index := 0#32
  ![v848.toNat, 0]
def k0_off6 (d0 : Dev nD) (c0_i32_1000 : BitVec 32) (c0_i32_1008 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_999 : BitVec 32 := 4294967295#32
  let v858 : BitVec 32 := Scalar.subi v2 c_m1_i32_999
  let v859 : BitVec 32 := Scalar.addi v858 c0_i32_1000
  let c4_i32_1001 : BitVec 32 := 4#32
  let c0_i32_1002 : BitVec 32 := 0#32
  let v860 : BitVec 1 := Scalar.cmpi .eq c4_i32_1001 c0_i32_1002
  let c1_i32_1003 : BitVec 32 := 1#32
  let v861 : BitVec 32 := Scalar.select v860 c1_i32_1003 c4_i32_1001
  let v862 : BitVec 32 := Scalar.remsi v859 v861
  let c0_i32_1005 : BitVec 32 := 0#32
  let v864 : BitVec 1 := Scalar.cmpi .slt v862 c0_i32_1005
  let c0_i32_1006 : BitVec 32 := 0#32
  let v865 : BitVec 1 := Scalar.cmpi .slt v861 c0_i32_1006
  let v866 : BitVec 1 := Scalar.xori v864 v865
  let c0_i32_1004 : BitVec 32 := 0#32
  let v863 : BitVec 1 := Scalar.cmpi .ne v862 c0_i32_1004
  let v867 : BitVec 1 := Scalar.andi v866 v863
  let v868 : BitVec 32 := Scalar.addi v862 v861
  let v869 : BitVec 32 := Scalar.select v867 v868 v862
  let c1024_i32_1007 : BitVec 32 := 1024#32
  let v870 : BitVec 32 := Scalar.muli v869 c1024_i32_1007
  let v871 : BitVec 32 := Scalar.addi v870 c0_i32_1008
  let c0_i32_1017 : BitVec 32 := 0#32
  ![v871.toNat, 0]
def k0_off6_at (r : Fin 12) : BitVec 32 × BitVec 32 :=
  if r.val < 6 then
    if r.val < 3 then
      if r.val < 1 then
        (0#32, 0#32)
      else
        if r.val < 2 then
          (0#32, 256#32)
        else
          (0#32, 512#32)
    else
      if r.val < 4 then
        (0#32, 768#32)
      else
        if r.val < 5 then
          (4294967295#32, 0#32)
        else
          (4294967295#32, 256#32)
  else
    if r.val < 9 then
      if r.val < 7 then
        (4294967295#32, 512#32)
      else
        if r.val < 8 then
          (4294967295#32, 768#32)
        else
          (4294967294#32, 0#32)
    else
      if r.val < 10 then
        (4294967294#32, 256#32)
      else
        if r.val < 11 then
          (4294967294#32, 512#32)
        else
          (4294967294#32, 768#32)
def k0_dev27 (d0 : Dev nD) : Nat :=
  let c0_i32_1016 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1015 : BitVec 32 := 1#32
  let v872 : BitVec 32 := Scalar.muli v24 c1_i32_1015
  let v873 : BitVec 32 := Scalar.addi c0_i32_1016 v872
  v873.toNat
def k0_off7 (d0 : Dev nD) (c0_i32_1047 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1019 : BitVec 32 := 1#32
  let v880 : BitVec 32 := Scalar.subi v2 c1_i32_1019
  let c4_i32_1020 : BitVec 32 := 4#32
  let c0_i32_1021 : BitVec 32 := 0#32
  let v881 : BitVec 1 := Scalar.cmpi .eq c4_i32_1020 c0_i32_1021
  let c1_i32_1022 : BitVec 32 := 1#32
  let v882 : BitVec 32 := Scalar.select v881 c1_i32_1022 c4_i32_1020
  let v883 : BitVec 32 := Scalar.remsi v880 v882
  let c0_i32_1024 : BitVec 32 := 0#32
  let v885 : BitVec 1 := Scalar.cmpi .slt v883 c0_i32_1024
  let c0_i32_1025 : BitVec 32 := 0#32
  let v886 : BitVec 1 := Scalar.cmpi .slt v882 c0_i32_1025
  let v887 : BitVec 1 := Scalar.xori v885 v886
  let c0_i32_1023 : BitVec 32 := 0#32
  let v884 : BitVec 1 := Scalar.cmpi .ne v883 c0_i32_1023
  let v888 : BitVec 1 := Scalar.andi v887 v884
  let v889 : BitVec 32 := Scalar.addi v883 v882
  let v890 : BitVec 32 := Scalar.select v888 v889 v883
  let c1024_i32_1046 : BitVec 32 := 1024#32
  let v901 : BitVec 32 := Scalar.muli v890 c1024_i32_1046
  let v902 : BitVec 32 := Scalar.addi v901 c0_i32_1047
  let v903 : Index := Scalar.indexCast v902
  let c512_1048 : Index := 512#32
  ![v903.toNat, 512]
def k0_off8 (d0 : Dev nD) (c0_i32_1053 : BitVec 32) (c0_i32_1061 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1052 : BitVec 32 := 1#32
  let v913 : BitVec 32 := Scalar.subi v2 c1_i32_1052
  let v914 : BitVec 32 := Scalar.addi v913 c0_i32_1053
  let c4_i32_1054 : BitVec 32 := 4#32
  let c0_i32_1055 : BitVec 32 := 0#32
  let v915 : BitVec 1 := Scalar.cmpi .eq c4_i32_1054 c0_i32_1055
  let c1_i32_1056 : BitVec 32 := 1#32
  let v916 : BitVec 32 := Scalar.select v915 c1_i32_1056 c4_i32_1054
  let v917 : BitVec 32 := Scalar.remsi v914 v916
  let c0_i32_1058 : BitVec 32 := 0#32
  let v919 : BitVec 1 := Scalar.cmpi .slt v917 c0_i32_1058
  let c0_i32_1059 : BitVec 32 := 0#32
  let v920 : BitVec 1 := Scalar.cmpi .slt v916 c0_i32_1059
  let v921 : BitVec 1 := Scalar.xori v919 v920
  let c0_i32_1057 : BitVec 32 := 0#32
  let v918 : BitVec 1 := Scalar.cmpi .ne v917 c0_i32_1057
  let v922 : BitVec 1 := Scalar.andi v921 v918
  let v923 : BitVec 32 := Scalar.addi v917 v916
  let v924 : BitVec 32 := Scalar.select v922 v923 v917
  let c1024_i32_1060 : BitVec 32 := 1024#32
  let v925 : BitVec 32 := Scalar.muli v924 c1024_i32_1060
  let v926 : BitVec 32 := Scalar.addi v925 c0_i32_1061
  let c512_i32_1070 : BitVec 32 := 512#32
  ![v926.toNat, 512]
def k0_dev28 (d0 : Dev nD) : Nat :=
  let c0_i32_1069 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1068 : BitVec 32 := 1#32
  let v927 : BitVec 32 := Scalar.muli v13 c1_i32_1068
  let v928 : BitVec 32 := Scalar.addi c0_i32_1069 v927
  v928.toNat
def k0_dev29 (d0 : Dev nD) : Nat :=
  let c0_i32_1122 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1121 : BitVec 32 := 1#32
  let v982 : BitVec 32 := Scalar.muli v24 c1_i32_1121
  let v983 : BitVec 32 := Scalar.addi c0_i32_1122 v982
  v983.toNat
def k0_dev30 (d0 : Dev nD) : Nat :=
  let c0_i32_1175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1174 : BitVec 32 := 1#32
  let v1037 : BitVec 32 := Scalar.muli v13 c1_i32_1174
  let v1038 : BitVec 32 := Scalar.addi c0_i32_1175 v1037
  v1038.toNat
def k0_dev31 (d0 : Dev nD) : Nat :=
  let c0_i32_1228 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1227 : BitVec 32 := 1#32
  let v1092 : BitVec 32 := Scalar.muli v24 c1_i32_1227
  let v1093 : BitVec 32 := Scalar.addi c0_i32_1228 v1092
  v1093.toNat
def k0_dev32 (d0 : Dev nD) : Nat :=
  let c0_i32_1281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1280 : BitVec 32 := 1#32
  let v1147 : BitVec 32 := Scalar.muli v13 c1_i32_1280
  let v1148 : BitVec 32 := Scalar.addi c0_i32_1281 v1147
  v1148.toNat
def k0_dev33 (d0 : Dev nD) : Nat :=
  let c0_i32_1334 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1333 : BitVec 32 := 1#32
  let v1202 : BitVec 32 := Scalar.muli v24 c1_i32_1333
  let v1203 : BitVec 32 := Scalar.addi c0_i32_1334 v1202
  v1203.toNat
def k0_dev34 (d0 : Dev nD) : Nat :=
  let c0_i32_1387 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1386 : BitVec 32 := 1#32
  let v1257 : BitVec 32 := Scalar.muli v13 c1_i32_1386
  let v1258 : BitVec 32 := Scalar.addi c0_i32_1387 v1257
  v1258.toNat
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c_m1_i32_1390 : BitVec 32 := 4294967295#32
  let v1265 : BitVec 32 := Scalar.subi v2 c_m1_i32_1390
  let c4_i32_1391 : BitVec 32 := 4#32
  let c0_i32_1392 : BitVec 32 := 0#32
  let v1266 : BitVec 1 := Scalar.cmpi .eq c4_i32_1391 c0_i32_1392
  let c1_i32_1393 : BitVec 32 := 1#32
  let v1267 : BitVec 32 := Scalar.select v1266 c1_i32_1393 c4_i32_1391
  let v1268 : BitVec 32 := Scalar.remsi v1265 v1267
  let c0_i32_1395 : BitVec 32 := 0#32
  let v1270 : BitVec 1 := Scalar.cmpi .slt v1268 c0_i32_1395
  let c0_i32_1396 : BitVec 32 := 0#32
  let v1271 : BitVec 1 := Scalar.cmpi .slt v1267 c0_i32_1396
  let v1272 : BitVec 1 := Scalar.xori v1270 v1271
  let c0_i32_1394 : BitVec 32 := 0#32
  let v1269 : BitVec 1 := Scalar.cmpi .ne v1268 c0_i32_1394
  let v1273 : BitVec 1 := Scalar.andi v1272 v1269
  let v1274 : BitVec 32 := Scalar.addi v1268 v1267
  let v1275 : BitVec 32 := Scalar.select v1273 v1274 v1268
  let c1024_i32_1397 : BitVec 32 := 1024#32
  let v1276 : BitVec 32 := Scalar.muli v1275 c1024_i32_1397
  let c0_i32_1400 : BitVec 32 := 0#32
  ![v1276.toNat, 0]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1402 : BitVec 32 := 1#32
  let v1281 : BitVec 32 := Scalar.subi v2 c1_i32_1402
  let c4_i32_1403 : BitVec 32 := 4#32
  let c0_i32_1404 : BitVec 32 := 0#32
  let v1282 : BitVec 1 := Scalar.cmpi .eq c4_i32_1403 c0_i32_1404
  let c1_i32_1405 : BitVec 32 := 1#32
  let v1283 : BitVec 32 := Scalar.select v1282 c1_i32_1405 c4_i32_1403
  let v1284 : BitVec 32 := Scalar.remsi v1281 v1283
  let c0_i32_1407 : BitVec 32 := 0#32
  let v1286 : BitVec 1 := Scalar.cmpi .slt v1284 c0_i32_1407
  let c0_i32_1408 : BitVec 32 := 0#32
  let v1287 : BitVec 1 := Scalar.cmpi .slt v1283 c0_i32_1408
  let v1288 : BitVec 1 := Scalar.xori v1286 v1287
  let c0_i32_1406 : BitVec 32 := 0#32
  let v1285 : BitVec 1 := Scalar.cmpi .ne v1284 c0_i32_1406
  let v1289 : BitVec 1 := Scalar.andi v1288 v1285
  let v1290 : BitVec 32 := Scalar.addi v1284 v1283
  let v1291 : BitVec 32 := Scalar.select v1289 v1290 v1284
  let c1024_i32_1409 : BitVec 32 := 1024#32
  let v1292 : BitVec 32 := Scalar.muli v1291 c1024_i32_1409
  let c512_i32_1412 : BitVec 32 := 512#32
  ![v1292.toNat, 512]
def k0_dev35 (d0 : Dev nD) : Nat :=
  let c0_i32_1441 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1440 : BitVec 32 := 1#32
  let v1317 : BitVec 32 := Scalar.muli v24 c1_i32_1440
  let v1318 : BitVec 32 := Scalar.addi c0_i32_1441 v1317
  v1318.toNat
def k0_dev36 (d0 : Dev nD) : Nat :=
  let c0_i32_1471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1470 : BitVec 32 := 1#32
  let v1345 : BitVec 32 := Scalar.muli v13 c1_i32_1470
  let v1346 : BitVec 32 := Scalar.addi c0_i32_1471 v1345
  v1346.toNat
def k0_dev37 (d0 : Dev nD) : Nat :=
  let c0_i32_1501 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1500 : BitVec 32 := 1#32
  let v1373 : BitVec 32 := Scalar.muli v24 c1_i32_1500
  let v1374 : BitVec 32 := Scalar.addi c0_i32_1501 v1373
  v1374.toNat
def k0_dev38 (d0 : Dev nD) : Nat :=
  let c0_i32_1531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1530 : BitVec 32 := 1#32
  let v1401 : BitVec 32 := Scalar.muli v13 c1_i32_1530
  let v1402 : BitVec 32 := Scalar.addi c0_i32_1531 v1401
  v1402.toNat
def k0_dev39 (d0 : Dev nD) : Nat :=
  let c0_i32_1561 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1560 : BitVec 32 := 1#32
  let v1429 : BitVec 32 := Scalar.muli v24 c1_i32_1560
  let v1430 : BitVec 32 := Scalar.addi c0_i32_1561 v1429
  v1430.toNat
def k0_dev40 (d0 : Dev nD) : Nat :=
  let c0_i32_1591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1590 : BitVec 32 := 1#32
  let v1457 : BitVec 32 := Scalar.muli v13 c1_i32_1590
  let v1458 : BitVec 32 := Scalar.addi c0_i32_1591 v1457
  v1458.toNat
def k0_dev41 (d0 : Dev nD) : Nat :=
  let c0_i32_1621 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1620 : BitVec 32 := 1#32
  let v1485 : BitVec 32 := Scalar.muli v24 c1_i32_1620
  let v1486 : BitVec 32 := Scalar.addi c0_i32_1621 v1485
  v1486.toNat
def k0_dev42 (d0 : Dev nD) : Nat :=
  let c0_i32_1651 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1650 : BitVec 32 := 1#32
  let v1513 : BitVec 32 := Scalar.muli v13 c1_i32_1650
  let v1514 : BitVec 32 := Scalar.addi c0_i32_1651 v1513
  v1514.toNat
def k0_off11 (d0 : Dev nD) (c0_i32_1654 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1521 : BitVec 32 := Scalar.addi v2 c0_i32_1654
  let c4_i32_1655 : BitVec 32 := 4#32
  let c0_i32_1656 : BitVec 32 := 0#32
  let v1522 : BitVec 1 := Scalar.cmpi .eq c4_i32_1655 c0_i32_1656
  let c1_i32_1657 : BitVec 32 := 1#32
  let v1523 : BitVec 32 := Scalar.select v1522 c1_i32_1657 c4_i32_1655
  let v1524 : BitVec 32 := Scalar.remsi v1521 v1523
  let c0_i32_1659 : BitVec 32 := 0#32
  let v1526 : BitVec 1 := Scalar.cmpi .slt v1524 c0_i32_1659
  let c0_i32_1660 : BitVec 32 := 0#32
  let v1527 : BitVec 1 := Scalar.cmpi .slt v1523 c0_i32_1660
  let v1528 : BitVec 1 := Scalar.xori v1526 v1527
  let c0_i32_1658 : BitVec 32 := 0#32
  let v1525 : BitVec 1 := Scalar.cmpi .ne v1524 c0_i32_1658
  let v1529 : BitVec 1 := Scalar.andi v1528 v1525
  let v1530 : BitVec 32 := Scalar.addi v1524 v1523
  let v1531 : BitVec 32 := Scalar.select v1529 v1530 v1524
  let c1024_i32_1661 : BitVec 32 := 1024#32
  let v1532 : BitVec 32 := Scalar.muli v1531 c1024_i32_1661
  let c0_i32_1664 : BitVec 32 := 0#32
  ![v1532.toNat, 0]
def k0_off11_at (r : Fin 3) : BitVec 32 :=
  if r.val < 1 then
    0#32
  else
    if r.val < 2 then
      4294967295#32
    else
      4294967294#32
def k0_off12 (d0 : Dev nD) (c0_i32_1666 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1537 : BitVec 32 := Scalar.addi v2 c0_i32_1666
  let c4_i32_1667 : BitVec 32 := 4#32
  let c0_i32_1668 : BitVec 32 := 0#32
  let v1538 : BitVec 1 := Scalar.cmpi .eq c4_i32_1667 c0_i32_1668
  let c1_i32_1669 : BitVec 32 := 1#32
  let v1539 : BitVec 32 := Scalar.select v1538 c1_i32_1669 c4_i32_1667
  let v1540 : BitVec 32 := Scalar.remsi v1537 v1539
  let c0_i32_1671 : BitVec 32 := 0#32
  let v1542 : BitVec 1 := Scalar.cmpi .slt v1540 c0_i32_1671
  let c0_i32_1672 : BitVec 32 := 0#32
  let v1543 : BitVec 1 := Scalar.cmpi .slt v1539 c0_i32_1672
  let v1544 : BitVec 1 := Scalar.xori v1542 v1543
  let c0_i32_1670 : BitVec 32 := 0#32
  let v1541 : BitVec 1 := Scalar.cmpi .ne v1540 c0_i32_1670
  let v1545 : BitVec 1 := Scalar.andi v1544 v1541
  let v1546 : BitVec 32 := Scalar.addi v1540 v1539
  let v1547 : BitVec 32 := Scalar.select v1545 v1546 v1540
  let c1024_i32_1673 : BitVec 32 := 1024#32
  let v1548 : BitVec 32 := Scalar.muli v1547 c1024_i32_1673
  let c512_i32_1676 : BitVec 32 := 512#32
  ![v1548.toNat, 512]
def k0_dev43 (d0 : Dev nD) : Nat :=
  let c0_i32_1705 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1704 : BitVec 32 := 1#32
  let v1573 : BitVec 32 := Scalar.muli v24 c1_i32_1704
  let v1574 : BitVec 32 := Scalar.addi c0_i32_1705 v1573
  v1574.toNat
def k0_dev44 (d0 : Dev nD) : Nat :=
  let c0_i32_1735 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1734 : BitVec 32 := 1#32
  let v1601 : BitVec 32 := Scalar.muli v13 c1_i32_1734
  let v1602 : BitVec 32 := Scalar.addi c0_i32_1735 v1601
  v1602.toNat
def k0_dev45 (d0 : Dev nD) : Nat :=
  let c0_i32_1765 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1764 : BitVec 32 := 1#32
  let v1629 : BitVec 32 := Scalar.muli v24 c1_i32_1764
  let v1630 : BitVec 32 := Scalar.addi c0_i32_1765 v1629
  v1630.toNat
def k0_dev46 (d0 : Dev nD) : Nat :=
  let c0_i32_1795 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1794 : BitVec 32 := 1#32
  let v1657 : BitVec 32 := Scalar.muli v13 c1_i32_1794
  let v1658 : BitVec 32 := Scalar.addi c0_i32_1795 v1657
  v1658.toNat
def k0_dev47 (d0 : Dev nD) : Nat :=
  let c0_i32_1825 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1824 : BitVec 32 := 1#32
  let v1685 : BitVec 32 := Scalar.muli v24 c1_i32_1824
  let v1686 : BitVec 32 := Scalar.addi c0_i32_1825 v1685
  v1686.toNat
def k0_dev48 (d0 : Dev nD) : Nat :=
  let c0_i32_1855 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1854 : BitVec 32 := 1#32
  let v1713 : BitVec 32 := Scalar.muli v13 c1_i32_1854
  let v1714 : BitVec 32 := Scalar.addi c0_i32_1855 v1713
  v1714.toNat
def k0_dev49 (d0 : Dev nD) : Nat :=
  let c0_i32_1885 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1884 : BitVec 32 := 1#32
  let v1741 : BitVec 32 := Scalar.muli v24 c1_i32_1884
  let v1742 : BitVec 32 := Scalar.addi c0_i32_1885 v1741
  v1742.toNat
def k0_dev50 (d0 : Dev nD) : Nat :=
  let c0_i32_1915 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1914 : BitVec 32 := 1#32
  let v1769 : BitVec 32 := Scalar.muli v13 c1_i32_1914
  let v1770 : BitVec 32 := Scalar.addi c0_i32_1915 v1769
  v1770.toNat
-- ==== ReferenceIdeal.lean ====
abbrev S16384x1024 : Shape := ⟨2, ![16384, 1024]⟩
abbrev S4x4096x1024 : Shape := ⟨3, ![4, 4096, 1024]⟩
abbrev S_ : Shape := ⟨0, ![]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096x1024, .f32⟩
  | .hbm, ⟨2, _⟩ => ⟨S_, .f32⟩
  | .hbm, ⟨3, _⟩ => ⟨S4096x1024, .f32⟩
  | .hbm, ⟨4, _⟩ => ⟨S4096x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Pieces.lean ====
module
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Memref
public import Idealize.ShloMosaic.Lib.MemrefSat
public import Idealize.ShloMosaic.Lib.Tactic
public import Idealize.ShloMosaic.Lib.Pointwise.Index

/-!
# The pieces the kernel moves

The kernel adds four blocks of 4096 × 1024 floats, one per device, and leaves the sum on every device.
The columns are cut in two halves: the left half travels upwards around the ring of four devices and
the right half downwards. Each half is cut in four chunks of 1024 rows, and each chunk in four pieces
of 256 rows. A transfer is numbered `j = 8 t + 2 p + d`: its hop `t < 6`, its piece `p < 4` and its
direction `d < 2`. Hops 0, 1, 2 add up the chunks; hops 3, 4, 5 hand the finished chunks around.
This module names the memory each transfer reads and writes, the values, and the semaphores.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI

variable {F : FTy → Type} [FloatOps F]

/-! ## The ring -/

set_option backward.proofsInPublic true in
/-- The device after. -/
def nxt (c : Dev nD) : Dev nD := ⟨(c.val + 1) % 4, Nat.mod_lt _ (by decide)⟩

set_option backward.proofsInPublic true in
/-- The device before. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

/-- The device transfer `j` goes to. -/
def dst (j : ℕ) (c : Dev nD) : Dev nD := if j % 2 = 0 then nxt c else prv c

/-- The device transfer `j` comes from. -/
def fro (j : ℕ) (c : Dev nD) : Dev nD := if j % 2 = 0 then prv c else nxt c

theorem dst_fro (j : ℕ) (c : Dev nD) : dst j (fro j c) = c := by
  unfold dst fro; split
  · exact nxt_prv c
  · exact prv_nxt c

theorem fro_dst (j : ℕ) (c : Dev nD) : fro j (dst j c) = c := by
  unfold dst fro; split
  · exact prv_nxt c
  · exact nxt_prv c

theorem dst_mod (j : ℕ) (c : Dev nD) : dst (j % 2) c = dst j c := by unfold dst; rw [Nat.mod_mod]
theorem fro_mod (j : ℕ) (c : Dev nD) : fro (j % 2) c = fro j c := by unfold fro; rw [Nat.mod_mod]
theorem dst_add (j : ℕ) (c : Dev nD) : dst (j + 8) c = dst j c := by
  rw [← dst_mod, ← dst_mod j]; congr 1; omega
theorem fro_add (j : ℕ) (c : Dev nD) : fro (j + 8) c = fro j c := by
  rw [← fro_mod, ← fro_mod j]; congr 1; omega

/-- The chunk of rows that device `c` handles at hop `j / 8` in direction `j % 2`. -/
def chunk (c : Dev nD) (j : ℕ) : ℕ := if j % 2 = 0 then (c.val + 12 - j / 8) % 4 else (c.val + j / 8) % 4

theorem chunk_lt (c : Dev nD) (j : ℕ) : chunk c j < 4 := by unfold chunk; split <;> omega

theorem chunk_step (c : Dev nD) (j : ℕ) (hj : j < 48) : chunk (fro j c) j = chunk c (j + 8) := by
  have hc := c.isLt
  have h2 : (j + 8) % 2 = j % 2 := by omega
  have h8 : (j + 8) / 8 = j / 8 + 1 := by omega
  unfold chunk fro
  rw [h2, h8]
  split
  · show ((c.val + 3) % 4 + 12 - j / 8) % 4 = _; omega
  · show ((c.val + 1) % 4 + j / 8) % 4 = _; omega

/-! ## Where the pieces lie -/

/-- Offset of piece `j` in the first staging block. -/
def stOff (j : ℕ) : Fin 2 → ℕ := ![256 * (j % 8 / 2), 512 * (j % 2)]
/-- Offset of piece `j` in the running sums. -/
def acOff (j : ℕ) : Fin 4 → ℕ := ![j % 2, (j / 8 + 1) % 2, 256 * (j % 8 / 2), 0]
/-- Offset at which transfer `j` of the first three hops lands. -/
def rsOff (j : ℕ) : Fin 4 → ℕ := ![j % 2, j / 8 % 3, 256 * (j % 8 / 2), 0]
/-- Offset of piece `j` of device `c` in a whole block of 4096 × 1024. -/
def ovOff (c : Dev nD) (j : ℕ) : Fin 2 → ℕ := ![1024 * chunk c j + 256 * (j % 8 / 2), 512 * (j % 2)]
/-- Offset of the rows that load `o` of device `c` copies. -/
def ldOff (c : Dev nD) (o : ℕ) : Fin 2 → ℕ := ![1024 * ((c.val + o) % 4), 0]
/-- Offset of the half chunk that output copy `k` of device `c` writes. -/
def coOff (c : Dev nD) (k : ℕ) : Fin 2 → ℕ := ![1024 * chunk c (24 + 8 * (k / 2) + k % 2), 512 * (k % 2)]

theorem stOff_inb (j : ℕ) : ∀ a, stOff j a + S256x512.size a ≤ S1024x1024.size a := by
  intro a; fin_cases a
  · show 256 * (j % 8 / 2) + 256 ≤ 1024; omega
  · show 512 * (j % 2) + 512 ≤ 1024; omega

theorem acOff_inb (j : ℕ) : ∀ a, acOff j a + S1x1x256x512.size a ≤ S2x2x1024x512.size a := by
  intro a; fin_cases a
  · show j % 2 + 1 ≤ 2; omega
  · show (j / 8 + 1) % 2 + 1 ≤ 2; omega
  · show 256 * (j % 8 / 2) + 256 ≤ 1024; omega
  · show 0 + 512 ≤ 512; omega

theorem rsOff_inb (j : ℕ) : ∀ a, rsOff j a + S1x1x256x512.size a ≤ S2x3x1024x512.size a := by
  intro a; fin_cases a
  · show j % 2 + 1 ≤ 2; omega
  · show j / 8 % 3 + 1 ≤ 3; omega
  · show 256 * (j % 8 / 2) + 256 ≤ 1024; omega
  · show 0 + 512 ≤ 512; omega

theorem ovOff_inb (c : Dev nD) (j : ℕ) : ∀ a, ovOff c j a + S256x512.size a ≤ S4096x1024.size a := by
  have h := chunk_lt c j
  intro a; fin_cases a
  · show 1024 * chunk c j + 256 * (j % 8 / 2) + 256 ≤ 4096; omega
  · show 512 * (j % 2) + 512 ≤ 1024; omega

theorem ldOff_inb (c : Dev nD) (o : ℕ) : ∀ a, ldOff c o a + S1024x1024.size a ≤ S4096x1024.size a := by
  intro a; fin_cases a
  · show 1024 * ((c.val + o) % 4) + 1024 ≤ 4096; omega
  · show 0 + 1024 ≤ 1024; omega

theorem coOff_inb (c : Dev nD) (k : ℕ) : ∀ a, coOff c k a + S1024x512.size a ≤ S4096x1024.size a := by
  have h := chunk_lt c (24 + 8 * (k / 2) + k % 2)
  intro a; fin_cases a
  · show 1024 * chunk c (24 + 8 * (k / 2) + k % 2) + 1024 ≤ 4096; omega
  · show 512 * (k % 2) + 512 ≤ 1024; omega

/-- The rectangle of piece `j` in the first staging block. -/
abbrev stR (j : ℕ) : Rect S1024x1024 := Rect.unit (s := S1024x1024) (stOff j) S256x512.size (stOff_inb j)
/-- The rectangle of piece `j` in the running sums. -/
abbrev acR (j : ℕ) : Rect S2x2x1024x512 := Rect.unit (s := S2x2x1024x512) (acOff j) S1x1x256x512.size (acOff_inb j)
/-- The rectangle in which transfer `j` of the first three hops lands. -/
abbrev rsR (j : ℕ) : Rect S2x3x1024x512 := Rect.unit (s := S2x3x1024x512) (rsOff j) S1x1x256x512.size (rsOff_inb j)
/-- The rectangle of piece `j` of device `c` in a whole block. -/
abbrev ovR (c : Dev nD) (j : ℕ) : Rect S4096x1024 := Rect.unit (s := S4096x1024) (ovOff c j) S256x512.size (ovOff_inb c j)
/-- The rectangle of load `o`. -/
abbrev ldR (c : Dev nD) (o : ℕ) : Rect S4096x1024 := Rect.unit (s := S4096x1024) (ldOff c o) S1024x1024.size (ldOff_inb c o)
/-- The rectangle of output copy `k`. -/
abbrev coR (c : Dev nD) (k : ℕ) : Rect S4096x1024 := Rect.unit (s := S4096x1024) (coOff c k) S1024x512.size (coOff_inb c k)

/-- Piece `j` of the first staging block. -/
abbrev stM (j : ℕ) : Memref sig .tc .vmem S256x512 .bf16 := (Memref.whole cc0_scratch1).slice (stR j) (fun _ => rfl)
/-- Piece `j` of the running sums. -/
abbrev acM (j : ℕ) : Memref sig .tc .vmem S256x512 .bf16 :=
  ((Memref.whole cc0_scratch2).slice (acR j) (fun _ => rfl)).squeeze S256x512 squeezes_S1x1x256x512_S256x512
/-- Where transfer `j` of the first three hops lands. -/
abbrev rsM (j : ℕ) : Memref sig .tc .vmem S256x512 .bf16 :=
  ((Memref.whole cc0_scratch3).slice (rsR j) (fun _ => rfl)).squeeze S256x512 squeezes_S1x1x256x512_S256x512
/-- Piece `j` of device `c` in the gathered block. -/
abbrev ovM (c : Dev nD) (j : ℕ) : Memref sig .tc .vmem S256x512 .bf16 := (Memref.whole cc0_scratch4).slice (ovR c j) (fun _ => rfl)
/-- The rows of load `o` in the argument. -/
abbrev agM (c : Dev nD) (o : ℕ) : Memref sig .tc .hbm S1024x1024 .f32 := (Memref.whole main_arg0).slice (ldR c o) (fun _ => rfl)
/-- The rows of load `o` in the device's copy of its argument. -/
abbrev xvM (c : Dev nD) (o : ℕ) : Memref sig .tc .vmem S1024x1024 .f32 := (Memref.whole cc0_scratch0).slice (ldR c o) (fun _ => rfl)
/-- The half chunk of output copy `k` in the gathered block. -/
abbrev clM (c : Dev nD) (k : ℕ) : Memref sig .tc .vmem S1024x512 .bf16 := (Memref.whole cc0_scratch4).slice (coR c k) (fun _ => rfl)
/-- The half chunk of output copy `k` in the result. -/
abbrev ouM (c : Dev nD) (k : ℕ) : Memref sig .tc .hbm S1024x512 .bf16 := (Memref.whole main_v1).slice (coR c k) (fun _ => rfl)

/-- What transfer `j` reads. -/
def srcM (c : Dev nD) (j : ℕ) : Memref sig .tc .vmem S256x512 .bf16 :=
  if j < 8 then stM j else if j < 24 then acM j else ovM c j

/-- Where the transfer `j` that device `c` receives lands. -/
def landM (c : Dev nD) (j : ℕ) : Memref sig .tc .vmem S256x512 .bf16 :=
  if j < 24 then rsM j else ovM c (j + 8)

/-! ## The semaphores -/

set_option backward.proofsInPublic true in
/-- The sender's semaphore of transfer `j`. -/
def sendSem (j : ℕ) : DmaSem sig :=
  ⟨(if j < 24 then 4 + (j % 2 * 3 + j / 8) * 4 + j % 8 / 2 else 52 + (j % 2 * 3 + (j / 8 - 3)) * 4 + j % 8 / 2) % 108,
    Nat.mod_lt _ (by decide)⟩

set_option backward.proofsInPublic true in
/-- The receiver's semaphore of transfer `j`. -/
def recvSem (j : ℕ) : DmaSem sig :=
  ⟨(if j < 24 then 28 + (j % 2 * 3 + j / 8) * 4 + j % 8 / 2 else 76 + (j % 2 * 3 + (j / 8 - 3)) * 4 + j % 8 / 2) % 108,
    Nat.mod_lt _ (by decide)⟩

set_option backward.proofsInPublic true in
/-- The semaphore of load `o`. -/
def loadSem (o : ℕ) : DmaSem sig := ⟨o % 4, lt_of_lt_of_le (Nat.mod_lt _ (by decide)) (by decide)⟩

set_option backward.proofsInPublic true in
/-- The semaphore of output copy `k`. -/
def outSem (k : ℕ) : DmaSem sig := ⟨(100 + 4 * (k % 2) + (k / 2 + 3) % 4) % 108, Nat.mod_lt _ (by decide)⟩

/-- The start semaphore. -/
abbrev barS : Sem sig := barrier0

/-- What a DMA semaphore is for. -/
inductive Use where
  | load (o : ℕ) | send (j : ℕ) | recv (j : ℕ) | out (k : ℕ)
  deriving DecidableEq

/-- The transfer of the first three hops, or of the last three, at position `x` of a semaphore array. -/
def jOf (x : ℕ) : ℕ := 8 * ((x / 4) % 3) + 2 * (x % 4) + x / 12

/-- What the DMA semaphore with number `n` is for. -/
def useOf (n : ℕ) : Use :=
  if n < 4 then .load n else if n < 28 then .send (jOf (n - 4)) else if n < 52 then .recv (jOf (n - 28))
  else if n < 76 then .send (24 + jOf (n - 52)) else if n < 100 then .recv (24 + jOf (n - 76))
  else .out (2 * ((n + 1) % 4) + (n - 100) / 4)

theorem useOf_load : ∀ o : Fin 4, useOf (loadSem o.val).val = .load o.val := by decide +kernel
theorem useOf_send : ∀ j : Fin 48, useOf (sendSem j.val).val = .send j.val := by decide +kernel
theorem useOf_recv : ∀ j : Fin 48, useOf (recvSem j.val).val = .recv j.val := by decide +kernel
theorem useOf_out : ∀ k : Fin 8, useOf (outSem k.val).val = .out k.val := by decide +kernel

/-! ## The values -/

variable (m : (ℓ : Loc nD τ sig) → Buf (Elt F) ℓ)

/-- Device `c`'s argument. -/
abbrev X (c : Dev nD) : S4096x1024.Idx → Elt F .f32 := m ((c : Thread nD τ).loc main_arg0)

/-- The rows of load `o`. -/
def ldV (c : Dev nD) (o : ℕ) : S1024x1024.Idx → Elt F .f32 := fun y => X m c ((ldR c o).emb y)

/-- Piece `j` of device `c`'s argument. -/
def xp (c : Dev nD) (j : ℕ) : FVec F S256x512 .f32 := fun y => X m c ((ovR c j).emb y)

/-- What device `c` holds of lane `i` (piece and direction) at hop `t`. -/
def Sv (i : ℕ) : ℕ → Dev nD → FVec F S256x512 .bf16
  | 0, c => truncf .bf16 (xp m c i) bitsLt_bf16_f32
  | t + 1, c => if t < 3 then addf (Sv i t (fro i c)) (truncf .bf16 (xp m c (8 * (t + 1) + i)) bitsLt_bf16_f32)
      else Sv i t (fro i c)

/-- The value of what transfer `j` reads on device `c`. -/
def srcV (c : Dev nD) (j : ℕ) : FVec F S256x512 .bf16 := Sv m (j % 8) (j / 8) c

/-- The value that lands on device `c` by transfer `j`. -/
abbrev landV (c : Dev nD) (j : ℕ) : FVec F S256x512 .bf16 := srcV m (fro j c) j

theorem srcV_first (c : Dev nD) (j : ℕ) (h : j < 8) : srcV m c j = truncf .bf16 (xp m c j) bitsLt_bf16_f32 := by
  unfold srcV; rw [Nat.mod_eq_of_lt h, Nat.div_eq_of_lt h]; rfl

theorem srcV_add (c : Dev nD) (j : ℕ) (h : j < 24) :
    srcV m c (j + 8) = addf (landV m c j) (truncf .bf16 (xp m c (j + 8)) bitsLt_bf16_f32) := by
  unfold landV srcV
  have h1 : (j + 8) % 8 = j % 8 := by omega
  have h2 : (j + 8) / 8 = j / 8 + 1 := by omega
  have h3 : 8 * (j / 8 + 1) + j % 8 = j + 8 := by omega
  have h4 : fro (j % 8) c = fro j c := by rw [← fro_mod, ← fro_mod j]; congr 1; omega
  rw [h1, h2]
  show (if j / 8 < 3 then _ else _) = _
  rw [if_pos (by omega), h3, h4]

theorem srcV_pass (c : Dev nD) (j : ℕ) (h : 24 ≤ j) : srcV m c (j + 8) = landV m c j := by
  unfold landV srcV
  have h1 : (j + 8) % 8 = j % 8 := by omega
  have h2 : (j + 8) / 8 = j / 8 + 1 := by omega
  have h4 : fro (j % 8) c = fro j c := by rw [← fro_mod, ← fro_mod j]; congr 1; omega
  rw [h1, h2]
  show (if j / 8 < 3 then _ else _) = _
  rw [if_neg (by omega), h4]

/-! ## The result -/

set_option backward.proofsInPublic true in
/-- The device that finishes the chunk `k` of rows in direction `d`. -/
def home (d k : ℕ) : Dev nD := if d % 2 = 0 then ⟨(k + 3) % 4, Nat.mod_lt _ (by decide)⟩ else ⟨(k + 1) % 4, Nat.mod_lt _ (by decide)⟩

set_option backward.proofsInPublic true in
/-- The place within a piece. -/
def sub (i : S4096x1024.Idx) : S256x512.Idx :=
  ix2 (n0 := 256) (n1 := 512) ⟨(i 0).val % 256, Nat.mod_lt _ (by decide)⟩ ⟨(i 1).val % 512, Nat.mod_lt _ (by decide)⟩

/-- The result on every device: at each row and column what the device that finished it computed. -/
def VV : S4096x1024.Idx → Elt F .bf16 := fun i =>
  Sv m (2 * ((i 0).val % 1024 / 256) + (i 1).val / 512) 3 (home ((i 1).val / 512) ((i 0).val / 1024)) (sub i)

theorem Sv_home (i t : ℕ) (c : Dev nD) : Sv m i (3 + t) c = Sv m i 3 ((fro i)^[t] c) := by
  induction t generalizing c with
  | zero => rfl
  | succ t ih =>
    show (if 3 + t < 3 then _ else Sv m i (3 + t) (fro i c)) = _
    rw [if_neg (by omega), ih]; rfl

theorem home_eq : ∀ (c : Dev nD) (t : Fin 4) (i : Fin 8),
    home (i.val % 2) (chunk c (24 + 8 * t.val + i.val)) = (fro i.val)^[t.val] c := by decide +kernel

/-- A piece of the gathered block has the result's values. -/
theorem srcV_result (c : Dev nD) (j : ℕ) (h : 24 ≤ j) (h' : j < 56) : srcV m c j = fun y => VV m ((ovR c j).emb y) := by
  funext y
  have hj : j = 24 + 8 * (j / 8 - 3) + j % 8 := by omega
  have ht : j / 8 - 3 < 4 := by omega
  have hk := chunk_lt c j
  have hy0 : (y 0).val < 256 := (y 0).isLt
  have hy1 : (y 1).val < 512 := (y 1).isLt
  have e0 : (((ovR c j).emb y) 0).val = 1024 * chunk c j + 256 * (j % 8 / 2) + (y 0).val := by
    rw [Rect.emb_apply]; show _ + 1 * _ = _; rw [Nat.one_mul]; rfl
  have e1 : (((ovR c j).emb y) 1).val = 512 * (j % 2) + (y 1).val := by
    rw [Rect.emb_apply]; show _ + 1 * _ = _; rw [Nat.one_mul]; rfl
  have hs : sub ((ovR c j).emb y) = y := by
    funext a; fin_cases a
    · refine Fin.ext ?_
      show (((ovR c j).emb y) 0).val % 256 = (y 0).val
      rw [e0]; omega
    · refine Fin.ext ?_
      show (((ovR c j).emb y) 1).val % 512 = (y 1).val
      rw [e1]; omega
  have hi : 2 * ((1024 * chunk c j + 256 * (j % 8 / 2) + (y 0).val) % 1024 / 256) + (512 * (j % 2) + (y 1).val) / 512 = j % 8 := by omega
  have hd : (512 * (j % 2) + (y 1).val) / 512 = j % 8 % 2 := by omega
  have hc : (1024 * chunk c j + 256 * (j % 8 / 2) + (y 0).val) / 1024 = chunk c j := by omega
  have hh := home_eq c ⟨j / 8 - 3, ht⟩ ⟨j % 8, Nat.mod_lt _ (by decide)⟩
  simp only at hh
  rw [← hj] at hh
  unfold VV srcV
  rw [hs, e0, e1, hi, hd, hc, hh, ← Sv_home]
  congr 2; omega

end RingSum
-- ==== Proof.Wholes.lean ====
module
public import proofs.«01_k».proof.Proof.Pieces

/-!
# Buffers in pieces

Each buffer, owned whole, is its pieces owned one by one, and back. The pieces are rectangles that do not
meet and cover the buffer; both facts are arithmetic on their offsets.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds' part of the ghost state. -/
abbrev UB := URounds (GSem nD τ sig) Bool
/-- The ghost state: the pipeline's part and the rounds' part. -/
abbrev UU := UR sig nD τ × UB

local notation "𝕄" => MT nD τ sig Unit (Elt F) ℕ UU ℕ

/-- Device `c` owns a memref at share `q` with contents `V`. -/
abbrev own {sp : Space} {sh : Shape} {e : EltTy} (c : Dev nD) (M : Memref sig .tc sp sh e) (q : PosShare TreeShare)
    (V : sh.Idx → Elt F e) : sProp 𝕄 := owns (c : Thread nD τ) M q V

/-- Device `c` owns a memref whole, its contents unknown. -/
abbrev raw {sp : Space} {sh : Shape} {e : EltTy} (c : Dev nD) (M : Memref sig .tc sp sh e) : sProp 𝕄 :=
  ownsSat (c : Thread nD τ) M fullShare (fun _ => True)

theorem raw_intro {sp : Space} {sh : Shape} {e : EltTy} (c : Dev nD) (M : Memref sig .tc sp sh e) (V : sh.Idx → Elt F e) :
    (own c M fullShare V : sProp 𝕄) ⊢ raw c M := ownsSat_intro _ _ _ trivial

theorem raw_elim {sp : Space} {sh : Shape} {e : EltTy} (c : Dev nD) (M : Memref sig .tc sp sh e) :
    (raw c M : sProp 𝕄) ⊢ iprop(∃ V, own c M fullShare V) := ownsSat_any _ _ _

/-- A squeezed memref owned at cast contents is the memref owned at the contents. -/
theorem own_squeeze {sp : Space} {sh sh' : Shape} {e : EltTy} (c : Dev nD) (M : Memref sig .tc sp sh e) (h : sh.Squeezes sh')
    (q : PosShare TreeShare) (V : sh.Idx → Elt F e) (hc : sh.ShapeCasts sh') :
    (own c (M.squeeze sh' h) q (shapeCast sh' V hc) : sProp 𝕄) = own c M q V := by
  have hread (f : M.view.ty.Contents (Elt F)) :
      (M.squeeze sh' h).view.read (Elt F) f = shapeCast sh' (M.view.read (Elt F) f) hc := rfl
  have hiff (f : M.view.ty.Contents (Elt F)) :
      (M.squeeze sh' h).view.read (Elt F) f = shapeCast sh' V hc ↔ M.view.read (Elt F) f = V := by
    rw [hread]
    constructor
    · intro he; funext i
      have := congrFun he ((Shape.reshapeEquiv hc).symm i)
      unfold shapeCast at this
      rwa [Equiv.apply_symm_apply] at this
    · intro he; rw [he]
  have hset : (M.squeeze sh' h).view.set = M.view.set := M.view.set_reshape h.numel_eq
  unfold own owns
  simp only [hiff, hset]

/-- A squeezed memref owned, its contents unknown, is the memref so owned. -/
theorem raw_squeeze {sp : Space} {sh sh' : Shape} {e : EltTy} (c : Dev nD) (M : Memref sig .tc sp sh e) (h : sh.Squeezes sh') :
    (raw c (M.squeeze sh' h) : sProp 𝕄) = raw c M := by
  have hset : (M.squeeze sh' h).view.set = M.view.set := M.view.set_reshape h.numel_eq
  unfold raw ownsSat
  rw [hset]

section Families

variable {sp : Space} {sh : Shape} {e : EltTy} (c : Dev nD) (M : Memref sig .tc sp sh e)
variable {T : Type} [Fintype T] [DecidableEq T] (r : T → Rect sh) (hr : ∀ t a, (r t).stride a = 1)
  (hd : ∀ t t', t ≠ t' → Disjoint (r t).set (r t').set)
  (hcov : (Finset.univ : Finset T).biUnion (fun t => (r t).set) = Finset.univ)
include hd hcov

/-- A memref owned, its contents unknown, is each slice of a disjoint covering family so owned, -/
theorem raw_rects : (raw c M : sProp 𝕄) ⊢ bigSep Finset.univ fun t => raw c (M.slice (r t) (hr t)) :=
  (ownsSat_mono _ _ _ (fun X _ t => trivial)).trans
    (ownsSat_rects (c : Thread nD τ) M fullShare r hr hd hcov (fun _ _ => True))

/-- and back. -/
theorem raw_of_rects : (bigSep Finset.univ fun t => raw c (M.slice (r t) (hr t))) ⊢ (raw c M : sProp 𝕄) :=
  (ownsSat_of_rects (c : Thread nD τ) M fullShare r hr hd hcov (fun _ _ => True)).trans
    (ownsSat_mono _ _ _ (fun X _ => trivial))

end Families

/-! ## The families do not meet, and cover -/

/-- Two rectangles of unit stride with the same sizes do not meet if on some axis their offsets are far apart. -/
theorem apart {s : Shape} {off off' size : Fin s.rank → ℕ} {inb inb'} (a : Fin s.rank)
    (h : off a + size a ≤ off' a ∨ off' a + size a ≤ off a) :
    Disjoint (Rect.unit (s := s) off size inb).set (Rect.unit (s := s) off' size inb').set := Rect.unit_disjoint a h

theorem cover {s : Shape} {T : Type} [Fintype T] [DecidableEq T] (r : T → Rect s) (h : ∀ i, ∃ t, i ∈ (r t).set) :
    (Finset.univ : Finset T).biUnion (fun t => (r t).set) = Finset.univ :=
  Finset.eq_univ_of_forall fun i => let ⟨t, ht⟩ := h i; Finset.mem_biUnion.mpr ⟨t, Finset.mem_univ _, ht⟩

theorem st_apart (i k : Fin 8) (h : i ≠ k) : Disjoint (stR i.val).set (stR k.val).set := by
  have hv : i.val ≠ k.val := fun e => h (Fin.ext e)
  have := i.isLt; have := k.isLt
  by_cases h2 : i.val % 2 = k.val % 2
  · refine apart 0 ?_
    show 256 * (i.val % 8 / 2) + 256 ≤ 256 * (k.val % 8 / 2) ∨ 256 * (k.val % 8 / 2) + 256 ≤ 256 * (i.val % 8 / 2)
    omega
  · refine apart 1 ?_
    show 512 * (i.val % 2) + 512 ≤ 512 * (k.val % 2) ∨ 512 * (k.val % 2) + 512 ≤ 512 * (i.val % 2)
    omega

theorem st_cover : (Finset.univ : Finset (Fin 8)).biUnion (fun t => (stR t.val).set) = Finset.univ := by
  refine cover (fun t : Fin 8 => stR t.val) fun x => ?_
  have h0 : (x 0).val < 1024 := (x 0).isLt
  have h1 : (x 1).val < 1024 := (x 1).isLt
  refine ⟨⟨2 * ((x 0).val / 256) + (x 1).val / 512, by omega⟩, Rect.mem_set_unit.mpr fun a => ?_⟩
  fin_cases a
  · show 256 * ((2 * ((x 0).val / 256) + (x 1).val / 512) % 8 / 2) ≤ (x 0).val
      ∧ (x 0).val < 256 * ((2 * ((x 0).val / 256) + (x 1).val / 512) % 8 / 2) + 256
    omega
  · show 512 * ((2 * ((x 0).val / 256) + (x 1).val / 512) % 2) ≤ (x 1).val
      ∧ (x 1).val < 512 * ((2 * ((x 0).val / 256) + (x 1).val / 512) % 2) + 512
    omega

theorem ac_apart (i k : Fin 16) (h : i ≠ k) : Disjoint (acR (8 + i.val)).set (acR (8 + k.val)).set := by
  have hv : i.val ≠ k.val := fun e => h (Fin.ext e)
  have := i.isLt; have := k.isLt
  by_cases h2 : i.val % 2 = k.val % 2
  · by_cases h3 : i.val / 8 = k.val / 8
    · refine apart 2 ?_
      show 256 * ((8 + i.val) % 8 / 2) + 256 ≤ 256 * ((8 + k.val) % 8 / 2) ∨ 256 * ((8 + k.val) % 8 / 2) + 256 ≤ 256 * ((8 + i.val) % 8 / 2)
      omega
    · refine apart 1 ?_
      show ((8 + i.val) / 8 + 1) % 2 + 1 ≤ ((8 + k.val) / 8 + 1) % 2 ∨ ((8 + k.val) / 8 + 1) % 2 + 1 ≤ ((8 + i.val) / 8 + 1) % 2
      omega
  · refine apart 0 ?_
    show (8 + i.val) % 2 + 1 ≤ (8 + k.val) % 2 ∨ (8 + k.val) % 2 + 1 ≤ (8 + i.val) % 2
    omega

theorem ac_cover : (Finset.univ : Finset (Fin 16)).biUnion (fun t => (acR (8 + t.val)).set) = Finset.univ := by
  refine cover (fun t : Fin 16 => acR (8 + t.val)) fun x => ?_
  have h0 : (x 0).val < 2 := (x 0).isLt
  have h1 : (x 1).val < 2 := (x 1).isLt
  have h2 : (x 2).val < 1024 := (x 2).isLt
  have h3 : (x 3).val < 512 := (x 3).isLt
  refine ⟨⟨8 * (x 1).val + 2 * ((x 2).val / 256) + (x 0).val, by omega⟩, Rect.mem_set_unit.mpr fun a => ?_⟩
  fin_cases a
  · show (8 + (8 * (x 1).val + 2 * ((x 2).val / 256) + (x 0).val)) % 2 ≤ (x 0).val
      ∧ (x 0).val < (8 + (8 * (x 1).val + 2 * ((x 2).val / 256) + (x 0).val)) % 2 + 1
    omega
  · show ((8 + (8 * (x 1).val + 2 * ((x 2).val / 256) + (x 0).val)) / 8 + 1) % 2 ≤ (x 1).val
      ∧ (x 1).val < ((8 + (8 * (x 1).val + 2 * ((x 2).val / 256) + (x 0).val)) / 8 + 1) % 2 + 1
    omega
  · show 256 * ((8 + (8 * (x 1).val + 2 * ((x 2).val / 256) + (x 0).val)) % 8 / 2) ≤ (x 2).val
      ∧ (x 2).val < 256 * ((8 + (8 * (x 1).val + 2 * ((x 2).val / 256) + (x 0).val)) % 8 / 2) + 256
    omega
  · show 0 ≤ (x 3).val ∧ (x 3).val < 0 + 512
    omega

theorem rs_apart (i k : Fin 24) (h : i ≠ k) : Disjoint (rsR i.val).set (rsR k.val).set := by
  have hv : i.val ≠ k.val := fun e => h (Fin.ext e)
  have := i.isLt; have := k.isLt
  by_cases h2 : i.val % 2 = k.val % 2
  · by_cases h3 : i.val / 8 = k.val / 8
    · refine apart 2 ?_
      show 256 * (i.val % 8 / 2) + 256 ≤ 256 * (k.val % 8 / 2) ∨ 256 * (k.val % 8 / 2) + 256 ≤ 256 * (i.val % 8 / 2)
      omega
    · refine apart 1 ?_
      show i.val / 8 % 3 + 1 ≤ k.val / 8 % 3 ∨ k.val / 8 % 3 + 1 ≤ i.val / 8 % 3
      omega
  · refine apart 0 ?_
    show i.val % 2 + 1 ≤ k.val % 2 ∨ k.val % 2 + 1 ≤ i.val % 2
    omega

theorem rs_cover : (Finset.univ : Finset (Fin 24)).biUnion (fun t => (rsR t.val).set) = Finset.univ := by
  refine cover (fun t : Fin 24 => rsR t.val) fun x => ?_
  have h0 : (x 0).val < 2 := (x 0).isLt
  have h1 : (x 1).val < 3 := (x 1).isLt
  have h2 : (x 2).val < 1024 := (x 2).isLt
  have h3 : (x 3).val < 512 := (x 3).isLt
  refine ⟨⟨8 * (x 1).val + 2 * ((x 2).val / 256) + (x 0).val, by omega⟩, Rect.mem_set_unit.mpr fun a => ?_⟩
  fin_cases a
  · show (8 * (x 1).val + 2 * ((x 2).val / 256) + (x 0).val) % 2 ≤ (x 0).val
      ∧ (x 0).val < (8 * (x 1).val + 2 * ((x 2).val / 256) + (x 0).val) % 2 + 1
    omega
  · show (8 * (x 1).val + 2 * ((x 2).val / 256) + (x 0).val) / 8 % 3 ≤ (x 1).val
      ∧ (x 1).val < (8 * (x 1).val + 2 * ((x 2).val / 256) + (x 0).val) / 8 % 3 + 1
    omega
  · show 256 * ((8 * (x 1).val + 2 * ((x 2).val / 256) + (x 0).val) % 8 / 2) ≤ (x 2).val
      ∧ (x 2).val < 256 * ((8 * (x 1).val + 2 * ((x 2).val / 256) + (x 0).val) % 8 / 2) + 256
    omega
  · show 0 ≤ (x 3).val ∧ (x 3).val < 0 + 512
    omega

/-- The hop at which a device holds chunk `k` in direction `d`. -/
def hopOf (c : Dev nD) (d k : ℕ) : ℕ := if d = 0 then (c.val + 5 - k) % 4 else (k + 5 - c.val) % 4

theorem hopOf_lt (c : Dev nD) (d k : ℕ) : hopOf c d k < 4 := by unfold hopOf; split <;> omega

theorem chunk_hopOf : ∀ (c : Dev nD) (d : Fin 2) (k p : Fin 4),
    chunk c (24 + (8 * hopOf c d.val k.val + 2 * p.val + d.val)) = k.val := by decide +kernel

theorem chunk_inj (c : Dev nD) (j j' : ℕ) (h2 : j % 2 = j' % 2) (h : j / 8 % 4 ≠ j' / 8 % 4) (hj : j < 56) (hj' : j' < 56) :
    chunk c j ≠ chunk c j' := by
  have hc : c.val < 4 := c.isLt
  unfold chunk; rw [h2]; split <;> omega

theorem ov_apart (c : Dev nD) (i k : Fin 32) (h : i ≠ k) : Disjoint (ovR c (24 + i.val)).set (ovR c (24 + k.val)).set := by
  have hv : i.val ≠ k.val := fun e => h (Fin.ext e)
  have := i.isLt; have := k.isLt
  by_cases h2 : i.val % 2 = k.val % 2
  · by_cases h3 : i.val / 8 = k.val / 8
    · have hc : chunk c (24 + i.val) = chunk c (24 + k.val) := by
        unfold chunk; rw [show (24 + i.val) % 2 = (24 + k.val) % 2 by omega, show (24 + i.val) / 8 = (24 + k.val) / 8 by omega]
      refine apart 0 ?_
      show 1024 * chunk c (24 + i.val) + 256 * ((24 + i.val) % 8 / 2) + 256 ≤ 1024 * chunk c (24 + k.val) + 256 * ((24 + k.val) % 8 / 2)
        ∨ 1024 * chunk c (24 + k.val) + 256 * ((24 + k.val) % 8 / 2) + 256 ≤ 1024 * chunk c (24 + i.val) + 256 * ((24 + i.val) % 8 / 2)
      rw [hc]; omega
    · have hc := chunk_inj c (24 + i.val) (24 + k.val) (by omega) (by omega) (by omega) (by omega)
      refine apart 0 ?_
      show 1024 * chunk c (24 + i.val) + 256 * ((24 + i.val) % 8 / 2) + 256 ≤ 1024 * chunk c (24 + k.val) + 256 * ((24 + k.val) % 8 / 2)
        ∨ 1024 * chunk c (24 + k.val) + 256 * ((24 + k.val) % 8 / 2) + 256 ≤ 1024 * chunk c (24 + i.val) + 256 * ((24 + i.val) % 8 / 2)
      omega
  · refine apart 1 ?_
    show 512 * ((24 + i.val) % 2) + 512 ≤ 512 * ((24 + k.val) % 2) ∨ 512 * ((24 + k.val) % 2) + 512 ≤ 512 * ((24 + i.val) % 2)
    omega

theorem ov_cover (c : Dev nD) : (Finset.univ : Finset (Fin 32)).biUnion (fun t => (ovR c (24 + t.val)).set) = Finset.univ := by
  refine cover (fun t : Fin 32 => ovR c (24 + t.val)) fun x => ?_
  have h0 : (x 0).val < 4096 := (x 0).isLt
  have h1 : (x 1).val < 1024 := (x 1).isLt
  have hh := hopOf_lt c ((x 1).val / 512) ((x 0).val / 1024)
  have hk := chunk_hopOf c ⟨(x 1).val / 512, by omega⟩ ⟨(x 0).val / 1024, by omega⟩ ⟨(x 0).val % 1024 / 256, by omega⟩
  simp only at hk
  generalize hopOf c ((x 1).val / 512) ((x 0).val / 1024) = t at hh hk
  refine ⟨⟨8 * t + 2 * ((x 0).val % 1024 / 256) + (x 1).val / 512, by omega⟩, Rect.mem_set_unit.mpr fun a => ?_⟩
  fin_cases a
  · show 1024 * chunk c (24 + (8 * t + 2 * ((x 0).val % 1024 / 256) + (x 1).val / 512)) + 256 * ((24 + (8 * t + 2 * ((x 0).val % 1024 / 256) + (x 1).val / 512)) % 8 / 2) ≤ (x 0).val
      ∧ (x 0).val < 1024 * chunk c (24 + (8 * t + 2 * ((x 0).val % 1024 / 256) + (x 1).val / 512)) + 256 * ((24 + (8 * t + 2 * ((x 0).val % 1024 / 256) + (x 1).val / 512)) % 8 / 2) + 256
    rw [hk]; omega
  · show 512 * ((24 + (8 * t + 2 * ((x 0).val % 1024 / 256) + (x 1).val / 512)) % 2) ≤ (x 1).val
      ∧ (x 1).val < 512 * ((24 + (8 * t + 2 * ((x 0).val % 1024 / 256) + (x 1).val / 512)) % 2) + 512
    omega

theorem ld_apart (c : Dev nD) (i k : Fin 4) (h : i ≠ k) : Disjoint (ldR c i.val).set (ldR c k.val).set := by
  have hv : i.val ≠ k.val := fun e => h (Fin.ext e)
  have := i.isLt; have := k.isLt; have := c.isLt
  refine apart 0 ?_
  show 1024 * ((c.val + i.val) % 4) + 1024 ≤ 1024 * ((c.val + k.val) % 4) ∨ 1024 * ((c.val + k.val) % 4) + 1024 ≤ 1024 * ((c.val + i.val) % 4)
  omega

theorem ld_cover (c : Dev nD) : (Finset.univ : Finset (Fin 4)).biUnion (fun t => (ldR c t.val).set) = Finset.univ := by
  refine cover (fun t : Fin 4 => ldR c t.val) fun x => ?_
  have h0 : (x 0).val < 4096 := (x 0).isLt
  have h1 : (x 1).val < 1024 := (x 1).isLt
  have hc : c.val < 4 := c.isLt
  refine ⟨⟨((x 0).val / 1024 + 4 - c.val) % 4, by omega⟩, Rect.mem_set_unit.mpr fun a => ?_⟩
  fin_cases a
  · show 1024 * ((c.val + ((x 0).val / 1024 + 4 - c.val) % 4) % 4) ≤ (x 0).val
      ∧ (x 0).val < 1024 * ((c.val + ((x 0).val / 1024 + 4 - c.val) % 4) % 4) + 1024
    omega
  · show 0 ≤ (x 1).val ∧ (x 1).val < 0 + 1024
    omega

theorem co_apart (c : Dev nD) (i k : Fin 8) (h : i ≠ k) : Disjoint (coR c i.val).set (coR c k.val).set := by
  have hv : i.val ≠ k.val := fun e => h (Fin.ext e)
  have := i.isLt; have := k.isLt
  by_cases h2 : i.val % 2 = k.val % 2
  · have hc := chunk_inj c (24 + 8 * (i.val / 2) + i.val % 2) (24 + 8 * (k.val / 2) + k.val % 2) (by omega) (by omega) (by omega) (by omega)
    refine apart 0 ?_
    show 1024 * chunk c (24 + 8 * (i.val / 2) + i.val % 2) + 1024 ≤ 1024 * chunk c (24 + 8 * (k.val / 2) + k.val % 2)
      ∨ 1024 * chunk c (24 + 8 * (k.val / 2) + k.val % 2) + 1024 ≤ 1024 * chunk c (24 + 8 * (i.val / 2) + i.val % 2)
    omega
  · refine apart 1 ?_
    show 512 * (i.val % 2) + 512 ≤ 512 * (k.val % 2) ∨ 512 * (k.val % 2) + 512 ≤ 512 * (i.val % 2)
    omega

theorem co_cover (c : Dev nD) : (Finset.univ : Finset (Fin 8)).biUnion (fun t => (coR c t.val).set) = Finset.univ := by
  refine cover (fun t : Fin 8 => coR c t.val) fun x => ?_
  have h0 : (x 0).val < 4096 := (x 0).isLt
  have h1 : (x 1).val < 1024 := (x 1).isLt
  have hh := hopOf_lt c ((x 1).val / 512) ((x 0).val / 1024)
  have hk := chunk_hopOf c ⟨(x 1).val / 512, by omega⟩ ⟨(x 0).val / 1024, by omega⟩ 0
  simp only at hk
  generalize hopOf c ((x 1).val / 512) ((x 0).val / 1024) = t at hh hk
  have he : 24 + 8 * ((2 * t + (x 1).val / 512) / 2) + (2 * t + (x 1).val / 512) % 2 = 24 + (8 * t + 2 * (0 : Fin 4).val + (x 1).val / 512) := by
    show _ = 24 + (8 * t + 2 * 0 + (x 1).val / 512)
    omega
  refine ⟨⟨2 * t + (x 1).val / 512, by omega⟩, Rect.mem_set_unit.mpr fun a => ?_⟩
  fin_cases a
  · show 1024 * chunk c (24 + 8 * ((2 * t + (x 1).val / 512) / 2) + (2 * t + (x 1).val / 512) % 2) ≤ (x 0).val
      ∧ (x 0).val < 1024 * chunk c (24 + 8 * ((2 * t + (x 1).val / 512) / 2) + (2 * t + (x 1).val / 512) % 2) + 1024
    rw [he, hk]; omega
  · show 512 * ((2 * t + (x 1).val / 512) % 2) ≤ (x 1).val
      ∧ (x 1).val < 512 * ((2 * t + (x 1).val / 512) % 2) + 512
    omega

/-! ## The half chunks of the gathered block in pieces -/

/-- The piece `p` of half chunk `k` of the gathered block. -/
def colPiece (k p : ℕ) : ℕ := 24 + 8 * (k / 2) + 2 * p + k % 2

theorem chunk_colPiece (c : Dev nD) (k p : ℕ) (hp : p < 4) : chunk c (colPiece k p) = chunk c (24 + 8 * (k / 2) + k % 2) := by
  unfold chunk colPiece
  rw [show (24 + 8 * (k / 2) + 2 * p + k % 2) % 2 = (24 + 8 * (k / 2) + k % 2) % 2 by omega,
    show (24 + 8 * (k / 2) + 2 * p + k % 2) / 8 = (24 + 8 * (k / 2) + k % 2) / 8 by omega]

theorem col_set (c : Dev nD) (k : ℕ) :
    (coR c k).set = (Finset.univ : Finset (Fin 4)).biUnion fun p => (ovR c (colPiece k p.val)).set := by
  ext x
  have h0 : (x 0).val < 4096 := (x 0).isLt
  have hk := chunk_lt c (24 + 8 * (k / 2) + k % 2)
  rw [Finset.mem_biUnion, Rect.mem_set_unit]
  constructor
  · intro h
    have ha : 1024 * chunk c (24 + 8 * (k / 2) + k % 2) ≤ (x 0).val ∧ (x 0).val < 1024 * chunk c (24 + 8 * (k / 2) + k % 2) + 1024 := h 0
    have hb : 512 * (k % 2) ≤ (x 1).val ∧ (x 1).val < 512 * (k % 2) + 512 := h 1
    refine ⟨⟨(x 0).val % 1024 / 256, by omega⟩, Finset.mem_univ _, Rect.mem_set_unit.mpr fun a => ?_⟩
    fin_cases a
    · show 1024 * chunk c (colPiece k ((x 0).val % 1024 / 256)) + 256 * (colPiece k ((x 0).val % 1024 / 256) % 8 / 2) ≤ (x 0).val
        ∧ (x 0).val < 1024 * chunk c (colPiece k ((x 0).val % 1024 / 256)) + 256 * (colPiece k ((x 0).val % 1024 / 256) % 8 / 2) + 256
      rw [chunk_colPiece c k _ (by omega)]; unfold colPiece; omega
    · show 512 * (colPiece k ((x 0).val % 1024 / 256) % 2) ≤ (x 1).val
        ∧ (x 1).val < 512 * (colPiece k ((x 0).val % 1024 / 256) % 2) + 512
      unfold colPiece; omega
  · rintro ⟨p, -, h⟩
    rw [Rect.mem_set_unit] at h
    have hp := p.isLt
    have ha : 1024 * chunk c (colPiece k p.val) + 256 * (colPiece k p.val % 8 / 2) ≤ (x 0).val
      ∧ (x 0).val < 1024 * chunk c (colPiece k p.val) + 256 * (colPiece k p.val % 8 / 2) + 256 := h 0
    have hb : 512 * (colPiece k p.val % 2) ≤ (x 1).val ∧ (x 1).val < 512 * (colPiece k p.val % 2) + 512 := h 1
    rw [chunk_colPiece c k _ (by omega)] at ha
    unfold colPiece at ha hb
    intro a; fin_cases a
    · show 1024 * chunk c (24 + 8 * (k / 2) + k % 2) ≤ (x 0).val ∧ (x 0).val < 1024 * chunk c (24 + 8 * (k / 2) + k % 2) + 1024
      omega
    · show 512 * (k % 2) ≤ (x 1).val ∧ (x 1).val < 512 * (k % 2) + 512
      omega

theorem col_apart (c : Dev nD) (k : ℕ) (p q : Fin 4) (h : p ≠ q) :
    Disjoint (ovR c (colPiece k p.val)).set (ovR c (colPiece k q.val)).set := by
  have hv : p.val ≠ q.val := fun e => h (Fin.ext e)
  have hp := p.isLt; have hq := q.isLt
  refine apart 0 ?_
  show 1024 * chunk c (colPiece k p.val) + 256 * (colPiece k p.val % 8 / 2) + 256 ≤ 1024 * chunk c (colPiece k q.val) + 256 * (colPiece k q.val % 8 / 2)
    ∨ 1024 * chunk c (colPiece k q.val) + 256 * (colPiece k q.val % 8 / 2) + 256 ≤ 1024 * chunk c (colPiece k p.val) + 256 * (colPiece k p.val % 8 / 2)
  rw [chunk_colPiece c k _ hp, chunk_colPiece c k _ hq]; unfold colPiece; omega

/-- A half chunk of the gathered block owned at its part of `V` is its four pieces owned at theirs. -/
theorem col_own (c : Dev nD) (k : ℕ) (q : PosShare TreeShare) (V : S4096x1024.Idx → Elt F .bf16) :
    (own c (clM c k) q (fun y => V ((coR c k).emb y)) : sProp 𝕄)
      = bigSep Finset.univ fun p : Fin 4 => own c (ovM c (colPiece k p.val)) q (fun y => V ((ovR c (colPiece k p.val)).emb y)) := by
  have e1 := owns_slice_read (Ix := Unit) (Name := ℕ) (U := UU) (Lvl := ℕ) (c : Thread nD τ) (Memref.whole cc0_scratch4) q (coR c k) (fun _ => rfl) (Val := Elt F) V
  have e2 (p : Fin 4) := owns_slice_read (Ix := Unit) (Name := ℕ) (U := UU) (Lvl := ℕ) (c : Thread nD τ) (Memref.whole cc0_scratch4) q (ovR c (colPiece k p.val)) (fun _ => rfl) (Val := Elt F) V
  refine e1.trans ?_
  refine Eq.trans ?_ (BI.bigSep_congr (fun p _ => (e2 p).symm))
  have hs : ((Memref.whole cc0_scratch4).view.slice (coR c k)).set
      = (Finset.univ : Finset (Fin 4)).biUnion fun p => ((Memref.whole cc0_scratch4).view.slice (ovR c (colPiece k p.val))).set := by
    simp only [View.set_slice_whole, Memref.view_whole]
    exact col_set c k
  rw [hs]
  exact pointsTo_biUnion _ _ fun p _ q _ hpq => by
    simp only [View.set_slice_whole, Memref.view_whole]
    exact col_apart c k p q hpq

end RingSum
-- ==== Proof.Sched.lean ====
module
public import proofs.«01_k».proof.Proof.Wholes
public import Mathlib.Algebra.BigOperators.Intervals

/-!
# The schedule of the semaphores

Every semaphore of the kernel is used for one round. A DMA semaphore's round has one duty, the credit of
the one copy that signals it, and its payload is what the copy hands back: the two ends of a local copy,
the share of the source lent to a transfer, or the landed piece. The start semaphore's round has two
duties, one unit from each neighbour, and each neighbour's payload is the memory it lets this device write.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- The embedding of the pipeline's ghost state. -/
abbrev EP : Emb (UR sig nD τ) (MT nD τ sig Unit (Elt F) ℕ UU ℕ) := embL
/-- The embedding of the rounds' ghost state. -/
abbrev ER : Emb UB (MT nD τ sig Unit (Elt F) ℕ UU ℕ) := embR

variable (m : (ℓ : Loc nD τ sig) → Buf (Elt F) ℓ)

/-- Device `c`'s start semaphore. -/
abbrev barCell (c : Dev nD) : GSem nD τ sig := ((c : Thread nD τ), .reg barS)
/-- Device `c`'s DMA semaphore `q`. -/
abbrev cell (c : Dev nD) (q : DmaSem sig) : GSem nD τ sig := ((c : Thread nD τ), .dma q)

/-- The credit of one transfer. -/
def N : ℕ := (rsM 0).view.dmaCredit
/-- The credit of one load. -/
def NL : ℕ := (xvM 0 0).view.dmaCredit
/-- The credit of one output copy. -/
def NO : ℕ := (ouM 0 0).view.dmaCredit

theorem N_pos : 0 < N := View.dmaCredit_pos _ (by decide)
theorem NL_pos : 0 < NL := View.dmaCredit_pos _ (by decide)
theorem NO_pos : 0 < NO := View.dmaCredit_pos _ (by decide)

/-- The result's values in half chunk `k`. -/
def coV (c : Dev nD) (k : ℕ) : S1024x512.Idx → Elt F .bf16 := fun y => VV m ((coR c k).emb y)

/-- What the copy that signals a DMA semaphore of device `c` hands back. -/
def dmaPay (c : Dev nD) : Use → sProp 𝕄
  | .load o => iprop(own c (xvM c o) fullShare (ldV m c o) ∗ own c (agM c o) fullShare (ldV m c o))
  | .send j => own c (srcM c j) fullShare.left (srcV m c j)
  | .recv j => own c (landM c j) fullShare (landV m c j)
  | .out k => iprop(own c (ouM c k) fullShare (coV m c k) ∗ own c (clM c k) fullShare.right (coV m c k))

/-- The credit of the copy that signals a DMA semaphore. -/
def amt : Use → ℕ
  | .load _ => NL
  | .send _ => N
  | .recv _ => N
  | .out _ => NO

theorem amt_pos (u : Use) : 0 < amt u := by
  cases u
  · unfold amt; exact NL_pos
  · unfold amt; exact N_pos
  · unfold amt; exact N_pos
  · unfold amt; exact NO_pos

/-- The landing place on the neighbour for transfer `j` of device `c`, if the neighbour on side `b` grants it. -/
def grant (c : Dev nD) (b : Bool) (j : ℕ) : sProp 𝕄 :=
  if (j % 2 == 1) = b then raw (dst j c) (landM (dst j c) j) else iprop(emp)

/-- What the neighbour on side `b` hands device `c` with its start signal. -/
def barPay (c : Dev nD) (b : Bool) : sProp 𝕄 := bigSep Finset.univ fun j : Fin 48 => grant (F := F) c b j.val

/-- The schedule. -/
def Rd : Rounds.Schedule (GSem nD τ sig) Bool 𝕄 where
  duties g r := if r = 0 ∧ g.1.2 = .tc then (match g.2 with | .reg _ => Finset.univ | .dma _ => {false}) else ∅
  unitless _ := False
  amount g _ _ := match g.2 with | .reg _ => 1 | .dma q => amt (useOf q.val)
  payload g _ d := match g.2 with | .reg _ => barPay g.1.1 d | .dma q => dmaPay m g.1.1 (useOf q.val)
  amount_pos g _ _ _ := by
    rcases g with ⟨t, sm⟩
    cases sm with
    | reg _ => exact Nat.one_pos
    | dma q =>
      exact amt_pos (useOf q.val)

instance grant_storable (c : Dev nD) (b : Bool) (j : ℕ) : BI.Storable (upEmb : UEmb _ 𝕄) (grant (F := F) c b j) := by
  unfold grant raw ownsSat; split <;> infer_instance

instance dmaPay_storable (c : Dev nD) (u : Use) : BI.Storable (upEmb : UEmb _ 𝕄) (dmaPay m c u) := by
  cases u <;> (unfold dmaPay; infer_instance)

instance Rd_storable (g : GSem nD τ sig) (r : ℕ) (d : Bool) : BI.Storable (upEmb : UEmb _ 𝕄) ((Rd m).payload g r d) := by
  rcases g with ⟨t, sm⟩
  cases sm with
  | reg _ => show BI.Storable upEmb (barPay t.1 d); unfold barPay; infer_instance
  | dma q => show BI.Storable upEmb (dmaPay m t.1 (useOf q.val)); infer_instance

section Facts
variable (c : Dev nD) (q : DmaSem sig)

theorem duties_bar : (Rd m).duties (barCell c) 0 = Finset.univ := by dsimp only [Rd]; exact if_pos ⟨rfl, rfl⟩
theorem duties_dma : (Rd m).duties (cell c q) 0 = {false} := by dsimp only [Rd]; exact if_pos ⟨rfl, rfl⟩
theorem duties_later (g : GSem nD τ sig) : ∀ r, 1 ≤ r → (Rd m).duties g r = ∅ :=
  fun r hr => by dsimp only [Rd]; rw [if_neg fun h => by omega]

theorem amount_bar (d : Bool) : (Rd m).amount (barCell c) 0 d = 1 := rfl
theorem amount_dma (d : Bool) : (Rd m).amount (cell c q) 0 d = amt (useOf q.val) := rfl

theorem expect_bar : (Rd m).expect (barCell c) 0 = 2 := by
  unfold Schedule.expect Schedule.amountOf
  rw [duties_bar, Finset.sum_congr rfl fun d _ => amount_bar m c d, Finset.sum_const, Finset.card_univ, Fintype.card_bool, smul_eq_mul]
theorem expect_dma : (Rd m).expect (cell c q) 0 = amt (useOf q.val) := by
  unfold Schedule.expect Schedule.amountOf; rw [duties_dma, Finset.sum_singleton, amount_dma]

theorem rest_dma : bigSep ((Rd m).duties (cell c q) 0 \ ∅) (fun d => (Rd m).payload (cell c q) 0 d) = dmaPay m c (useOf q.val) := by
  rw [Finset.sdiff_empty, duties_dma, bigSep_singleton]; rfl

/-- Both neighbours' payloads together: every landing place this device writes. -/
theorem rest_bar : bigSep ((Rd m).duties (barCell c) 0 \ ∅) (fun d => (Rd m).payload (barCell c) 0 d)
    = bigSep Finset.univ fun j : Fin 48 => (raw (dst j.val c) (landM (dst j.val c) j.val) : sProp 𝕄) := by
  rw [Finset.sdiff_empty, duties_bar, bigSep_univ_eq_bigSepL [false, true] (by decide) (by decide), bigSepL_cons_cons, bigSepL_singleton]
  show iprop(barPay c false ∗ barPay c true) = _
  unfold barPay
  rw [← bigSep_sep']
  refine BI.bigSep_congr fun j _ => ?_
  unfold grant
  rcases Nat.mod_two_eq_zero_or_one j.val with h | h <;> rw [h]
  · rw [if_pos (by decide), if_neg (by decide)]; exact BI.equiv_iff.mp BI.sep_emp
  · rw [if_neg (by decide), if_pos (by decide)]; exact BI.equiv_iff.mp BI.emp_sep

end Facts

theorem use_load {o : ℕ} (h : o < 4) : useOf (loadSem o).val = .load o := useOf_load ⟨o, h⟩
theorem use_send {j : ℕ} (h : j < 48) : useOf (sendSem j).val = .send j := useOf_send ⟨j, h⟩
theorem use_recv {j : ℕ} (h : j < 48) : useOf (recvSem j).val = .recv j := useOf_recv ⟨j, h⟩
theorem use_out {k : ℕ} (h : k < 8) : useOf (outSem k).val = .out k := useOf_out ⟨k, h⟩

/-! ## What a device owes, and the levels -/

/-- What device `c` still owes after `b` start signals and `s` transfers. -/
def owed (c : Dev nD) (b s : ℕ) : CellTallies nD τ sig Unit :=
  ((∑ j ∈ Finset.Ico s 48, tallyAt (cell (dst j c) (recvSem j)) () N)
    + (if b < 2 then tallyAt (barCell (nxt c)) () 1 else 0)) + (if b < 1 then tallyAt (barCell (prv c)) () 1 else 0)

theorem owed_bar0 (c : Dev nD) (s : ℕ) : owed c 0 s = owed c 1 s + tallyAt (barCell (prv c)) () 1 := by
  unfold owed; rw [if_pos (by decide), if_pos (by decide), if_pos (by decide), if_neg (by decide), add_zero]
theorem owed_bar1 (c : Dev nD) (s : ℕ) : owed c 1 s = owed c 2 s + tallyAt (barCell (nxt c)) () 1 := by
  unfold owed; rw [if_pos (by decide), if_neg (by decide), if_neg (by decide), if_neg (by decide), add_zero, add_zero, add_zero]
theorem owed_send (c : Dev nD) (s : ℕ) (h : s < 48) : owed c 2 s = owed c 2 (s + 1) + tallyAt (cell (dst s c) (recvSem s)) () N := by
  unfold owed
  rw [if_neg (by decide), if_neg (by decide), add_zero, add_zero, add_zero, add_zero, Finset.sum_eq_sum_Ico_succ_bot h, add_comm]
theorem owed_end (c : Dev nD) : owed c 2 48 = 0 := by
  unfold owed; rw [if_neg (by decide), if_neg (by decide), add_zero, add_zero, Finset.Ico_self, Finset.sum_empty]

/-- Every semaphore of a TensorCore carries the one index. -/
def L (g : GSem nD τ sig) : Finset Unit := if g.1.2 = .tc then {()} else ∅

/-- The start semaphore at level 1, the receiver's semaphore of transfer `j` at `j + 2`, all others at 0. -/
def lv (g : GSem nD τ sig) (_ : Unit) : ℕ :=
  match g.2 with
  | .reg _ => 1
  | .dma q => match useOf q.val with | .recv j => j + 2 | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) {j : ℕ} (h : j < 48) (u : Unit) : lv (cell c (recvSem j)) u = j + 2 := by
  show (match useOf (recvSem j).val with | .recv j => j + 2 | _ => 0) = _
  rw [use_recv h]

/-- After the start signals a device owes receivers only, those of the transfers still to come. -/
theorem owed_pos {c : Dev nD} {s : ℕ} {g : GSem nD τ sig} {u : Unit} (h : 0 < owed c 2 s g u) :
    ∃ j, s ≤ j ∧ j < 48 ∧ g = cell (dst j c) (recvSem j) := by
  unfold owed at h
  rw [if_neg (by decide), if_neg (by decide), add_zero, add_zero, Finset.sum_apply, Finsupp.finset_sum_apply] at h
  obtain ⟨j, hj, hp⟩ := Finset.exists_ne_zero_of_sum_ne_zero (Nat.pos_iff_ne_zero.mp h)
  rw [tallyAt_apply] at hp
  by_contra hn
  refine hp (if_neg fun h' => hn ⟨j, (Finset.mem_Ico.mp hj).1, (Finset.mem_Ico.mp hj).2, h'.1⟩)

/-- After the start signals a device may wait on a semaphore below the receivers it still owes. -/
theorem mayWait (c : Dev nD) (sm : SemLoc sig) (s : ℕ) (h : lv ((c : Thread nD τ), sm) () < s + 2) :
    (levAts L lv : sProp 𝕄) ⊢ MayWait (c : Thread nD τ) sm () (owed c 2 s) :=
  MayOwe.of_cut (L := L) (lev := lv) (s + 1)
    (fun p hp => by rw [Finset.mem_singleton.mp hp, L_tc]; exact Finset.mem_singleton_self _)
    (fun g u hg => by obtain ⟨j, _, _, rfl⟩ := owed_pos hg; rw [L_tc]; exact Finset.mem_singleton_self _)
    (fun p hp => by rw [Finset.mem_singleton.mp hp]; show lv ((c : Thread nD τ), sm) () ≤ s + 1; omega)
    (fun g u hg => by obtain ⟨j, h1, h2, rfl⟩ := owed_pos hg; rw [lv_recv _ h2]; omega)

end RingSum
-- ==== Proof.State.lean ====
module
public import proofs.«01_k».proof.Proof.Sched

/-!
# The state of a device between two operations

The kernel does everything in a fixed order, so how far a device has come is a few counters: start signals
given and awaited (`b`), loads issued (`i`) and awaited (`l`), pieces computed (`e`), transfers awaited
(`w`) and issued (`s`), output copies issued (`o`), own transfers awaited (`sw`) and output copies awaited
(`ow`). From the counters each piece of memory, token and credit is held or not, and with which value.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (m : (ℓ : Loc nD τ sig) → Buf (Elt F) ℓ)

/-- A device's semaphores: the start semaphore and the DMA semaphores. -/
abbrev kcell (ck : Dev nD × Option (DmaSem sig)) : GSem nD τ sig :=
  match ck.2 with
  | none => barCell ck.1
  | some q => cell ck.1 q

variable (K : Dev nD × Option (DmaSem sig) → ℕ)

/-- What every device knows throughout: the invariant of every semaphore, that each has reached its round, the levels. -/
def ctx : sProp 𝕄 :=
  iprop((bigSep Finset.univ fun ck => cellInv ER (Rd m) (K ck) (kcell ck))
    ∗ (bigSep Finset.univ fun ck => reached ER (kcell ck) 0) ∗ levAts L lv)

instance ctx_persistent : BI.Persistent (ctx m K) := by unfold ctx; infer_instance

theorem ctx_dma (c : Dev nD) (q : DmaSem sig) : ctx m K ⊢ cellInv ER (Rd m) (K (c, some q)) (cell c q) := by
  unfold ctx
  iintro ⟨H, -, -⟩
  iapply (show bigSep Finset.univ (fun ck => cellInv ER (Rd m) (K ck) (kcell ck)) ⊢ _ from bigSep_elim (Finset.mem_univ (c, some q))); iexact H

theorem ctx_bar (c : Dev nD) : ctx m K ⊢ cellInv ER (Rd m) (K (c, none)) (barCell c) := by
  unfold ctx
  iintro ⟨H, -, -⟩
  iapply (show bigSep Finset.univ (fun ck => cellInv ER (Rd m) (K ck) (kcell ck)) ⊢ _ from bigSep_elim (Finset.mem_univ (c, none))); iexact H

theorem ctx_dma_reached (c : Dev nD) (q : DmaSem sig) : ctx m K ⊢ reached ER (cell c q) 0 := by
  unfold ctx
  iintro ⟨-, H, -⟩
  iapply (show bigSep Finset.univ (fun ck => reached ER (kcell ck) 0) ⊢ _ from bigSep_elim (Finset.mem_univ (c, some q))); iexact H

theorem ctx_bar_reached (c : Dev nD) : ctx m K ⊢ reached ER (barCell c) 0 := by
  unfold ctx
  iintro ⟨-, H, -⟩
  iapply (show bigSep Finset.univ (fun ck => reached ER (kcell ck) 0) ⊢ _ from bigSep_elim (Finset.mem_univ (c, none))); iexact H

theorem ctx_lev : ctx m K ⊢ (levAts L lv : sProp 𝕄) := by
  unfold ctx; iintro ⟨-, -, H⟩; iexact H

/-! ## The components -/

/-- A family of `n` propositions. -/
abbrev fam (n : ℕ) (Φ : ℕ → sProp 𝕄) : sProp 𝕄 := bigSep Finset.univ fun j : Fin n => Φ j.val

/-- One member of a family taken out, and what puts a changed family together again. -/
theorem fam_at {n : ℕ} (Φ Φ' : ℕ → sProp 𝕄) (k : ℕ) (hk : k < n) (h : ∀ j, j < n → j ≠ k → Φ j = Φ' j) :
    fam n Φ ⊢ iprop(Φ k ∗ (Φ' k -∗ fam n Φ')) := by
  have e1 : fam n Φ = iprop(Φ k ∗ bigSep (Finset.univ.erase (⟨k, hk⟩ : Fin n)) fun j => Φ j.val) :=
    BI.bigSep_erase (Finset.mem_univ (⟨k, hk⟩ : Fin n))
  have e2 : fam n Φ' = iprop(Φ' k ∗ bigSep (Finset.univ.erase (⟨k, hk⟩ : Fin n)) fun j => Φ' j.val) :=
    BI.bigSep_erase (Finset.mem_univ (⟨k, hk⟩ : Fin n))
  have e3 : (bigSep (Finset.univ.erase (⟨k, hk⟩ : Fin n)) fun j => Φ j.val) = bigSep (Finset.univ.erase (⟨k, hk⟩ : Fin n)) fun j => Φ' j.val :=
    BI.bigSep_congr fun j hj => h j.val j.isLt fun e => (Finset.mem_erase.mp hj).1 (Fin.ext e)
  rw [e1, e2, e3]
  iintro ⟨H, Hr⟩
  isplitl [H]; · iexact H
  iintro H'
  isplitl [H']; · iexact H'
  iexact Hr

/-- One member of a family looked at. -/
theorem fam_look {n : ℕ} (Φ : ℕ → sProp 𝕄) (k : ℕ) (hk : k < n) : fam n Φ ⊢ iprop(Φ k ∗ (Φ k -∗ fam n Φ)) :=
  fam_at Φ Φ k hk fun _ _ _ => rfl

/-- The start: what is left to signal, to wait for. -/
def startI (c : Dev nD) : ℕ → sProp 𝕄
  | 0 => iprop((dutyTok ER (barCell (prv c)) 0 false ∗ barPay (F := F) (prv c) false)
      ∗ (dutyTok ER (barCell (nxt c)) 0 true ∗ barPay (F := F) (nxt c) true)
      ∗ cred (tallyAt (barCell c) () 2) ∗ atPos ER (barCell c) 0 ∅ 0)
  | 1 => iprop((dutyTok ER (barCell (nxt c)) 0 true ∗ barPay (F := F) (nxt c) true)
      ∗ cred (tallyAt (barCell c) () 2) ∗ atPos ER (barCell c) 0 ∅ 0)
  | 2 => iprop(cred (tallyAt (barCell c) () 2) ∗ atPos ER (barCell c) 0 ∅ 0)
  | _ => semVal (barCell c) 0

/-- The landing places on the neighbours not yet written. -/
def landI (c : Dev nD) (b s : ℕ) : sProp 𝕄 :=
  if b < 3 then iprop(emp) else fam 48 fun j => if j < s then iprop(emp) else raw (dst j c) (landM (dst j c) j)

/-- The order in which the loads are issued, and awaited. -/
def ordI (o : ℕ) : ℕ := if o = 2 then 3 else if o = 3 then 2 else o
def ordW (o : ℕ) : ℕ := if o = 0 then 0 else if o = 1 then 2 else if o = 2 then 3 else 1

/-- Load `o`: to come, under way, done. -/
def loadI (c : Dev nD) (i l o : ℕ) : sProp 𝕄 :=
  if ordW o < l then iprop(semVal (cell c (loadSem o)) 0 ∗ own c (xvM c o) fullShare (ldV m c o) ∗ own c (agM c o) fullShare (ldV m c o))
  else if ordI o < i then iprop(cred (tallyAt (cell c (loadSem o)) () NL) ∗ atPos ER (cell c (loadSem o)) 0 ∅ 0)
  else iprop(dutyTok ER (cell c (loadSem o)) 0 false ∗ atPos ER (cell c (loadSem o)) 0 ∅ 0
    ∗ raw c (xvM c o) ∗ own c (agM c o) fullShare (ldV m c o))

/-- Transfer `j` on the sender's side: to come, under way, done. -/
def sendI (c : Dev nD) (s sw j : ℕ) : sProp 𝕄 :=
  if j < s then
    if j < sw then semVal (cell c (sendSem j)) 0
    else iprop(cred (tallyAt (cell c (sendSem j)) () N) ∗ atPos ER (cell c (sendSem j)) 0 ∅ 0)
  else iprop(dutyTok ER (cell c (sendSem j)) 0 false ∗ dutyTok ER (cell (dst j c) (recvSem j)) 0 false
    ∗ atPos ER (cell c (sendSem j)) 0 ∅ 0)

/-- Transfer `j` on the receiver's side: to come, landed. -/
def recvI (c : Dev nD) (w j : ℕ) : sProp 𝕄 :=
  if j < w then iprop(semVal (cell c (recvSem j)) 0 ∗ (if j < 24 then own c (landM c j) fullShare (landV m c j) else iprop(emp)))
  else iprop(cred (tallyAt (cell c (recvSem j)) () N) ∗ atPos ER (cell c (recvSem j)) 0 ∅ 0)

/-- The first staging block before it is filled. -/
def stageI (c : Dev nD) (e : ℕ) : sProp 𝕄 := if e = 0 then raw c (Memref.whole cc0_scratch1) else iprop(emp)

/-- Output copy of piece `x`. -/
def cix (x : ℕ) : ℕ := 2 * ((x - 24) / 8) + x % 2

/-- Piece `x` has its value. -/
abbrev Has (e w x : ℕ) : Prop := if x < 32 then x < e else x < w + 8
/-- The share of piece `x` lent to its transfer is here. -/
abbrev Lft (s sw x : ℕ) : Prop := ¬ (x < s ∧ sw ≤ x)
/-- The share of piece `x` lent to its output copy is here. -/
abbrev Rgt (o ow x : ℕ) : Prop := ¬ (24 ≤ x ∧ cix x < o ∧ ow ≤ cix x)

/-- Piece `x`. -/
def srcI (c : Dev nD) (x : ℕ) (h l r : Prop) [Decidable h] [Decidable l] [Decidable r] : sProp 𝕄 :=
  if h then iprop((if l then own c (srcM c x) fullShare.left (srcV m c x) else iprop(emp))
    ∗ (if r then own c (srcM c x) fullShare.right (srcV m c x) else iprop(emp)))
  else if 8 ≤ x ∧ x < 32 then raw c (srcM c x) else iprop(emp)

/-- Output copy `k`: to come, under way, done. -/
def outI (c : Dev nD) (o ow k : ℕ) : sProp 𝕄 :=
  if k < o then
    if k < ow then iprop(semVal (cell c (outSem k)) 0 ∗ own c (ouM c k) fullShare (coV m c k))
    else iprop(cred (tallyAt (cell c (outSem k)) () NO) ∗ atPos ER (cell c (outSem k)) 0 ∅ 0)
  else iprop(dutyTok ER (cell c (outSem k)) 0 false ∗ atPos ER (cell c (outSem k)) 0 ∅ 0 ∗ raw c (ouM c k))

/-- What device `c` holds. -/
def state (c : Dev nD) (b i l e w s o sw ow : ℕ) : sProp 𝕄 :=
  iprop(ctx m K ∗ (∃ W, owes (c : Thread nD τ) (owed c b s) W)
    ∗ startI (F := F) c b ∗ landI (F := F) c b s
    ∗ fam 4 (loadI m c i l) ∗ fam 48 (sendI (F := F) c s sw) ∗ fam 48 (recvI m c w)
    ∗ stageI (F := F) c e ∗ fam 56 (fun x => srcI m c x (Has e w x) (Lft s sw x) (Rgt o ow x))
    ∗ fam 8 (outI m c o ow))

theorem owed_three (c : Dev nD) (s : ℕ) : owed c 3 s = owed c 2 s := by
  unfold owed; rw [if_neg (by decide), if_neg (by decide), if_neg (by decide), if_neg (by decide)]

/-- The program `p` on device `c` ends in `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The credits of the transfers' memrefs -/

theorem landM_credit (c : Dev nD) (j : ℕ) : (landM c j).view.dmaCredit = N := by
  unfold landM; split <;> rfl

end RingSum
-- ==== Proof.Rules.lean ====
module
public import proofs.«01_k».proof.Proof.State

/-!
# One operation at a time, over owned memrefs

The library's rules for copies, transfers, loads, stores and waits, stated over memrefs owned with known or
unknown contents, at this kernel's schedule.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)
variable {sp sp' : Space} {sh : Shape} {e : EltTy}

theorem own_elim (c : Dev nD) (M : Memref sig .tc sp sh e) (q : PosShare TreeShare) (V : sh.Idx → Elt F e) :
    (own c M q V : sProp 𝕄) ⊢ iprop(∃ f, ⌜M.view.read (Elt F) f = V⌝ ∗ (M.view.loc (c : Thread nD τ) ↦[M.view.set]{q} f)) := .rfl

theorem own_intro (c : Dev nD) (M : Memref sig .tc sp sh e) (q : PosShare TreeShare) (V : sh.Idx → Elt F e)
    (f : M.view.ty.Contents (Elt F)) (h : M.view.read (Elt F) f = V) :
    (M.view.loc (c : Thread nD τ) ↦[M.view.set]{q} f : sProp 𝕄) ⊢ own c M q V := by
  subst h; exact owns_intro _ _ _ _

/-- A copy on one device: the destination takes the source's contents, and the semaphore's payload is made of both. -/
theorem copy_own {α : Type} {Q : α → sProp 𝕄} (c : Dev nD) {src : Memref sig .tc sp sh e} {dest : Memref sig .tc sp' sh e} {q : DmaSem sig}
    {hsrc : src.view.WordExact} {hdst : dest.view.WordExact}
    {hsem : DmaTarget.Typed (nD := nD) (p := (c : Thread nD τ).2) sp (.dma q) (.here dest)}
    {k : PUnit → Prog (TpuEff nD τ sig (Elt F) Λ₀ .tc) α} (sh' : PosShare TreeShare) (V : sh.Idx → Elt F e) (n : ℕ)
    (hN : dest.view.dmaCredit = n) (hk : amt (useOf q.val) = n)
    (hpay : iprop(own c dest fullShare V ∗ own c src sh' V) ⊢ dmaPay m c (useOf q.val)) :
    iprop(ctx m K ∗ own c src sh' V ∗ raw c dest ∗ dutyTok ER (cell c q) 0 false)
      ⊢ iprop((cred (tallyAt (cell c q) () n) -∗ WP c (k ⟨⟩) Q)
        -∗ WP c (.op (.enqueueDma src (.here dest) (.dma q) hsrc hdst hsem) k) Q) := by
  iintro ⟨#Hctx, Hs, Hd, Htok⟩ Hk
  ihave Hs := own_elim c src sh' V $$ Hs
  icases Hs with ⟨%fs, %hfs, Hs⟩
  ihave Hd := raw_elim c dest $$ Hd
  icases Hd with ⟨%V', Hd⟩
  ihave Hd := own_elim c dest fullShare V' $$ Hd
  icases Hd with ⟨%fd, -, Hd⟩
  iapply (Rounds.wp_copy_pointsTo 𝒱₀ ER (Rd m) (c : Thread nD τ) none (κ := K (c, some q)) (r := 0) (d := false) (fs := fs) (fd := fd) (q := sh')
    (by rw [duties_dma]; exact Finset.mem_singleton_self _) () n (show dest.view.amount (SemLoc.dma q) = n from hN) (show (Rd m).amount (cell c q) 0 false = n from hk) (by
      show _ ⊢ dmaPay m c (useOf q.val)
      refine Entails.trans (sep_mono ?_ ?_) hpay
      · exact own_intro c dest fullShare V _ ((View.read_write_univ _ _).trans hfs)
      · exact own_intro c src sh' V _ hfs)) $$ [Hs Hd Htok]
  · isplitr; · iapply (ctx_dma m K c q); iexact Hctx
    isplitl [Hs]; · iexact Hs
    isplitl [Hd]; · iexact Hd
    isplitl [Htok]; · iexact Htok
    iapply (ctx_dma_reached m K c q); iexact Hctx
  iexact Hk

/-- A transfer to another device `n`: the sender lends a share of the source until the transfer is over, the receiver
    gets the landed contents. -/
theorem send_own {α : Type} {Q : α → sProp 𝕄} (c n : Dev nD) {src : Memref sig .tc sp sh e} {dest : Memref sig .tc sp' sh e} {qs qr : DmaSem sig}
    {hsc : (dest : Memref sig (Dev.tc n : Thread nD τ).2.kind sp' sh e).view.ref.isScScratch = false}
    {hsrc : src.view.WordExact} {hdst : dest.view.WordExact}
    {hsem : DmaTarget.Typed sp (.dma qr) (.remote (p := (c : Thread nD τ).2) (Dev.tc n : Thread nD τ) dest (.dma qs) hsc)}
    {k : PUnit → Prog (TpuEff nD τ sig (Elt F) Λ₀ .tc) α} (sh' : PosShare TreeShare) (V : sh.Idx → Elt F e) (num : ℕ)
    (hN : dest.view.dmaCredit = num) (hk₁ : amt (useOf qs.val) = num) (hk₂ : amt (useOf qr.val) = num)
    (O₀ O : CellTallies nD τ sig Unit) (hO : O₀ = O + tallyAt (cell n qr) () num) (W : Waits sig Unit)
    (hpay₁ : own c src sh' V ⊢ dmaPay m c (useOf qs.val)) (hpay₂ : own n dest fullShare V ⊢ dmaPay m n (useOf qr.val)) :
    iprop(ctx m K ∗ own c src sh' V ∗ raw n dest ∗ owes (c : Thread nD τ) O₀ W
        ∗ dutyTok ER (cell c qs) 0 false ∗ dutyTok ER (cell n qr) 0 false)
      ⊢ iprop(((cred (tallyAt (cell c qs) () num) ∗ owes (c : Thread nD τ) O W) -∗ WP c (k ⟨⟩) Q)
        -∗ WP c (.op (.enqueueDma src (.remote (Dev.tc n : Thread nD τ) dest (.dma qs) hsc) (.dma qr) hsrc hdst hsem) k) Q) := by
  iintro ⟨#Hctx, Hs, Hd, HO, Ht1, Ht2⟩ Hk
  ihave Hs := own_elim c src sh' V $$ Hs
  icases Hs with ⟨%fs, %hfs, Hs⟩
  ihave Hd := raw_elim n dest $$ Hd
  icases Hd with ⟨%V', Hd⟩
  ihave Hd := own_elim n dest fullShare V' $$ Hd
  icases Hd with ⟨%fd, -, Hd⟩
  iapply (Rounds.wp_send_pointsTo 𝒱₀ ER (Rd m) (c : Thread nD τ) none (c' := (Dev.tc n : Thread nD τ)) (κ₁ := K (c, some qs)) (κ₂ := K (n, some qr))
    (r₁ := 0) (r₂ := 0) (d₁ := false) (d₂ := false) (fs := fs) (fd := fd) (q := sh')
    (by rw [duties_dma]; exact Finset.mem_singleton_self _) (by rw [duties_dma]; exact Finset.mem_singleton_self _)
    () () num (show dest.view.amount (SemLoc.dma qr) = num from hN)
    (show (Rd m).amount (cell c qs) 0 false = num from hk₁) (show (Rd m).amount (cell n qr) 0 false = num from hk₂) O hO (W := W)
    (by
      show _ ⊢ dmaPay m c (useOf qs.val)
      exact (own_intro c src sh' V _ hfs).trans hpay₁)
    (by
      show _ ⊢ dmaPay m n (useOf qr.val)
      exact (own_intro n dest fullShare V _ ((View.read_write_univ _ _).trans hfs)).trans hpay₂)) $$ [Hs Hd HO Ht1 Ht2]
  · isplitr; · iapply (ctx_dma m K c qs); iexact Hctx
    isplitr; · iapply (ctx_dma m K n qr); iexact Hctx
    isplitl [Hs]; · iexact Hs
    isplitl [Hd]; · iexact Hd
    isplitl [HO]; · iexact HO
    isplitl [Ht1]; · iexact Ht1
    isplitr; · iapply (ctx_dma_reached m K c qs); iexact Hctx
    isplitl [Ht2]; · iexact Ht2
    iapply (ctx_dma_reached m K n qr); iexact Hctx
  iexact Hk

/-- A wait for the one copy that signals the DMA semaphore `q`: the payload comes, and the semaphore is at zero again. -/
theorem wait_own {α : Type} {Q : α → sProp 𝕄} (c : Dev nD) {spa spb : Space} {sha shb : Shape} {ea eb : EltTy} {src : Memref sig .tc spa sha ea} {dest : Memref sig .tc spb shb eb}
    {q : DmaSem sig} {h1 h2}
    {k : PUnit → Prog (TpuEff nD τ sig (Elt F) Λ₀ .tc) α} (n : ℕ) (hN : dest.view.dmaCredit = n) (hk : amt (useOf q.val) = n)
    (s : ℕ) (hlv : lv (cell c q) () < s + 2) :
    iprop(ctx m K ∗ cred (tallyAt (cell c q) () n) ∗ (∃ W, owes (c : Thread nD τ) (owed c 3 s) W) ∗ atPos ER (cell c q) 0 ∅ 0)
      ⊢ iprop((((∃ W, owes (c : Thread nD τ) (owed c 3 s) W) ∗ semVal (cell c q) 0 ∗ dmaPay m c (useOf q.val)) -∗ WP c (k ⟨⟩) Q)
        -∗ WP c (.op (.waitDma2 q src dest h1 h2) k) Q) := by
  subst hN
  iintro ⟨#Hctx, Hc, ⟨%W, HO⟩, Hat⟩ Hk
  iapply (Rounds.wp_wait_rest_token 𝒱₀ ER (Rd m) (c : Thread nD τ) none (κ := K (c, some q))
      (wpE_waitDma2_eq 𝒱₀ (c : Thread nD τ) none Set.univ) (Set.mem_univ _) () (O := owed c 3 s) (W := W) (R := 0) (m := 0) (T := ∅)
      (by rw [expect_dma, hk, Nat.zero_add])) $$ [Hc HO Hat]
  · isplitr; · iapply (ctx_dma m K c q); iexact Hctx
    isplitl [Hc]; · iexact Hc
    isplitl [HO]; · iexact HO
    isplitr
    · rw [owed_three]; iapply (mayWait c (.dma q) s hlv); iapply (ctx_lev m K); iexact Hctx
    iexact Hat
  iintro ⟨HO, Hat, -, Hpay⟩
  ihave Hp := (Entails.of_eq (rest_dma m c q)) $$ Hpay
  imod (Rounds.cell_close ER (Rd m) (Set.mem_univ (K (c, some q))) (fun h => h) (R := 0 + 1) (duties_later m (cell c q))) $$ [Hat] with Hz
  · isplitr; · iapply (ctx_dma m K c q); iexact Hctx
    iexact Hat
  iapply Hk
  isplitl [HO]; · iexists _; iexact HO
  isplitl [Hz]; · iexact Hz
  iexact Hp

/-- A load of a slice of a whole buffer reads what the slice is owned at. -/
theorem load_own {α : Type} {Q : α → sProp 𝕄} (c : Dev nD) {cs : CoreSpace} {M : Memref sig .tc cs sh e} {r : Rect sh} {hr : ∀ a, r.stride a = 1}
    {hl : M.view.LoadsAt r.toLoadRect} {k : (r.shape.Idx → Elt F e) → Prog (TpuEff nD τ sig (Elt F) Λ₀ .tc) α}
    (q : PosShare TreeShare) (V : r.shape.Idx → Elt F e) :
    (own c (M.slice r hr) q V)
      ⊢ iprop((own c (M.slice r hr) q V -∗ WP c (k V) Q) -∗ WP c (.op (.load M r.toLoadRect hl) k) Q) := by
  iintro Hs Hk
  ihave Hs := own_elim c (M.slice r hr) q V $$ Hs
  icases Hs with ⟨%f, %hf, Hs⟩
  iapply (wp_load_rect 𝒱₀ (c : Thread nD τ) none Set.univ (m := M) (r := r) (S := (M.slice r hr).view.set) (q := q) (f := f) (Finset.Subset.refl _)) $$ Hs
  iintro Hs
  have hf' : (M.access r).read (Elt F) f = V := hf
  rw [hf']
  iapply Hk
  iapply (own_intro c (M.slice r hr) q V f hf); iexact Hs

/-- A store to a slice of a whole buffer. -/
theorem store_own {α : Type} {Q : α → sProp 𝕄} (c : Dev nD) {cs : CoreSpace} {M : Memref sig .tc cs sh e} {r : Rect sh} {hr : ∀ a, r.stride a = 1}
    {V : r.shape.Idx → Elt F e} {hx hm} {k : PUnit → Prog (TpuEff nD τ sig (Elt F) Λ₀ .tc) α} :
    (raw c (M.slice r hr))
      ⊢ iprop((own c (M.slice r hr) fullShare V -∗ WP c (k ⟨⟩) Q) -∗ WP c (.op (.store M r V Finset.univ hx hm) k) Q) := by
  iintro Hs Hk
  ihave Hs := raw_elim c (M.slice r hr) $$ Hs
  icases Hs with ⟨%V', Hs⟩
  ihave Hs := own_elim c (M.slice r hr) fullShare V' $$ Hs
  icases Hs with ⟨%f, %hf, Hs⟩
  iapply (wp_store 𝒱₀ (c : Thread nD τ) none Set.univ (m := M) (r := r) (Mk := Finset.univ) (w := V) (S := (M.slice r hr).view.set) (f := f)
    (Finset.Subset.refl _)) $$ Hs
  iintro Hs
  iapply Hk
  iapply (own_intro c (M.slice r hr) fullShare V _ (View.read_write_univ _ _)); iexact Hs

end RingSum
-- ==== Proof.Start.lean ====
module
public import proofs.«01_k».proof.Proof.Rules

/-!
# The loads and the start

The steps of the loads, the start signals and their wait, on the state.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

/-! ## The loads -/

theorem ordI_inj {o o' : ℕ} (h : o < 4) (h' : o' < 4) (hne : o' ≠ o) : ordI o' ≠ ordI o := by
  unfold ordI; split_ifs <;> omega

theorem ordW_inj {o o' : ℕ} (h : o < 4) (h' : o' < 4) (hne : o' ≠ o) : ordW o' ≠ ordW o := by
  unfold ordW; split_ifs <;> omega

theorem lt_succ_iff_of_ne {a n : ℕ} (h : a ≠ n) : (a < n) = (a < n + 1) := propext (by omega)

/-- Load `o` is issued. -/
theorem step_load {α : Type} {Q : α → sProp 𝕄} {c : Dev nD} {b i e w s t sw ow : ℕ} (o : ℕ) (off : Dev nD → Fin 2 → ℕ)
    {inb inb'} {q : DmaSem sig} {hsrc hdst hsem}
    {k : PUnit → Prog (TpuEff nD τ sig (Elt F) Λ₀ .tc) α}
    (ho : o < 4) (hi : ordI o = i) (hoff : ∀ c', off c' = ldOff c' o) (hq : q = loadSem o)
    (H : state m K c b (i + 1) 0 e w s t sw ow ⊢ WP c (k ⟨⟩) Q) :
    state m K c b i 0 e w s t sw ow ⊢ WP c (.op (.enqueueDma
      ((Memref.whole main_arg0).slice (Rect.unit (s := S4096x1024) (off c) S1024x1024.size inb) (fun _ => rfl))
      (.here ((Memref.whole cc0_scratch0).slice (Rect.unit (s := S4096x1024) (off c) S1024x1024.size inb') (fun _ => rfl)))
      (.dma q) hsrc hdst hsem) k) Q := by
  obtain rfl : off = fun c' => ldOff c' o := funext hoff
  subst hq
  subst hi
  have e1 : loadI m c (ordI o) 0 o = iprop(dutyTok ER (cell c (loadSem o)) 0 false ∗ atPos ER (cell c (loadSem o)) 0 ∅ 0
    ∗ raw c (xvM c o) ∗ own c (agM c o) fullShare (ldV m c o)) := by
    unfold loadI; rw [if_neg (Nat.not_lt_zero _), if_neg (lt_irrefl _)]
  have e2 : loadI m c (ordI o + 1) 0 o = iprop(cred (tallyAt (cell c (loadSem o)) () NL) ∗ atPos ER (cell c (loadSem o)) 0 ∅ 0) := by
    unfold loadI; rw [if_neg (Nat.not_lt_zero _), if_pos (Nat.lt_succ_self _)]
  have hf := fam_at (n := 4) (loadI m c (ordI o) 0) (loadI m c (ordI o + 1) 0) o ho fun o' h' hne => by
    unfold loadI; simp only [lt_succ_iff_of_ne (ordI_inj ho h' hne)]
  rw [e1, e2] at hf
  conv_lhs => unfold state
  iintro ⟨#Hctx, HO, HS, HD, HL, HN, HR, HG, HX, HU⟩
  ihave HL := hf $$ HL
  icases HL with ⟨⟨Htok, Hat, Hraw, Hag⟩, Hback⟩
  iapply (copy_own m K c (src := agM c o) (dest := xvM c o) fullShare (ldV m c o) NL rfl (by rw [use_load ho]; rfl)
    (by rw [use_load ho]; exact .rfl)) $$ [Htok Hraw Hag]
  · isplitr; · iexact Hctx
    isplitl [Hag]; · iexact Hag
    isplitl [Hraw]; · iexact Hraw
    iexact Htok
  iintro Hc
  ihave HL := Hback $$ [Hc Hat]
  · isplitl [Hc]; · iexact Hc
    iexact Hat
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-- Load `o` is awaited. -/
theorem step_loaded {α : Type} {Q : α → sProp 𝕄} {c : Dev nD} {l e w s t sw ow : ℕ} (o : ℕ)
    {spa spb : Space} {sha shb : Shape} {ea eb : EltTy} {src : Memref sig .tc spa sha ea} {dest : Memref sig .tc spb shb eb}
    {q : DmaSem sig} {h1 h2} {k : PUnit → Prog (TpuEff nD τ sig (Elt F) Λ₀ .tc) α}
    (ho : o < 4) (hi : ordW o = l) (hN : dest.view.dmaCredit = NL) (hq : q = loadSem o)
    (H : state m K c 3 4 (l + 1) e w s t sw ow ⊢ WP c (k ⟨⟩) Q) :
    state m K c 3 4 l e w s t sw ow ⊢ WP c (.op (.waitDma2 q src dest h1 h2) k) Q := by
  subst hq
  subst hi
  have hi4 : ordI o < 4 := by unfold ordI; split_ifs <;> omega
  have e1 : loadI m c 4 (ordW o) o = iprop(cred (tallyAt (cell c (loadSem o)) () NL) ∗ atPos ER (cell c (loadSem o)) 0 ∅ 0) := by
    unfold loadI; rw [if_neg (lt_irrefl _), if_pos hi4]
  have e2 : loadI m c 4 (ordW o + 1) o
      = iprop(semVal (cell c (loadSem o)) 0 ∗ own c (xvM c o) fullShare (ldV m c o) ∗ own c (agM c o) fullShare (ldV m c o)) := by
    unfold loadI; rw [if_pos (Nat.lt_succ_self _)]
  have hf := fam_at (n := 4) (loadI m c 4 (ordW o)) (loadI m c 4 (ordW o + 1)) o ho fun o' h' hne => by
    unfold loadI; simp only [lt_succ_iff_of_ne (ordW_inj ho h' hne)]
  rw [e1, e2] at hf
  have hlv : lv (cell c (loadSem o)) () < s + 2 := by
    show (match useOf (loadSem o).val with | .recv j => j + 2 | _ => 0) < _
    rw [use_load ho]; exact Nat.succ_pos _
  have hw := wait_own m K (Q := Q) c (src := src) (dest := dest) (q := loadSem o) (h1 := h1) (h2 := h2) (k := k) NL hN (by rw [use_load ho]; rfl) s hlv
  rw [use_load ho] at hw
  conv_lhs => unfold state
  iintro ⟨#Hctx, HO, HS, HD, HL, HN, HR, HG, HX, HU⟩
  ihave HL := hf $$ HL
  icases HL with ⟨⟨Hc, Hat⟩, Hback⟩
  iapply hw $$ [HO Hc Hat]
  · isplitr; · iexact Hctx
    isplitl [Hc]; · iexact Hc
    isplitl [HO]; · iexact HO
    iexact Hat
  iintro ⟨HO, Hz, Hpay⟩
  ihave Hpay := (show dmaPay m c (.load o) ⊢ iprop(own c (xvM c o) fullShare (ldV m c o) ∗ own c (agM c o) fullShare (ldV m c o)) from .rfl) $$ Hpay
  icases Hpay with ⟨Hxv, Hag⟩
  ihave HL := Hback $$ [Hz Hxv Hag]
  · isplitl [Hz]; · iexact Hz
    isplitl [Hxv]; · iexact Hxv
    iexact Hag
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-! ## The start -/

/-- The start signal to the device before. -/
theorem step_signal_prv {α : Type} {Q : α → sProp 𝕄} {c n : Dev nD} {i l e w s t sw ow : ℕ} {q : Sem sig} {z : ℤ}
    {k : PUnit → Prog (TpuEff nD τ sig (Elt F) Λ₀ .tc) α} (hn : n = prv c) (hq : q = barS) (hz : z = ((1 : ℕ) : ℤ))
    (H : state m K c 1 i l e w s t sw ow ⊢ WP c (k ⟨⟩) Q) :
    state m K c 0 i l e w s t sw ow ⊢ WP c (.op (.semSignal (n, .tc) q z) k) Q := by
  subst hn
  subst hq
  subst hz
  conv_lhs => unfold state
  iintro ⟨#Hctx, ⟨%W, HO⟩, HS, HD, HL, HN, HR, HG, HX, HU⟩
  ihave HS := (show startI (F := F) c 0 ⊢ iprop((dutyTok ER (barCell (prv c)) 0 false ∗ barPay (F := F) (prv c) false)
      ∗ startI (F := F) c 1) from .rfl) $$ HS
  icases HS with ⟨⟨Htok, Hpay⟩, HS⟩
  ihave Hpay := (show barPay (F := F) (prv c) false ⊢ (Rd m).payload (barCell (prv c)) 0 false from .rfl) $$ Hpay
  iapply (Rounds.wp_signal 𝒱₀ ER (Rd m) (c : Thread nD τ) none (dst := (prv c : Thread nD τ)) (κ := K (prv c, none)) (r := 0) (d := false)
    (by rw [duties_bar]; exact Finset.mem_univ _) (amount_bar m (prv c) false) () (owed c 1 s) (owed_bar0 c s)) $$ [HO Htok Hpay]
  · isplitr; · iapply (ctx_bar m K (prv c)); iexact Hctx
    isplitl [HO]; · iexact HO
    isplitl [Htok]; · iexact Htok
    isplitl [Hpay]; · iexact Hpay
    iapply (ctx_bar_reached m K (prv c)); iexact Hctx
  iintro HO
  iapply H
  unfold state
  isplitr; · iexact Hctx
  isplitl [HO]; · iexists W; iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-- The start signal to the device after. -/
theorem step_signal_nxt {α : Type} {Q : α → sProp 𝕄} {c n : Dev nD} {i l e w s t sw ow : ℕ} {q : Sem sig} {z : ℤ}
    {k : PUnit → Prog (TpuEff nD τ sig (Elt F) Λ₀ .tc) α} (hn : n = nxt c) (hq : q = barS) (hz : z = ((1 : ℕ) : ℤ))
    (H : state m K c 2 i l e w s t sw ow ⊢ WP c (k ⟨⟩) Q) :
    state m K c 1 i l e w s t sw ow ⊢ WP c (.op (.semSignal (n, .tc) q z) k) Q := by
  subst hn
  subst hq
  subst hz
  conv_lhs => unfold state
  iintro ⟨#Hctx, ⟨%W, HO⟩, HS, HD, HL, HN, HR, HG, HX, HU⟩
  ihave HS := (show startI (F := F) c 1 ⊢ iprop((dutyTok ER (barCell (nxt c)) 0 true ∗ barPay (F := F) (nxt c) true)
      ∗ startI (F := F) c 2) from .rfl) $$ HS
  icases HS with ⟨⟨Htok, Hpay⟩, HS⟩
  ihave Hpay := (show barPay (F := F) (nxt c) true ⊢ (Rd m).payload (barCell (nxt c)) 0 true from .rfl) $$ Hpay
  iapply (Rounds.wp_signal 𝒱₀ ER (Rd m) (c : Thread nD τ) none (dst := (nxt c : Thread nD τ)) (κ := K (nxt c, none)) (r := 0) (d := true)
    (by rw [duties_bar]; exact Finset.mem_univ _) (amount_bar m (nxt c) true) () (owed c 2 s) (owed_bar1 c s)) $$ [HO Htok Hpay]
  · isplitr; · iapply (ctx_bar m K (nxt c)); iexact Hctx
    isplitl [HO]; · iexact HO
    isplitl [Htok]; · iexact Htok
    isplitl [Hpay]; · iexact Hpay
    iapply (ctx_bar_reached m K (nxt c)); iexact Hctx
  iintro HO
  iapply H
  unfold state
  isplitr; · iexact Hctx
  isplitl [HO]; · iexists W; iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-- The wait for both neighbours' start signals. -/
theorem step_started {α : Type} {Q : α → sProp 𝕄} {c : Dev nD} {i l e w t sw ow : ℕ} {q : Sem sig} {z : ℤ}
    {k : PUnit → Prog (TpuEff nD τ sig (Elt F) Λ₀ .tc) α} (hq : q = barS) (hz : z = ((2 : ℕ) : ℤ))
    (H : state m K c 3 i l e w 0 t sw ow ⊢ WP c (k ⟨⟩) Q) :
    state m K c 2 i l e w 0 t sw ow ⊢ WP c (.op (.semWait q z) k) Q := by
  subst hq
  subst hz
  have hD : (bigSep Finset.univ fun j : Fin 48 => raw (F := F) (dst j.val c) (landM (dst j.val c) j.val)) = landI (F := F) c 3 0 := by
    unfold landI; rw [if_neg (by decide)]
    exact BI.bigSep_congr fun j _ => (if_neg (Nat.not_lt_zero _)).symm
  conv_lhs => unfold state
  iintro ⟨#Hctx, ⟨%W, HO⟩, HS, HD, HL, HN, HR, HG, HX, HU⟩
  ihave HS := (show startI (F := F) c 2 ⊢ iprop(cred (tallyAt (barCell c) () 2) ∗ atPos ER (barCell c) 0 ∅ 0) from .rfl) $$ HS
  icases HS with ⟨Hc, Hat⟩
  iapply (Rounds.wp_wait_rest_token 𝒱₀ ER (Rd m) (c : Thread nD τ) none (κ := K (c, none))
      (wpE_semWait_eq 𝒱₀ (c : Thread nD τ) none Set.univ) (Set.mem_univ _) () (O := owed c 2 0) (W := W) (R := 0) (m := 0) (T := ∅)
      (by rw [expect_bar])) $$ [Hc HO Hat]
  · isplitr; · iapply (ctx_bar m K c); iexact Hctx
    isplitl [Hc]; · iexact Hc
    isplitl [HO]; · iexact HO
    isplitr
    · iapply (mayWait c (.reg barS) 0 (Nat.lt_succ_self 1)); iapply (ctx_lev m K); iexact Hctx
    iexact Hat
  iintro ⟨HO, Hat, -, Hpay⟩
  ihave HP := (Entails.of_eq (rest_bar m c)) $$ Hpay
  ihave HP := (Entails.of_eq hD) $$ HP
  imod (Rounds.cell_close ER (Rd m) (Set.mem_univ (K (c, none))) (fun h => h) (R := 0 + 1) (duties_later m (barCell c))) $$ [Hat] with Hz
  · isplitr; · iapply (ctx_bar m K c); iexact Hctx
    iexact Hat
  ihave HS := (show semVal (barCell c) 0 ⊢ startI (F := F) c 3 from .rfl) $$ Hz
  ihave HO := (Entails.of_eq (congrArg (fun O => owes (c : Thread nD τ) O (insert (SemLoc.reg barS, ()) W)) (owed_three c 0).symm)) $$ HO
  iapply H
  unfold state
  isplitr; · iexact Hctx
  isplitl [HO]; · iexists _; iexact HO
  isplitl [HS]; · iexact HS
  isplitl [HP]; · iexact HP
  isplitl [HL]; · iexact HL
  isplitl [HN]; · iexact HN
  isplitl [HR]; · iexact HR
  isplitl [HG]; · iexact HG
  isplitl [HX]; · iexact HX
  iexact HU

end RingSum
-- ==== Proof.Turns.lean ====
module
public import proofs.«01_k».proof.Proof.Start

/-!
# The transfers

The steps of the transfers, their landing and their own waits, on the state.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

/-! ## The pieces among the other pieces -/

theorem srcI_congr {c : Dev nD} {x : ℕ} {h h' l l' r r' : Prop} [Decidable h] [Decidable h'] [Decidable l] [Decidable l']
    [Decidable r] [Decidable r'] (hh : h ↔ h') (hl : l ↔ l') (hr : r ↔ r') : srcI m c x h l r = srcI m c x h' l' r' := by
  unfold srcI; simp only [hh, hl, hr]

/-- The pieces, by counters. -/
abbrev pieces (c : Dev nD) (e w s sw o ow : ℕ) : sProp 𝕄 :=
  fam 56 fun x => srcI m c x (Has e w x) (Lft s sw x) (Rgt o ow x)

/-- One piece taken out of the pieces, the counters changed by what concerns it only. -/
theorem pieces_at {c : Dev nD} {e w s sw o ow e' w' s' sw' o' ow' : ℕ} (x : ℕ) (hx : x < 56)
    (h : ∀ y, y < 56 → y ≠ x → (Has e w y ↔ Has e' w' y) ∧ (Lft s sw y ↔ Lft s' sw' y) ∧ (Rgt o ow y ↔ Rgt o' ow' y)) :
    pieces m c e w s sw o ow ⊢ iprop(srcI m c x (Has e w x) (Lft s sw x) (Rgt o ow x)
      ∗ (srcI m c x (Has e' w' x) (Lft s' sw' x) (Rgt o' ow' x) -∗ pieces m c e' w' s' sw' o' ow')) :=
  fam_at (n := 56) (fun x => srcI m c x (Has e w x) (Lft s sw x) (Rgt o ow x))
    (fun x => srcI m c x (Has e' w' x) (Lft s' sw' x) (Rgt o' ow' x)) x hx fun y hy hne =>
      srcI_congr m (h y hy hne).1 (h y hy hne).2.1 (h y hy hne).2.2

/-- The pieces do not see counters that concern none of them. -/
theorem pieces_congr {c : Dev nD} {e w s sw o ow e' w' s' sw' o' ow' : ℕ}
    (h : ∀ y, y < 56 → (Has e w y ↔ Has e' w' y) ∧ (Lft s sw y ↔ Lft s' sw' y) ∧ (Rgt o ow y ↔ Rgt o' ow' y)) :
    pieces m c e w s sw o ow = pieces m c e' w' s' sw' o' ow' :=
  BI.bigSep_congr fun y _ => srcI_congr m (h y.val y.isLt).1 (h y.val y.isLt).2.1 (h y.val y.isLt).2.2

/-- A piece with its value and both shares. -/
theorem srcI_both {c : Dev nD} {x : ℕ} {h l r : Prop} [Decidable h] [Decidable l] [Decidable r] (hh : h) (hl : l) (hr : r) :
    srcI m c x h l r = own c (srcM c x) fullShare (srcV m c x) := by
  unfold srcI; rw [if_pos hh, if_pos hl, if_pos hr]
  have hb := owns_halves (U := UU) (Lvl := ℕ) (Ix := Unit) (Name := ℕ) (Val := Elt F) (e := .bf16) (c : Thread nD τ) (srcM c x) fullShare (srcV m c x)
  exact (BI.equiv_iff.mp ⟨hb.1, hb.2⟩).symm

theorem srcM_land (c : Dev nD) {w : ℕ} (h : 24 ≤ w) : landM c w = srcM c (w + 8) := by
  unfold landM srcM; rw [if_neg (by omega), if_neg (by omega), if_neg (by omega)]

/-! ## Landed transfers -/

theorem wait_recv {α : Type} {Q : α → sProp 𝕄} {c : Dev nD} {w s : ℕ}
    {spa spb : Space} {sha shb : Shape} {ea eb : EltTy} {src : Memref sig .tc spa sha ea} {dest : Memref sig .tc spb shb eb}
    {h1 h2} {k : PUnit → Prog (TpuEff nD τ sig (Elt F) Λ₀ .tc) α}
    (hw : w < s) (hs : s ≤ 48) (hN : dest.view.dmaCredit = N) :
    iprop(ctx m K ∗ cred (tallyAt (cell c (recvSem w)) () N) ∗ (∃ W, owes (c : Thread nD τ) (owed c 3 s) W) ∗ atPos ER (cell c (recvSem w)) 0 ∅ 0)
      ⊢ iprop((((∃ W, owes (c : Thread nD τ) (owed c 3 s) W) ∗ semVal (cell c (recvSem w)) 0
            ∗ own c (landM c w) fullShare (landV m c w)) -∗ WP c (k ⟨⟩) Q)
        -∗ WP c (.op (.waitDma2 (recvSem w) src dest h1 h2) k) Q) := by
  have hw48 : w < 48 := by omega
  have hh := wait_own m K (Q := Q) c (src := src) (dest := dest) (q := recvSem w) (h1 := h1) (h2 := h2) (k := k) N hN (by rw [use_recv hw48]; rfl) s
    (by rw [lv_recv c hw48]; omega)
  rw [use_recv hw48] at hh
  exact hh

theorem recv_at {c : Dev nD} {w : ℕ} (hw : w < 48) :
    fam 48 (recvI m c w) ⊢ iprop((cred (tallyAt (cell c (recvSem w)) () N) ∗ atPos ER (cell c (recvSem w)) 0 ∅ 0)
      ∗ ((semVal (cell c (recvSem w)) 0 ∗ (if w < 24 then own c (landM c w) fullShare (landV m c w) else iprop(emp)))
        -∗ fam 48 (recvI m c (w + 1)))) := by
  have e1 : recvI m c w w = iprop(cred (tallyAt (cell c (recvSem w)) () N) ∗ atPos ER (cell c (recvSem w)) 0 ∅ 0) := by
    unfold recvI; rw [if_neg (lt_irrefl _)]
  have e2 : recvI m c (w + 1) w
      = iprop(semVal (cell c (recvSem w)) 0 ∗ (if w < 24 then own c (landM c w) fullShare (landV m c w) else iprop(emp))) := by
    unfold recvI; rw [if_pos (Nat.lt_succ_self _)]
  have hf := fam_at (n := 48) (recvI m c w) (recvI m c (w + 1)) w hw fun j hj hne => by
    unfold recvI; simp only [lt_succ_iff_of_ne hne]
  rw [e1, e2] at hf
  exact hf

/-- A transfer of the first three hops is awaited: it landed in the receive buffer. -/
theorem step_recv_add {α : Type} {Q : α → sProp 𝕄} {c : Dev nD} {l e w s o sw ow : ℕ}
    {spa spb : Space} {sha shb : Shape} {ea eb : EltTy} {src : Memref sig .tc spa sha ea} {dest : Memref sig .tc spb shb eb}
    {q : DmaSem sig} {h1 h2} {k : PUnit → Prog (TpuEff nD τ sig (Elt F) Λ₀ .tc) α}
    (hw : w < s) (hs : s ≤ 48) (hw' : w < 24) (hN : dest.view.dmaCredit = N) (hq : q = recvSem w)
    (H : state m K c 3 4 l e (w + 1) s o sw ow ⊢ WP c (k ⟨⟩) Q) :
    state m K c 3 4 l e w s o sw ow ⊢ WP c (.op (.waitDma2 q src dest h1 h2) k) Q := by
  subst hq
  have hp : pieces m c e w s sw o ow = pieces m c e (w + 1) s sw o ow := pieces_congr m fun y hy =>
    ⟨by show (if _ then _ else _) ↔ (if _ then _ else _); split_ifs <;> omega, Iff.rfl, Iff.rfl⟩
  have hr := recv_at m (c := c) (w := w) (by omega)
  rw [if_pos hw'] at hr
  conv_lhs => unfold state
  iintro ⟨#Hctx, HO, HS, HD, HL, HN, HR, HG, HX, HU⟩
  ihave HX := (Entails.of_eq hp) $$ HX
  ihave HR := hr $$ HR
  icases HR with ⟨⟨Hc, Hat⟩, Hback⟩
  iapply (wait_recv m K hw hs hN) $$ [HO Hc Hat]
  · isplitr; · iexact Hctx
    isplitl [Hc]; · iexact Hc
    isplitl [HO]; · iexact HO
    iexact Hat
  iintro ⟨HO, Hz, Hown⟩
  ihave HR := Hback $$ [Hz Hown]
  · isplitl [Hz]; · iexact Hz
    iexact Hown
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-- A transfer of the last three hops is awaited: it landed in the gathered block, as a finished piece. -/
theorem step_recv_pass {α : Type} {Q : α → sProp 𝕄} {c : Dev nD} {l e w s o sw ow : ℕ}
    {spa spb : Space} {sha shb : Shape} {ea eb : EltTy} {src : Memref sig .tc spa sha ea} {dest : Memref sig .tc spb shb eb}
    {q : DmaSem sig} {h1 h2} {k : PUnit → Prog (TpuEff nD τ sig (Elt F) Λ₀ .tc) α}
    (hw : w < s) (hs : s ≤ 48) (hw' : 24 ≤ w) (hs' : s ≤ w + 8) (ho : o ≤ cix (w + 8)) (hN : dest.view.dmaCredit = N) (hq : q = recvSem w)
    (H : state m K c 3 4 l e (w + 1) s o sw ow ⊢ WP c (k ⟨⟩) Q) :
    state m K c 3 4 l e w s o sw ow ⊢ WP c (.op (.waitDma2 q src dest h1 h2) k) Q := by
  subst hq
  have hp := pieces_at m (c := c) (e := e) (w := w) (s := s) (sw := sw) (o := o) (ow := ow) (e' := e) (w' := w + 1) (s' := s) (sw' := sw) (o' := o) (ow' := ow)
    (w + 8) (by omega) fun y hy hne =>
      ⟨by show (if _ then _ else _) ↔ (if _ then _ else _); split_ifs <;> omega, Iff.rfl, Iff.rfl⟩
  have e2 : srcI m c (w + 8) (Has e (w + 1) (w + 8)) (Lft s sw (w + 8)) (Rgt o ow (w + 8)) = own c (landM c w) fullShare (landV m c w) := by
    rw [srcI_both m (by show (if _ then _ else _); rw [if_neg (by omega)]; omega) (by show ¬ _; omega) (by show ¬ _; omega),
      srcV_pass m c w hw', srcM_land c hw']
  rw [e2] at hp
  have hr := recv_at m (c := c) (w := w) (by omega)
  rw [if_neg (by omega)] at hr
  conv_lhs => unfold state
  iintro ⟨#Hctx, HO, HS, HD, HL, HN, HR, HG, HX, HU⟩
  ihave HX := hp $$ HX
  icases HX with ⟨-, HXb⟩
  ihave HR := hr $$ HR
  icases HR with ⟨⟨Hc, Hat⟩, Hback⟩
  iapply (wait_recv m K hw hs hN) $$ [HO Hc Hat]
  · isplitr; · iexact Hctx
    isplitl [Hc]; · iexact Hc
    isplitl [HO]; · iexact HO
    iexact Hat
  iintro ⟨HO, Hz, Hown⟩
  ihave HR := Hback $$ [Hz]
  · isplitl [Hz]; · iexact Hz
    iempintro
  ihave HX := HXb $$ Hown
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-! ## Transfers sent -/

/-- Transfer `s` is issued. -/
theorem step_send {α : Type} {Q : α → sProp 𝕄} {c n : Dev nD} {l e w s o sw ow : ℕ}
    {src dest : Memref sig .tc .vmem S256x512 .bf16} {qs qr : DmaSem sig}
    {hsc : (dest : Memref sig (Dev.tc n : Thread nD τ).2.kind .vmem S256x512 .bf16).view.ref.isScScratch = false}
    {hsrc : src.view.WordExact} {hdst : dest.view.WordExact}
    {hsem : DmaTarget.Typed .vmem (.dma qr) (.remote (p := (c : Thread nD τ).2) (Dev.tc n : Thread nD τ) dest (.dma qs) hsc)}
    {k : PUnit → Prog (TpuEff nD τ sig (Elt F) Λ₀ .tc) α}
    (hs : s < 48) (hsw : sw ≤ s) (hhas : Has e w s) (hn : n = dst s c) (hS : src = srcM c s) (hD : dest = landM (dst s c) s)
    (hqs : qs = sendSem s) (hqr : qr = recvSem s)
    (H : state m K c 3 4 l e w (s + 1) o sw ow ⊢ WP c (k ⟨⟩) Q) :
    state m K c 3 4 l e w s o sw ow
      ⊢ WP c (.op (.enqueueDma src (.remote (Dev.tc n : Thread nD τ) dest (.dma qs) hsc) (.dma qr) hsrc hdst hsem) k) Q := by
  subst hn
  subst hS
  subst hD
  subst hqs
  subst hqr
  have hp := pieces_at m (c := c) (e := e) (w := w) (s := s) (sw := sw) (o := o) (ow := ow) (e' := e) (w' := w) (s' := s + 1) (sw' := sw) (o' := o) (ow' := ow)
    s (by omega) fun y hy hne => ⟨Iff.rfl, by show ¬ _ ↔ ¬ _; omega, Iff.rfl⟩
  have e1 : srcI m c s (Has e w s) (Lft s sw s) (Rgt o ow s)
      = iprop(own c (srcM c s) fullShare.left (srcV m c s) ∗ (if Rgt o ow s then own c (srcM c s) fullShare.right (srcV m c s) else iprop(emp))) := by
    unfold srcI; rw [if_pos hhas, if_pos (by show ¬ _; omega)]
  have e2 : srcI m c s (Has e w s) (Lft (s + 1) sw s) (Rgt o ow s)
      = iprop(emp ∗ (if Rgt o ow s then own c (srcM c s) fullShare.right (srcV m c s) else iprop(emp))) := by
    unfold srcI; rw [if_pos hhas, if_neg (by show ¬ ¬ _; omega)]
  rw [e1, e2] at hp
  have f1 : sendI (F := F) c s sw s = iprop(dutyTok ER (cell c (sendSem s)) 0 false ∗ dutyTok ER (cell (dst s c) (recvSem s)) 0 false
    ∗ atPos ER (cell c (sendSem s)) 0 ∅ 0) := by
    unfold sendI; rw [if_neg (lt_irrefl _)]
  have f2 : sendI (F := F) c (s + 1) sw s = iprop(cred (tallyAt (cell c (sendSem s)) () N) ∗ atPos ER (cell c (sendSem s)) 0 ∅ 0) := by
    unfold sendI; rw [if_pos (Nat.lt_succ_self _), if_neg (by omega)]
  have hf := fam_at (n := 48) (sendI (F := F) c s sw) (sendI (F := F) c (s + 1) sw) s hs fun j hj hne => by
    unfold sendI; simp only [lt_succ_iff_of_ne hne]
  rw [f1, f2] at hf
  have hv : landV m (dst s c) s = srcV m c s := by unfold landV; rw [fro_dst]
  have hd : landI (F := F) c 3 s ⊢ iprop(raw (dst s c) (landM (dst s c) s) ∗ (emp -∗ landI (F := F) c 3 (s + 1))) := by
    unfold landI
    rw [if_neg (by decide), if_neg (by decide)]
    have := fam_at (n := 48) (fun j => if j < s then iprop(emp) else raw (F := F) (dst j c) (landM (dst j c) j))
      (fun j => if j < s + 1 then iprop(emp) else raw (F := F) (dst j c) (landM (dst j c) j)) s hs fun j hj hne => by
        simp only [lt_succ_iff_of_ne hne]
    simp only [if_neg (lt_irrefl s), if_pos (Nat.lt_succ_self s)] at this
    exact this
  conv_lhs => unfold state
  iintro ⟨#Hctx, ⟨%W, HO⟩, HS, HD, HL, HN, HR, HG, HX, HU⟩
  ihave HX := hp $$ HX
  icases HX with ⟨⟨Hl, Hr⟩, HXb⟩
  ihave HN := hf $$ HN
  icases HN with ⟨⟨Ht1, Ht2, Hat⟩, HNb⟩
  ihave HD := hd $$ HD
  icases HD with ⟨Hland, HDb⟩
  ihave HD := HDb $$ []
  · iempintro
  iapply (send_own m K c (dst s c) (src := srcM c s) (dest := landM (dst s c) s) (qs := sendSem s) (qr := recvSem s)
    fullShare.left (srcV m c s) N (landM_credit _ _) (by rw [use_send hs]; rfl) (by rw [use_recv hs]; rfl)
    (owed c 3 s) (owed c 3 (s + 1)) (by rw [owed_three, owed_three]; exact owed_send c s hs) W
    (by rw [use_send hs]; exact .rfl)
    (by rw [use_recv hs]; exact Entails.of_eq (congrArg (fun V => own (F := F) (dst s c) (landM (dst s c) s) fullShare V) hv.symm))) $$ [Hl Hland HO Ht1 Ht2]
  · isplitr; · iexact Hctx
    isplitl [Hl]; · iexact Hl
    isplitl [Hland]; · iexact Hland
    isplitl [HO]; · iexact HO
    isplitl [Ht1]; · iexact Ht1
    iexact Ht2
  iintro ⟨Hc, HO⟩
  ihave HN := HNb $$ [Hc Hat]
  · isplitl [Hc]; · iexact Hc
    iexact Hat
  ihave HX := HXb $$ [Hr]
  · isplitr; · iempintro
    iexact Hr
  iapply H
  unfold state
  isplitr; · iexact Hctx
  isplitl [HO]; · iexists W; iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-- The device's own transfer `sw` is awaited: the share of its source is back. -/
theorem step_sent {α : Type} {Q : α → sProp 𝕄} {c : Dev nD} {l sw o ow : ℕ}
    {spa spb : Space} {sha shb : Shape} {ea eb : EltTy} {src : Memref sig .tc spa sha ea} {dest : Memref sig .tc spb shb eb}
    {q : DmaSem sig} {h1 h2} {k : PUnit → Prog (TpuEff nD τ sig (Elt F) Λ₀ .tc) α}
    (hsw : sw < 48) (hN : dest.view.dmaCredit = N) (hq : q = sendSem sw)
    (H : state m K c 3 4 l 32 48 48 o (sw + 1) ow ⊢ WP c (k ⟨⟩) Q) :
    state m K c 3 4 l 32 48 48 o sw ow ⊢ WP c (.op (.waitDma2 q src dest h1 h2) k) Q := by
  subst hq
  have hhas : Has 32 48 sw := by show (if _ then _ else _); split_ifs <;> omega
  have hp := pieces_at m (c := c) (e := 32) (w := 48) (s := 48) (sw := sw) (o := o) (ow := ow) (e' := 32) (w' := 48) (s' := 48) (sw' := sw + 1) (o' := o) (ow' := ow)
    sw (by omega) fun y hy hne => ⟨Iff.rfl, by show ¬ _ ↔ ¬ _; omega, Iff.rfl⟩
  have e1 : srcI m c sw (Has 32 48 sw) (Lft 48 sw sw) (Rgt o ow sw)
      = iprop(emp ∗ (if Rgt o ow sw then own c (srcM c sw) fullShare.right (srcV m c sw) else iprop(emp))) := by
    unfold srcI; rw [if_pos hhas, if_neg (by show ¬ ¬ _; omega)]
  have e2 : srcI m c sw (Has 32 48 sw) (Lft 48 (sw + 1) sw) (Rgt o ow sw)
      = iprop(own c (srcM c sw) fullShare.left (srcV m c sw) ∗ (if Rgt o ow sw then own c (srcM c sw) fullShare.right (srcV m c sw) else iprop(emp))) := by
    unfold srcI; rw [if_pos hhas, if_pos (by show ¬ _; omega)]
  rw [e1, e2] at hp
  have f1 : sendI (F := F) c 48 sw sw = iprop(cred (tallyAt (cell c (sendSem sw)) () N) ∗ atPos ER (cell c (sendSem sw)) 0 ∅ 0) := by
    unfold sendI; rw [if_pos hsw, if_neg (lt_irrefl _)]
  have f2 : sendI (F := F) c 48 (sw + 1) sw = semVal (cell c (sendSem sw)) 0 := by
    unfold sendI; rw [if_pos hsw, if_pos (Nat.lt_succ_self _)]
  have hf := fam_at (n := 48) (sendI (F := F) c 48 sw) (sendI (F := F) c 48 (sw + 1)) sw hsw fun j hj hne => by
    unfold sendI; simp only [lt_succ_iff_of_ne hne]
  rw [f1, f2] at hf
  have hlv : lv (cell c (sendSem sw)) () < 48 + 2 := by
    show (match useOf (sendSem sw).val with | .recv j => j + 2 | _ => 0) < _
    rw [use_send hsw]; exact Nat.succ_pos _
  have hw := wait_own m K (Q := Q) c (src := src) (dest := dest) (q := sendSem sw) (h1 := h1) (h2 := h2) (k := k) N hN (by rw [use_send hsw]; rfl) 48 hlv
  rw [use_send hsw] at hw
  conv_lhs => unfold state
  iintro ⟨#Hctx, HO, HS, HD, HL, HN, HR, HG, HX, HU⟩
  ihave HX := hp $$ HX
  icases HX with ⟨⟨-, Hr⟩, HXb⟩
  ihave HN := hf $$ HN
  icases HN with ⟨⟨Hc, Hat⟩, HNb⟩
  iapply hw $$ [HO Hc Hat]
  · isplitr; · iexact Hctx
    isplitl [Hc]; · iexact Hc
    isplitl [HO]; · iexact HO
    iexact Hat
  iintro ⟨HO, Hz, Hpay⟩
  ihave Hpay := (show dmaPay m c (.send sw) ⊢ own c (srcM c sw) fullShare.left (srcV m c sw) from .rfl) $$ Hpay
  ihave HN := HNb $$ Hz
  ihave HX := HXb $$ [Hpay Hr]
  · isplitl [Hpay]; · iexact Hpay
    iexact Hr
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

end RingSum
-- ==== Proof.Outs.lean ====
module
public import proofs.«01_k».proof.Proof.Turns

/-!
# The output copies

The steps of the output copies and their waits, on the state.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

/-! ## Four pieces at once -/

/-- A family's members at `g` taken out, and what puts a changed family together again. -/
theorem fam_some {n k : ℕ} (Φ Φ' : ℕ → sProp 𝕄) (g : Fin k → ℕ) (hg : ∀ p, g p < n) (hinj : ∀ p p', g p = g p' → p = p')
    (h : ∀ j, j < n → (∀ p, j ≠ g p) → Φ j = Φ' j) :
    fam n Φ ⊢ iprop((bigSep Finset.univ fun p => Φ (g p)) ∗ ((bigSep Finset.univ fun p => Φ' (g p)) -∗ fam n Φ')) := by
  let em : Fin k ↪ Fin n := ⟨fun p => ⟨g p, hg p⟩, fun p p' e => hinj p p' (congrArg Fin.val e)⟩
  have hs : (Finset.univ.map em : Finset (Fin n)) ⊆ Finset.univ := Finset.subset_univ _
  have m1 : bigSep (Finset.univ.map em) (fun j : Fin n => Φ j.val) = bigSep Finset.univ fun p => Φ (g p) := BI.bigSep_map em
  have m2 : bigSep (Finset.univ.map em) (fun j : Fin n => Φ' j.val) = bigSep Finset.univ fun p => Φ' (g p) := BI.bigSep_map em
  have e1 : fam n Φ = iprop((bigSep Finset.univ fun p => Φ (g p)) ∗ bigSep (Finset.univ \ Finset.univ.map em) fun j : Fin n => Φ j.val) := by
    rw [← m1]; exact BI.bigSep_sdiff_split hs
  have e2 : fam n Φ' = iprop((bigSep Finset.univ fun p => Φ' (g p)) ∗ bigSep (Finset.univ \ Finset.univ.map em) fun j : Fin n => Φ' j.val) := by
    rw [← m2]; exact BI.bigSep_sdiff_split hs
  have e3 : (bigSep (Finset.univ \ Finset.univ.map em) fun j : Fin n => Φ j.val) = bigSep (Finset.univ \ Finset.univ.map em) fun j : Fin n => Φ' j.val :=
    BI.bigSep_congr fun j hj => h j.val j.isLt fun p e => (Finset.mem_sdiff.mp hj).2
      (Finset.mem_map.mpr ⟨p, Finset.mem_univ _, Fin.ext e.symm⟩)
  rw [e1, e2, e3]
  iintro ⟨H, Hr⟩
  isplitl [H]; · iexact H
  iintro H'
  isplitl [H']; · iexact H'
  iexact Hr

theorem cix_colPiece {k p : ℕ} (hp : p < 4) : cix (colPiece k p) = k := by unfold cix colPiece; omega

theorem colPiece_of_cix {x : ℕ} (h : 24 ≤ x) : x = colPiece (cix x) (x % 8 / 2) := by unfold cix colPiece; omega

/-- The shares of a half chunk's pieces that its output copy takes. -/
theorem col_right (c : Dev nD) {k : ℕ} (hk : k < 8) :
    (bigSep Finset.univ fun p : Fin 4 => own c (srcM c (colPiece k p.val)) fullShare.right (srcV m c (colPiece k p.val)))
      = own c (clM c k) fullShare.right (coV m c k) := by
  refine Eq.trans (BI.bigSep_congr fun p _ => ?_) (col_own c k fullShare.right (VV m)).symm
  have h1 : 24 ≤ colPiece k p.val := by unfold colPiece; omega
  have h2 : colPiece k p.val < 56 := by have := p.isLt; unfold colPiece; omega
  have h3 : srcM c (colPiece k p.val) = ovM c (colPiece k p.val) := by unfold srcM; rw [if_neg (by omega), if_neg (by omega)]
  rw [h3, srcV_result m c _ h1 h2]
  rfl

/-- A half chunk's pieces with the right shares here, and without. -/
theorem col_pieces (c : Dev nD) {e w s sw o ow k : ℕ} (hk : k < 8) (hhas : ∀ p : Fin 4, Has e w (colPiece k p.val))
    (hr : ∀ p : Fin 4, Rgt o ow (colPiece k p.val)) :
    (bigSep Finset.univ fun p : Fin 4 => srcI m c (colPiece k p.val) (Has e w (colPiece k p.val)) (Lft s sw (colPiece k p.val)) (Rgt o ow (colPiece k p.val)))
      = iprop((bigSep Finset.univ fun p : Fin 4 => if Lft s sw (colPiece k p.val) then own c (srcM c (colPiece k p.val)) fullShare.left (srcV m c (colPiece k p.val)) else iprop(emp))
        ∗ own c (clM c k) fullShare.right (coV m c k)) := by
  rw [← col_right m c hk, ← bigSep_sep']
  refine BI.bigSep_congr fun p _ => ?_
  unfold srcI; rw [if_pos (hhas p), if_pos (hr p)]

theorem col_pieces_lent (c : Dev nD) {e w s sw o ow k : ℕ} (hk : k < 8) (hhas : ∀ p : Fin 4, Has e w (colPiece k p.val))
    (hr : ∀ p : Fin 4, ¬ Rgt o ow (colPiece k p.val)) :
    (bigSep Finset.univ fun p : Fin 4 => srcI m c (colPiece k p.val) (Has e w (colPiece k p.val)) (Lft s sw (colPiece k p.val)) (Rgt o ow (colPiece k p.val)))
      = (bigSep Finset.univ fun p : Fin 4 => if Lft s sw (colPiece k p.val) then own c (srcM c (colPiece k p.val)) fullShare.left (srcV m c (colPiece k p.val)) else iprop(emp)) := by
  refine BI.bigSep_congr fun p _ => ?_
  unfold srcI; rw [if_pos (hhas p), if_neg (hr p)]; exact BI.equiv_iff.mp BI.sep_emp

theorem pieces_some {c : Dev nD} {e w s sw o ow o' ow' : ℕ} {k : ℕ} (hk : k < 8)
    (h : ∀ y, y < 56 → (∀ p : Fin 4, y ≠ colPiece k p.val) → (Rgt o ow y ↔ Rgt o' ow' y)) :
    pieces m c e w s sw o ow ⊢ iprop((bigSep Finset.univ fun p : Fin 4 => srcI m c (colPiece k p.val) (Has e w (colPiece k p.val)) (Lft s sw (colPiece k p.val)) (Rgt o ow (colPiece k p.val)))
      ∗ ((bigSep Finset.univ fun p : Fin 4 => srcI m c (colPiece k p.val) (Has e w (colPiece k p.val)) (Lft s sw (colPiece k p.val)) (Rgt o' ow' (colPiece k p.val)))
        -∗ pieces m c e w s sw o' ow')) :=
  fam_some (n := 56) (k := 4) (fun x => srcI m c x (Has e w x) (Lft s sw x) (Rgt o ow x))
    (fun x => srcI m c x (Has e w x) (Lft s sw x) (Rgt o' ow' x)) (fun p => colPiece k p.val)
    (fun p => by have := p.isLt; unfold colPiece; omega) (fun p p' e => by
      unfold colPiece at e; refine Fin.ext ?_; omega)
    fun y hy hne => srcI_congr m Iff.rfl Iff.rfl (h y hy hne)

/-- A piece other than those of half chunk `k` belongs to another. -/
theorem cix_ne {k y : ℕ} (hne : ∀ p : Fin 4, y ≠ colPiece k p.val) (h : 24 ≤ y) : cix y ≠ k := by
  rintro rfl
  exact hne ⟨y % 8 / 2, by omega⟩ (colPiece_of_cix h)

/-! ## The output copies -/

/-- Output copy `o` is issued. -/
theorem step_out {α : Type} {Q : α → sProp 𝕄} {c : Dev nD} {l w s o sw : ℕ} (off : Dev nD → Fin 2 → ℕ)
    {inb inb'} {q : DmaSem sig} {hsrc hdst hsem}
    {k : PUnit → Prog (TpuEff nD τ sig (Elt F) Λ₀ .tc) α}
    (ho : o < 8) (hw : 24 + 8 * (o / 2) ≤ w) (hoff : ∀ c', off c' = coOff c' o) (hq : q = outSem o)
    (H : state m K c 3 4 l 32 w s (o + 1) sw 0 ⊢ WP c (k ⟨⟩) Q) :
    state m K c 3 4 l 32 w s o sw 0 ⊢ WP c (.op (.enqueueDma
      ((Memref.whole cc0_scratch4).slice (Rect.unit (s := S4096x1024) (off c) S1024x512.size inb) (fun _ => rfl))
      (.here ((Memref.whole main_v1).slice (Rect.unit (s := S4096x1024) (off c) S1024x512.size inb') (fun _ => rfl)))
      (.dma q) hsrc hdst hsem) k) Q := by
  obtain rfl : off = fun c' => coOff c' o := funext hoff
  subst hq
  have hhas : ∀ p : Fin 4, Has 32 w (colPiece o p.val) := fun p => by
    have := p.isLt
    show (if _ then _ else _); unfold colPiece; split_ifs <;> omega
  have hp := pieces_some m (c := c) (e := 32) (w := w) (s := s) (sw := sw) (o := o) (ow := 0) (o' := o + 1) (ow' := 0) ho fun y hy hne => by
    show ¬ _ ↔ ¬ _
    by_cases h24 : 24 ≤ y
    · have := cix_ne hne h24; omega
    · omega
  rw [col_pieces m c ho hhas fun p => by show ¬ _; rw [cix_colPiece p.isLt]; omega,
    col_pieces_lent m c ho hhas fun p => by
      show ¬ ¬ _; rw [cix_colPiece p.isLt, not_not]; exact ⟨by unfold colPiece; omega, Nat.lt_succ_self _, Nat.zero_le _⟩] at hp
  have f1 : outI m c o 0 o = iprop(dutyTok ER (cell c (outSem o)) 0 false ∗ atPos ER (cell c (outSem o)) 0 ∅ 0 ∗ raw c (ouM c o)) := by
    unfold outI; rw [if_neg (lt_irrefl _)]
  have f2 : outI m c (o + 1) 0 o = iprop(cred (tallyAt (cell c (outSem o)) () NO) ∗ atPos ER (cell c (outSem o)) 0 ∅ 0) := by
    unfold outI; rw [if_pos (Nat.lt_succ_self _), if_neg (Nat.not_lt_zero _)]
  have hf := fam_at (n := 8) (outI m c o 0) (outI m c (o + 1) 0) o ho fun j hj hne => by
    unfold outI; simp only [lt_succ_iff_of_ne hne]
  rw [f1, f2] at hf
  conv_lhs => unfold state
  iintro ⟨#Hctx, HO, HS, HD, HL, HN, HR, HG, HX, HU⟩
  ihave HX := hp $$ HX
  icases HX with ⟨⟨Hl, Hcol⟩, HXb⟩
  ihave HX := HXb $$ Hl
  ihave HU := hf $$ HU
  icases HU with ⟨⟨Htok, Hat, Hraw⟩, Hback⟩
  iapply (copy_own m K c (src := clM c o) (dest := ouM c o) fullShare.right (coV m c o) NO rfl (by rw [use_out ho]; rfl)
    (by rw [use_out ho]; exact .rfl)) $$ [Htok Hraw Hcol]
  · isplitr; · iexact Hctx
    isplitl [Hcol]; · iexact Hcol
    isplitl [Hraw]; · iexact Hraw
    iexact Htok
  iintro Hc
  ihave HU := Hback $$ [Hc Hat]
  · isplitl [Hc]; · iexact Hc
    iexact Hat
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-- Output copy `ow` is awaited. -/
theorem step_outed {α : Type} {Q : α → sProp 𝕄} {c : Dev nD} {l ow : ℕ}
    {spa spb : Space} {sha shb : Shape} {ea eb : EltTy} {src : Memref sig .tc spa sha ea} {dest : Memref sig .tc spb shb eb}
    {q : DmaSem sig} {h1 h2} {k : PUnit → Prog (TpuEff nD τ sig (Elt F) Λ₀ .tc) α}
    (ho : ow < 8) (hN : dest.view.dmaCredit = NO) (hq : q = outSem ow)
    (H : state m K c 3 4 l 32 48 48 8 48 (ow + 1) ⊢ WP c (k ⟨⟩) Q) :
    state m K c 3 4 l 32 48 48 8 48 ow ⊢ WP c (.op (.waitDma2 q src dest h1 h2) k) Q := by
  subst hq
  have hhas : ∀ p : Fin 4, Has 32 48 (colPiece ow p.val) := fun p => by
    have := p.isLt
    show (if _ then _ else _); unfold colPiece; split_ifs <;> omega
  have hp := pieces_some m (c := c) (e := 32) (w := 48) (s := 48) (sw := 48) (o := 8) (ow := ow) (o' := 8) (ow' := ow + 1) ho fun y hy hne => by
    show ¬ _ ↔ ¬ _
    by_cases h24 : 24 ≤ y
    · have := cix_ne hne h24; omega
    · omega
  rw [col_pieces_lent m c ho hhas fun p => by
      show ¬ ¬ _; rw [cix_colPiece p.isLt, not_not]; exact ⟨by unfold colPiece; omega, ho, le_refl _⟩,
    col_pieces m c ho hhas fun p => by show ¬ _; rw [cix_colPiece p.isLt]; omega] at hp
  have f1 : outI m c 8 ow ow = iprop(cred (tallyAt (cell c (outSem ow)) () NO) ∗ atPos ER (cell c (outSem ow)) 0 ∅ 0) := by
    unfold outI; rw [if_pos ho, if_neg (lt_irrefl _)]
  have f2 : outI m c 8 (ow + 1) ow = iprop(semVal (cell c (outSem ow)) 0 ∗ own c (ouM c ow) fullShare (coV m c ow)) := by
    unfold outI; rw [if_pos ho, if_pos (Nat.lt_succ_self _)]
  have hf := fam_at (n := 8) (outI m c 8 ow) (outI m c 8 (ow + 1)) ow ho fun j hj hne => by
    unfold outI; simp only [lt_succ_iff_of_ne hne]
  rw [f1, f2] at hf
  have hlv : lv (cell c (outSem ow)) () < 48 + 2 := by
    show (match useOf (outSem ow).val with | .recv j => j + 2 | _ => 0) < _
    rw [use_out ho]; exact Nat.succ_pos _
  have hw := wait_own m K (Q := Q) c (src := src) (dest := dest) (q := outSem ow) (h1 := h1) (h2 := h2) (k := k) NO hN (by rw [use_out ho]; rfl) 48 hlv
  rw [use_out ho] at hw
  conv_lhs => unfold state
  iintro ⟨#Hctx, HO, HS, HD, HL, HN, HR, HG, HX, HU⟩
  ihave HX := hp $$ HX
  icases HX with ⟨Hl, HXb⟩
  ihave HU := hf $$ HU
  icases HU with ⟨⟨Hc, Hat⟩, Hback⟩
  iapply hw $$ [HO Hc Hat]
  · isplitr; · iexact Hctx
    isplitl [Hc]; · iexact Hc
    isplitl [HO]; · iexact HO
    iexact Hat
  iintro ⟨HO, Hz, Hpay⟩
  ihave Hpay := (show dmaPay m c (.out ow) ⊢ iprop(own c (ouM c ow) fullShare (coV m c ow) ∗ own c (clM c ow) fullShare.right (coV m c ow)) from .rfl) $$ Hpay
  icases Hpay with ⟨Hou, Hcl⟩
  ihave HU := Hback $$ [Hz Hou]
  · isplitl [Hz]; · iexact Hz
    iexact Hou
  ihave HX := HXb $$ [Hl Hcl]
  · isplitl [Hl]; · iexact Hl
    iexact Hcl
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

end RingSum
-- ==== Proof.Sums.lean ====
module
public import proofs.«01_k».proof.Proof.Outs
public import Idealize.ShloMosaic.Lib.Pipeline.Value

/-!
# The sums

The steps that read the copied argument and the landed pieces and write the sums, on the state.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

/-- A load from a slice of unknown contents. -/
theorem load_slice_raw {α : Type} {Q : α → sProp 𝕄} (c : Dev nD) {cs : CoreSpace} {sh : Shape} {e : EltTy} {M : Memref sig .tc cs sh e} {r : Rect sh}
    {hr : ∀ a, r.stride a = 1}
    {hl : M.view.LoadsAt r.toLoadRect} {k : (r.shape.Idx → Elt F e) → Prog (TpuEff nD τ sig (Elt F) Λ₀ .tc) α} :
    (raw c (M.slice r hr))
      ⊢ iprop((∀ V, raw c (M.slice r hr) -∗ WP c (k V) Q) -∗ WP c (.op (.load M r.toLoadRect hl) k) Q) := by
  iintro Hs Hk
  ihave Hs := raw_elim c (M.slice r hr) $$ Hs
  icases Hs with ⟨%V, Hs⟩
  iapply (load_own c (M := M) (r := r) (hr := hr) fullShare V) $$ Hs
  iintro Hs
  ihave Hs := raw_intro c (M.slice r hr) V $$ Hs
  ispecialize Hk $$ %V
  iapply Hk $$ Hs

/-! ## Reading what is held -/

/-- The first rows of the copied argument are read. -/
theorem step_read_rows {α : Type} {Q : α → sProp 𝕄} {c : Dev nD} {b i l e w s o sw ow : ℕ} (off : Dev nD → Fin 2 → ℕ)
    {inb hl} {k : (S1024x1024.Idx → Elt F .f32) → Prog (TpuEff nD τ sig (Elt F) Λ₀ .tc) α}
    (hl1 : 0 < l) (hoff : ∀ c', off c' = ldOff c' 0)
    (H : state m K c b i l e w s o sw ow ⊢ WP c (k (ldV m c 0)) Q) :
    state m K c b i l e w s o sw ow ⊢ WP c (.op (.load (Memref.whole cc0_scratch0)
      (Rect.unit (s := S4096x1024) (off c) S1024x1024.size inb).toLoadRect hl) k) Q := by
  obtain rfl : off = fun c' => ldOff c' 0 := funext hoff
  have hf := fam_look (n := 4) (loadI m c i l) 0 (by decide)
  have e1 : loadI m c i l 0 = iprop(semVal (cell c (loadSem 0)) 0 ∗ own c (xvM c 0) fullShare (ldV m c 0) ∗ own c (agM c 0) fullShare (ldV m c 0)) := by
    unfold loadI; exact if_pos hl1
  rw [e1] at hf
  conv_lhs => unfold state
  iintro ⟨#Hctx, HO, HS, HD, HL, HN, HR, HG, HX, HU⟩
  ihave HL := hf $$ HL
  icases HL with ⟨⟨Hz, Hxv, Hag⟩, Hback⟩
  iapply (load_own c (M := Memref.whole cc0_scratch0) (r := ldR c 0) (hr := fun _ => rfl) fullShare (ldV m c 0)) $$ Hxv
  iintro Hxv
  ihave HL := Hback $$ [Hz Hxv Hag]
  · isplitl [Hz]; · iexact Hz
    isplitl [Hxv]; · iexact Hxv
    iexact Hag
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-- A piece of the copied argument is read. -/
theorem step_read_piece {α : Type} {Q : α → sProp 𝕄} {c : Dev nD} {b i l e w s o sw ow : ℕ} (x ld : ℕ) (off : Dev nD → Fin 2 → ℕ)
    {inb hl} {k : (S256x512.Idx → Elt F .f32) → Prog (TpuEff nD τ sig (Elt F) Λ₀ .tc) α}
    (hld : ld < 4) (hlw : ordW ld < l) (hoff : ∀ c', off c' = ovOff c' x) (hch : ∀ c' : Dev nD, chunk c' x = (c'.val + ld) % 4)
    (H : state m K c b i l e w s o sw ow ⊢ WP c (k (xp m c x)) Q) :
    state m K c b i l e w s o sw ow ⊢ WP c (.op (.load (Memref.whole cc0_scratch0)
      (Rect.unit (s := S4096x1024) (off c) S256x512.size inb).toLoadRect hl) k) Q := by
  obtain rfl : off = fun c' => ovOff c' x := funext hoff
  have hf := fam_look (n := 4) (loadI m c i l) ld hld
  have e1 : loadI m c i l ld = iprop(semVal (cell c (loadSem ld)) 0 ∗ own c (xvM c ld) fullShare (ldV m c ld) ∗ own c (agM c ld) fullShare (ldV m c ld)) := by
    unfold loadI; exact if_pos hlw
  rw [e1] at hf
  have hin : ∀ y : S256x512.Idx, ∃ z : S1024x1024.Idx, (ldR c ld).emb z = (ovR c x).emb y := by
    intro y
    have hy0 : (y 0).val < 256 := (y 0).isLt
    have hy1 : (y 1).val < 512 := (y 1).isLt
    refine ⟨ix2 (n0 := 1024) (n1 := 1024) ⟨256 * (x % 8 / 2) + (y 0).val, by omega⟩ ⟨512 * (x % 2) + (y 1).val, by omega⟩, ?_⟩
    funext a; fin_cases a
    · refine Fin.ext ?_
      rw [Rect.emb_apply, Rect.emb_apply]
      show 1024 * ((c.val + ld) % 4) + 1 * (256 * (x % 8 / 2) + (y 0).val) = 1024 * chunk c x + 256 * (x % 8 / 2) + 1 * (y 0).val
      rw [hch c]; omega
    · refine Fin.ext ?_
      rw [Rect.emb_apply, Rect.emb_apply]
      show 0 + 1 * (512 * (x % 2) + (y 1).val) = 512 * (x % 2) + 1 * (y 1).val
      omega
  have hset : ((Memref.whole cc0_scratch0 : Memref sig .tc .vmem S4096x1024 .f32).access (ovR c x)).set ⊆ (xvM c ld).view.set := by
    show ((Memref.whole cc0_scratch0 : Memref sig .tc .vmem S4096x1024 .f32).view.slice (ovR c x)).set
      ⊆ ((Memref.whole cc0_scratch0 : Memref sig .tc .vmem S4096x1024 .f32).view.slice (ldR c ld)).set
    rw [View.set_slice, View.set_slice]
    refine Finset.map_subset_map.mpr fun j hj => ?_
    have hj' := Rect.mem_set_unit.mp hj
    have h0 := hj' 0
    have h1 := hj' 1
    refine Rect.mem_set_unit.mpr fun a => ?_
    fin_cases a
    · change 1024 * chunk c x + 256 * (x % 8 / 2) ≤ (j 0).val ∧ (j 0).val < 1024 * chunk c x + 256 * (x % 8 / 2) + 256 at h0
      show 1024 * ((c.val + ld) % 4) ≤ (j 0).val ∧ (j 0).val < 1024 * ((c.val + ld) % 4) + 1024
      rw [hch c] at h0; omega
    · show 0 ≤ (j 1).val ∧ (j 1).val < 0 + 1024
      have hj1 : (j 1).val < 1024 := (j 1).isLt
      omega
  conv_lhs => unfold state
  iintro ⟨#Hctx, HO, HS, HD, HL, HN, HR, HG, HX, HU⟩
  ihave HL := hf $$ HL
  icases HL with ⟨⟨Hz, Hxv, Hag⟩, Hback⟩
  ihave Hxv := own_elim c (xvM c ld) fullShare (ldV m c ld) $$ Hxv
  icases Hxv with ⟨%f, %hf2, Hxv⟩
  have hv : ((Memref.whole cc0_scratch0 : Memref sig .tc .vmem S4096x1024 .f32).access (ovR c x)).read (Elt F) f = xp m c x := by
    funext y
    obtain ⟨z, hz⟩ := hin y
    have h1 := congrFun hf2 z
    have h2 : ldV m c ld z = xp m c x y := congrArg (X m c) hz
    rw [← h2, ← h1]
    show (Memref.whole cc0_scratch0 : Memref sig .tc .vmem S4096x1024 .f32).view.read (Elt F) f ((ovR c x).emb y)
      = (Memref.whole cc0_scratch0 : Memref sig .tc .vmem S4096x1024 .f32).view.read (Elt F) f ((ldR c ld).emb z)
    rw [hz]
  iapply (wp_load_rect 𝒱₀ (c : Thread nD τ) none Set.univ (m := Memref.whole cc0_scratch0) (r := ovR c x) (S := (xvM c ld).view.set) (q := fullShare) (f := f) hset) $$ Hxv
  iintro Hxv
  rw [hv]
  ihave Hxv := (own_intro c (xvM c ld) fullShare (ldV m c ld) f hf2) $$ Hxv
  ihave HL := Hback $$ [Hz Hxv Hag]
  · isplitl [Hz]; · iexact Hz
    isplitl [Hxv]; · iexact Hxv
    iexact Hag
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-- What landed by transfer `j` of the first three hops, as it is read. -/
def rsV (c : Dev nD) (j : ℕ) : FVec F S1x1x256x512 .bf16 := shapeCast S1x1x256x512 (landV m c j) shapeCasts_S256x512_S1x1x256x512

theorem own_rs (c : Dev nD) (j : ℕ) (h : j < 24) : (own c (landM c j) fullShare (landV m c j) : sProp 𝕄)
    = own c ((Memref.whole cc0_scratch3 : Memref sig .tc .vmem S2x3x1024x512 .bf16).slice (rsR j) (fun _ => rfl)) fullShare (rsV m c j) := by
  have h1 : landM c j = rsM j := if_pos h
  have h2 : landV m c j = shapeCast S256x512 (rsV m c j) shapeCasts_S1x1x256x512_S256x512 := (shapeCast_shapeCast _ _ _).symm
  rw [h1, h2]
  exact own_squeeze (e := .bf16) c _ _ _ (rsV m c j) _

/-- What landed is read. -/
theorem step_read_landed {α : Type} {Q : α → sProp 𝕄} {c : Dev nD} {b i l e w s o sw ow : ℕ} (j : ℕ) (off : Fin 4 → ℕ)
    {inb hl} {k : (S1x1x256x512.Idx → Elt F .bf16) → Prog (TpuEff nD τ sig (Elt F) Λ₀ .tc) α}
    (hj : j < 24) (hw : j < w) (hoff : off = rsOff j)
    (H : state m K c b i l e w s o sw ow ⊢ WP c (k (rsV m c j)) Q) :
    state m K c b i l e w s o sw ow ⊢ WP c (.op (.load (Memref.whole cc0_scratch3)
      (Rect.unit (s := S2x3x1024x512) off S1x1x256x512.size inb).toLoadRect hl) k) Q := by
  subst hoff
  have hf := fam_look (n := 48) (recvI m c w) j (by omega)
  have e1 : recvI m c w j = iprop(semVal (cell c (recvSem j)) 0
      ∗ own c ((Memref.whole cc0_scratch3 : Memref sig .tc .vmem S2x3x1024x512 .bf16).slice (rsR j) (fun _ => rfl)) fullShare (rsV m c j)) := by
    unfold recvI; rw [if_pos hw, if_pos hj, own_rs m c j hj]
  rw [e1] at hf
  conv_lhs => unfold state
  iintro ⟨#Hctx, HO, HS, HD, HL, HN, HR, HG, HX, HU⟩
  ihave HR := hf $$ HR
  icases HR with ⟨⟨Hz, Hrs⟩, Hback⟩
  iapply (load_own c (M := Memref.whole cc0_scratch3) (r := rsR j) (hr := fun _ => rfl) fullShare (rsV m c j)) $$ Hrs
  iintro Hrs
  ihave HR := Hback $$ [Hz Hrs]
  · isplitl [Hz]; · iexact Hz
    iexact Hrs
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-! ## Filling the pieces -/

theorem piece_raw {c : Dev nD} {e w s sw o ow x : ℕ} (h8 : 8 ≤ x) (h32 : x < 32) (he : e ≤ x) :
    srcI m c x (Has e w x) (Lft s sw x) (Rgt o ow x) = raw c (srcM c x) := by
  unfold srcI
  rw [if_neg (by show ¬ (if _ then _ else _); rw [if_pos h32]; omega), if_pos ⟨h8, h32⟩]

/-- The running sum's place is read before it is written; what is read is not used. -/
theorem step_peek {α : Type} {Q : α → sProp 𝕄} {c : Dev nD} {b i l e w s o sw ow : ℕ} (x : ℕ)
    {cs : CoreSpace} {sh : Shape} {M : Memref sig .tc cs sh .bf16} {r : Rect sh} {hr : ∀ a, r.stride a = 1}
    {hl : M.view.LoadsAt r.toLoadRect} {k : (r.shape.Idx → Elt F .bf16) → Prog (TpuEff nD τ sig (Elt F) Λ₀ .tc) α}
    (h8 : 8 ≤ x) (h32 : x < 32) (he : e ≤ x) (hraw : (raw c (srcM c x) : sProp 𝕄) = raw c (M.slice r hr))
    (H : ∀ V, state m K c b i l e w s o sw ow ⊢ WP c (k V) Q) :
    state m K c b i l e w s o sw ow ⊢ WP c (.op (.load M r.toLoadRect hl) k) Q := by
  have hf := fam_look (n := 56) (fun x => srcI m c x (Has e w x) (Lft s sw x) (Rgt o ow x)) x (by omega)
  simp only [piece_raw m h8 h32 he, hraw] at hf
  conv_lhs => unfold state
  iintro ⟨#Hctx, HO, HS, HD, HL, HN, HR, HG, HX, HU⟩
  ihave HX := hf $$ HX
  icases HX with ⟨Hr, Hback⟩
  iapply (load_slice_raw c (M := M) (r := r) (hr := hr)) $$ Hr
  iintro %V Hr
  ihave HX := Hback $$ Hr
  iapply (H V)
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-- Piece `x` is computed: the place gets its value. -/
theorem step_fill {α : Type} {Q : α → sProp 𝕄} {c : Dev nD} {b i l w s o sw ow : ℕ} (x : ℕ)
    {cs : CoreSpace} {sh : Shape} {M : Memref sig .tc cs sh .bf16} {r : Rect sh} {hr : ∀ a, r.stride a = 1}
    {V : r.shape.Idx → Elt F .bf16} {hx hm} {k : PUnit → Prog (TpuEff nD τ sig (Elt F) Λ₀ .tc) α}
    (h8 : 8 ≤ x) (h32 : x < 32) (hs : s ≤ x) (ho : o = 0) (hraw : (raw c (srcM c x) : sProp 𝕄) = raw c (M.slice r hr))
    (hown : (own c (M.slice r hr) fullShare V : sProp 𝕄) = own c (srcM c x) fullShare (srcV m c x))
    (H : state m K c b i l (x + 1) w s o sw ow ⊢ WP c (k ⟨⟩) Q) :
    state m K c b i l x w s o sw ow ⊢ WP c (.op (.store M r V Finset.univ hx hm) k) Q := by
  subst ho
  have hp := pieces_at m (c := c) (e := x) (w := w) (s := s) (sw := sw) (o := 0) (ow := ow) (e' := x + 1) (w' := w) (s' := s) (sw' := sw) (o' := 0) (ow' := ow)
    x (by omega) fun y hy hne =>
      ⟨by show (if _ then _ else _) ↔ (if _ then _ else _); split_ifs <;> omega, Iff.rfl, Iff.rfl⟩
  rw [piece_raw m h8 h32 (le_refl _),
    srcI_both m (by show (if _ then _ else _); rw [if_pos h32]; omega) (by show ¬ _; omega) (by show ¬ _; omega), hraw, ← hown] at hp
  have hg : stageI (F := F) c x = stageI (F := F) c (x + 1) := by
    unfold stageI; rw [if_neg (by omega), if_neg (by omega)]
  conv_lhs => unfold state
  iintro ⟨#Hctx, HO, HS, HD, HL, HN, HR, HG, HX, HU⟩
  ihave HG := (Entails.of_eq hg) $$ HG
  ihave HX := hp $$ HX
  icases HX with ⟨Hr, Hback⟩
  iapply (store_own c (M := M) (r := r) (hr := hr) (V := V)) $$ Hr
  iintro Hr
  ihave HX := Hback $$ Hr
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-! ## The sums' values -/

/-- The sum stored is the next piece. -/
theorem sum_eq (c : Dev nD) (j : ℕ) (h : j < 24) :
    addf (shapeCast S256x512 (rsV m c j) shapeCasts_S1x1x256x512_S256x512 : FVec F S256x512 .bf16)
      (truncf .bf16 (xp m c (j + 8)) bitsLt_bf16_f32) = srcV m c (j + 8) := by
  rw [srcV_add m c j h]
  have h2 : (shapeCast S256x512 (rsV m c j) shapeCasts_S1x1x256x512_S256x512 : FVec F S256x512 .bf16) = landV m c j := shapeCast_shapeCast _ _ _
  rw [h2]

theorem pay_ac (c : Dev nD) (j : ℕ) (h : j < 24) :
    (shapeCast S1x1x256x512 (addf (shapeCast S256x512 (rsV m c j) shapeCasts_S1x1x256x512_S256x512 : FVec F S256x512 .bf16)
      (truncf .bf16 (xp m c (j + 8)) bitsLt_bf16_f32)) shapeCasts_S256x512_S1x1x256x512 : FVec F S1x1x256x512 .bf16)
      = shapeCast S1x1x256x512 (srcV m c (j + 8)) shapeCasts_S256x512_S1x1x256x512 := by
  rw [sum_eq m c j h]

theorem pay_ov (c : Dev nD) (j : ℕ) (h : j < 24) :
    (shapeCast S256x512 (addf (shapeCast S256x512 (rsV m c j) shapeCasts_S1x1x256x512_S256x512 : FVec F S256x512 .bf16)
      (truncf .bf16 (xp m c (j + 8)) bitsLt_bf16_f32)) shapeCasts_S256x512_S256x512 : FVec F S256x512 .bf16)
      = srcV m c (j + 8) := by
  rw [sum_eq m c j h]; exact shapeCast_self _ _

theorem srcM_ac (c : Dev nD) {x : ℕ} (h8 : 8 ≤ x) (h24 : x < 24) : srcM c x = acM x := by
  unfold srcM; rw [if_neg (by omega), if_pos h24]

theorem srcM_ov (c : Dev nD) {x : ℕ} (h24 : 24 ≤ x) : srcM c x = ovM c x := by
  unfold srcM; rw [if_neg (by omega), if_neg (by omega)]

/-- The dead read of a running sum. -/
theorem step_peek_ac {α : Type} {Q : α → sProp 𝕄} {c : Dev nD} {b i l e w s o sw ow : ℕ} (x : ℕ) (off : Fin 4 → ℕ)
    {inb hl} {k : (S1x1x256x512.Idx → Elt F .bf16) → Prog (TpuEff nD τ sig (Elt F) Λ₀ .tc) α}
    (h8 : 8 ≤ x) (h24 : x < 24) (he : e ≤ x) (hoff : off = acOff x)
    (H : ∀ V, state m K c b i l e w s o sw ow ⊢ WP c (k V) Q) :
    state m K c b i l e w s o sw ow ⊢ WP c (.op (.load (Memref.whole cc0_scratch2)
      (Rect.unit (s := S2x2x1024x512) off S1x1x256x512.size inb).toLoadRect hl) k) Q := by
  subst hoff
  exact step_peek m K x (M := Memref.whole cc0_scratch2) (r := acR x) (hr := fun _ => rfl) h8 (by omega) he
    (by rw [srcM_ac c h8 h24]; exact raw_squeeze c _ _) H

/-- A running sum is stored. -/
theorem step_fill_ac {α : Type} {Q : α → sProp 𝕄} {c : Dev nD} {b i l w s o sw ow : ℕ} (x : ℕ) (off : Fin 4 → ℕ)
    {inb hx hm} {V : S1x1x256x512.Idx → Elt F .bf16} {k : PUnit → Prog (TpuEff nD τ sig (Elt F) Λ₀ .tc) α}
    (h8 : 8 ≤ x) (h24 : x < 24) (hs : s ≤ x) (ho : o = 0) (hoff : off = acOff x)
    (hV : V = shapeCast S1x1x256x512 (srcV m c x) shapeCasts_S256x512_S1x1x256x512)
    (H : state m K c b i l (x + 1) w s o sw ow ⊢ WP c (k ⟨⟩) Q) :
    state m K c b i l x w s o sw ow ⊢ WP c (.op (.store (Memref.whole cc0_scratch2)
      (Rect.unit (s := S2x2x1024x512) off S1x1x256x512.size inb) V Finset.univ hx hm) k) Q := by
  subst hoff hV
  refine step_fill m K x (M := Memref.whole cc0_scratch2) (r := acR x) (hr := fun _ => rfl) h8 (by omega) hs ho
    (by rw [srcM_ac c h8 h24]; exact raw_squeeze c _ _) ?_ H
  rw [srcM_ac c h8 h24]
  have h1 : srcV m c x = shapeCast S256x512 (shapeCast S1x1x256x512 (srcV m c x) shapeCasts_S256x512_S1x1x256x512 : FVec F S1x1x256x512 .bf16) shapeCasts_S1x1x256x512_S256x512 :=
    (shapeCast_shapeCast _ _ _).symm
  conv_rhs => rw [h1]
  exact (own_squeeze (e := .bf16) c _ _ _ _ _).symm

/-- The dead read of a finished piece. -/
theorem step_peek_ov {α : Type} {Q : α → sProp 𝕄} {c : Dev nD} {b i l e w s o sw ow : ℕ} (x : ℕ) (off : Dev nD → Fin 2 → ℕ)
    {inb hl} {k : (S256x512.Idx → Elt F .bf16) → Prog (TpuEff nD τ sig (Elt F) Λ₀ .tc) α}
    (h24 : 24 ≤ x) (h32 : x < 32) (he : e ≤ x) (hoff : ∀ c', off c' = ovOff c' x)
    (H : ∀ V, state m K c b i l e w s o sw ow ⊢ WP c (k V) Q) :
    state m K c b i l e w s o sw ow ⊢ WP c (.op (.load (Memref.whole cc0_scratch4)
      (Rect.unit (s := S4096x1024) (off c) S256x512.size inb).toLoadRect hl) k) Q := by
  obtain rfl : off = fun c' => ovOff c' x := funext hoff
  exact step_peek m K x (M := Memref.whole cc0_scratch4) (r := ovR c x) (hr := fun _ => rfl) (by omega) h32 he
    (by rw [srcM_ov c h24]; rfl) H

/-- A finished piece is stored. -/
theorem step_fill_ov {α : Type} {Q : α → sProp 𝕄} {c : Dev nD} {b i l w s o sw ow : ℕ} (x : ℕ) (off : Dev nD → Fin 2 → ℕ)
    {inb hx hm} {V : S256x512.Idx → Elt F .bf16} {k : PUnit → Prog (TpuEff nD τ sig (Elt F) Λ₀ .tc) α}
    (h24 : 24 ≤ x) (h32 : x < 32) (hs : s ≤ x) (ho : o = 0) (hoff : ∀ c', off c' = ovOff c' x)
    (hV : V = srcV m c x)
    (H : state m K c b i l (x + 1) w s o sw ow ⊢ WP c (k ⟨⟩) Q) :
    state m K c b i l x w s o sw ow ⊢ WP c (.op (.store (Memref.whole cc0_scratch4)
      (Rect.unit (s := S4096x1024) (off c) S256x512.size inb) V Finset.univ hx hm) k) Q := by
  obtain rfl : off = fun c' => ovOff c' x := funext hoff
  subst hV
  exact step_fill m K x (M := Memref.whole cc0_scratch4) (r := ovR c x) (hr := fun _ => rfl) (by omega) h32 hs ho
    (by rw [srcM_ov c h24]; rfl) (by rw [srcM_ov c h24]) H

/-! ## The first pieces -/

/-- The dead read of the staging buffer. -/
theorem step_peek_stage {α : Type} {Q : α → sProp 𝕄} {c : Dev nD} {b i l w s o sw ow : ℕ} {off : Fin 2 → ℕ}
    {inb hl} {k : (S1024x1024.Idx → Elt F .bf16) → Prog (TpuEff nD τ sig (Elt F) Λ₀ .tc) α}
    (H : ∀ V, state m K c b i l 0 w s o sw ow ⊢ WP c (k V) Q) :
    state m K c b i l 0 w s o sw ow ⊢ WP c (.op (.load (Memref.whole cc0_scratch1)
      (Rect.unit (s := S1024x1024) off S1024x1024.size inb).toLoadRect hl) k) Q := by
  have hg : stageI (F := F) c 0 = raw c (Memref.whole cc0_scratch1) := if_pos rfl
  conv_lhs => unfold state
  iintro ⟨#Hctx, HO, HS, HD, HL, HN, HR, HG, HX, HU⟩
  ihave HG := (Entails.of_eq hg) $$ HG
  ihave HG := raw_elim c (Memref.whole cc0_scratch1) $$ HG
  icases HG with ⟨%V, HG⟩
  ihave HG := own_elim c (Memref.whole cc0_scratch1) fullShare V $$ HG
  icases HG with ⟨%f, %hf, HG⟩
  iapply (wp_load_rect 𝒱₀ (c : Thread nD τ) none Set.univ (m := Memref.whole cc0_scratch1)
    (r := Rect.unit (s := S1024x1024) off S1024x1024.size inb) (S := (Memref.whole cc0_scratch1 : Memref sig .tc .vmem S1024x1024 .bf16).view.set)
    (q := fullShare) (f := f) (View.set_slice_subset _ _)) $$ HG
  iintro HG
  ihave HG := (own_intro c (Memref.whole cc0_scratch1) fullShare V f hf) $$ HG
  ihave HG := raw_intro c (Memref.whole cc0_scratch1) V $$ HG
  ihave HG := (Entails.of_eq hg.symm) $$ HG
  iapply (H _)
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HG]; · iexact HG
  isplitl [HX]; · iexact HX
  iexact HU

/-- Piece `p` of the staging buffer is piece `p` of the argument. -/
theorem stage_coord (c : Dev nD) (p : Fin 8) (y : S256x512.Idx) : (ovR c p.val).emb y = (ldR c 0).emb ((stR p.val).emb y) := by
  have hc : chunk c p.val = (c.val + 0) % 4 := (show ∀ (c : Dev nD) (p : Fin 8), chunk c p.val = (c.val + 0) % 4 by decide +kernel) c p
  have e0 : ((stR p.val).emb y 0).val = 256 * (p.val % 8 / 2) + 1 * (y 0).val := Rect.emb_apply _ _ _
  have e1 : ((stR p.val).emb y 1).val = 512 * (p.val % 2) + 1 * (y 1).val := Rect.emb_apply _ _ _
  funext a; fin_cases a
  · refine Fin.ext ?_
    rw [Rect.emb_apply, Rect.emb_apply]
    show 1024 * chunk c p.val + 256 * (p.val % 8 / 2) + 1 * (y 0).val = 1024 * ((c.val + 0) % 4) + 1 * ((stR p.val).emb y 0).val
    rw [e0, hc]; omega
  · refine Fin.ext ?_
    rw [Rect.emb_apply, Rect.emb_apply]
    show 512 * (p.val % 2) + 1 * (y 1).val = 0 + 1 * ((stR p.val).emb y 1).val
    rw [e1]; omega

/-- Piece `p` when stored. -/
theorem stage_piece (c : Dev nD) (p : Fin 8) (V : S1024x1024.Idx → Elt F .bf16) (hV : V = truncf .bf16 (ldV m c 0) bitsLt_bf16_f32) :
    srcI m c p.val (Has 8 0 p.val) (Lft 0 0 p.val) (Rgt 0 0 p.val)
      = own c ((Memref.whole cc0_scratch1).slice (stR p.val) (fun _ => rfl)) fullShare (fun y => V ((stR p.val).emb y)) := by
  have hpl := p.isLt
  rw [srcI_both m (by show (if _ then _ else _); split_ifs <;> omega) (by show ¬ _; omega) (by show ¬ _; omega)]
  have hM : srcM c p.val = stM p.val := if_pos hpl
  have hv : srcV m c p.val = fun y => V ((stR p.val).emb y) := by
    rw [srcV_first m c p.val hpl, hV]
    funext y
    exact congrArg (fun z => FloatOps.truncf (F := F) .bf16 bitsLt_bf16_f32 (X m c z)) (stage_coord c p y)
  rw [hM, hv]; rfl

/-- A store over the staging buffer's extent leaves what is stored. -/
theorem stage_write {off : Fin 2 → ℕ} (hoff : off = fun _ => 0) (inb : ∀ a, off a + S1024x1024.size a ≤ S1024x1024.size a)
    (f : (Memref.whole cc0_scratch1 : Memref sig .tc .vmem S1024x1024 .bf16).view.ty.Contents (Elt F)) (V : S1024x1024.Idx → Elt F .bf16) :
    (Memref.whole cc0_scratch1 : Memref sig .tc .vmem S1024x1024 .bf16).view.read (Elt F)
      (((Memref.whole cc0_scratch1 : Memref sig .tc .vmem S1024x1024 .bf16).access (Rect.unit (s := S1024x1024) off S1024x1024.size inb)).write (Elt F) f V Finset.univ) = V := by
  have h := Memref.write_access_unit_zero_univ (Elt F) cc0_scratch1 hoff inb f V
  rw [show ((Memref.whole cc0_scratch1 : Memref sig .tc .vmem S1024x1024 .bf16).access (Rect.unit (s := S1024x1024) off S1024x1024.size inb)).write (Elt F) f V Finset.univ = V from h]
  rfl

/-- All pieces, when the first are stored. -/
theorem pieces_first (c : Dev nD) (V : S1024x1024.Idx → Elt F .bf16) (hV : V = truncf .bf16 (ldV m c 0) bitsLt_bf16_f32) :
    pieces m c 0 0 0 0 0 0 ⊢ iprop(stageI c 8 ∗ (own c (Memref.whole cc0_scratch1) fullShare V -∗ pieces m c 8 0 0 0 0 0)) := by
  have hg8 : iprop(emp) ⊢ stageI (F := F) c 8 := Entails.of_eq (if_neg (by decide)).symm
  have hp := fam_some (n := 56) (k := 8) (fun x => srcI m c x (Has 0 0 x) (Lft 0 0 x) (Rgt 0 0 x))
    (fun x => srcI m c x (Has 8 0 x) (Lft 0 0 x) (Rgt 0 0 x)) (fun p => p.val)
    (fun p => by have := p.isLt; omega) (fun p p' e => Fin.ext e)
    fun y hy hne => srcI_congr m (by
      have : ¬ y < 8 := fun h => hne ⟨y, h⟩ rfl
      show (if _ then _ else _) ↔ (if _ then _ else _); split_ifs <;> omega) Iff.rfl Iff.rfl
  have h0 (p : Fin 8) : srcI m c p.val (Has 0 0 p.val) (Lft 0 0 p.val) (Rgt 0 0 p.val) = iprop(emp) := by
    have := p.isLt
    unfold srcI
    rw [if_neg (by show ¬ (if _ then _ else _); split_ifs <;> omega), if_neg (by omega)]
  have h1 (p : Fin 8) := stage_piece m c p V hV
  have hemp : (bigSep Finset.univ fun p : Fin 8 => srcI m c p.val (Has 0 0 p.val) (Lft 0 0 p.val) (Rgt 0 0 p.val)) ⊢ stageI (F := F) c 8 := by
    rw [BI.bigSep_congr fun p _ => h0 p]; exact (Entails.of_eq (bigSep_emp_const _)).trans hg8
  have hown : own c (Memref.whole cc0_scratch1) fullShare V ⊢ bigSep Finset.univ fun p : Fin 8 => srcI m c p.val (Has 8 0 p.val) (Lft 0 0 p.val) (Rgt 0 0 p.val) := by
    rw [BI.bigSep_congr fun p _ => h1 p]
    exact owns_rects (c : Thread nD τ) (Memref.whole cc0_scratch1) fullShare (fun p : Fin 8 => stR p.val) (fun _ _ => rfl) st_apart st_cover V
  iintro HX
  ihave HX := hp $$ HX
  icases HX with ⟨HE, Hback⟩
  isplitl [HE]
  · iapply hemp; iexact HE
  · iintro HG
    ihave HG := hown $$ HG
    iapply Hback; iexact HG

/-- The first pieces are stored. -/
theorem step_fill_stage {α : Type} {Q : α → sProp 𝕄} {c : Dev nD} {b i l : ℕ} {off : Fin 2 → ℕ}
    {inb hx hm} {V : S1024x1024.Idx → Elt F .bf16} {k : PUnit → Prog (TpuEff nD τ sig (Elt F) Λ₀ .tc) α}
    (hoff : off = fun _ => 0) (hV : V = truncf .bf16 (ldV m c 0) bitsLt_bf16_f32)
    (H : state m K c b i l 8 0 0 0 0 0 ⊢ WP c (k ⟨⟩) Q) :
    state m K c b i l 0 0 0 0 0 0 ⊢ WP c (.op (.store (Memref.whole cc0_scratch1)
      (Rect.unit (s := S1024x1024) off S1024x1024.size inb) V Finset.univ hx hm) k) Q := by
  have hg : stageI (F := F) c 0 = raw c (Memref.whole cc0_scratch1) := if_pos rfl
  have hp := pieces_first m c V hV
  conv_lhs => unfold state
  iintro ⟨#Hctx, HO, HS, HD, HL, HN, HR, HG, HX, HU⟩
  ihave HG := (Entails.of_eq hg) $$ HG
  ihave HG := raw_elim c (Memref.whole cc0_scratch1) $$ HG
  icases HG with ⟨%V', HG⟩
  ihave HG := own_elim c (Memref.whole cc0_scratch1) fullShare V' $$ HG
  icases HG with ⟨%f, %hf, HG⟩
  iapply (wp_store 𝒱₀ (c : Thread nD τ) none Set.univ (m := Memref.whole cc0_scratch1) (r := Rect.unit (s := S1024x1024) off S1024x1024.size inb) (Mk := Finset.univ) (w := V)
    (S := (Memref.whole cc0_scratch1 : Memref sig .tc .vmem S1024x1024 .bf16).view.set) (f := f) (View.set_slice_subset _ _)) $$ HG
  iintro HG
  ihave HG := (own_intro c (Memref.whole cc0_scratch1) fullShare V _ (stage_write (F := F) hoff inb f V)) $$ HG
  ihave HX := hp $$ HX
  icases HX with ⟨HE, Hback⟩
  ihave HX := Hback $$ HG
  iapply H
  unfold state
  isplitr; · iexact Hctx
  isplitl [HO]; · iexact HO
  isplitl [HS]; · iexact HS
  isplitl [HD]; · iexact HD
  isplitl [HL]; · iexact HL
  isplitl [HN]; · iexact HN
  isplitl [HR]; · iexact HR
  isplitl [HE]; · iexact HE
  isplitl [HX]; · iexact HX
  iexact HU

end RingSum
-- ==== Proof.Text.lean ====
module
public import proofs.«01_k».proof.Proof.Sums

/-!
# The text

The steps as the kernel's text spells them.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

/-! ## The credits of the memrefs waited for -/

theorem credit_st (off : Fin 2 → ℕ) (inb) : (((Memref.whole cc0_scratch1 : Memref sig .tc .vmem S1024x1024 .bf16).slice
    (Rect.unit (s := S1024x1024) off S256x512.size inb) (fun _ => rfl))).view.dmaCredit = N :=
  View.dmaCredit_closed _ S256x512 rfl cc0_scratch1.idx rfl N (by decide +kernel)

theorem credit_ac (off : Fin 4 → ℕ) (inb) : ((((Memref.whole cc0_scratch2 : Memref sig .tc .vmem S2x2x1024x512 .bf16).slice
    (Rect.unit (s := S2x2x1024x512) off S1x1x256x512.size inb) (fun _ => rfl))).squeeze S256x512 squeezes_S1x1x256x512_S256x512).view.dmaCredit = N :=
  View.dmaCredit_closed _ S256x512 rfl cc0_scratch2.idx rfl N (by decide +kernel)

theorem credit_rs (off : Fin 4 → ℕ) (inb) : ((((Memref.whole cc0_scratch3 : Memref sig .tc .vmem S2x3x1024x512 .bf16).slice
    (Rect.unit (s := S2x3x1024x512) off S1x1x256x512.size inb) (fun _ => rfl))).squeeze S256x512 squeezes_S1x1x256x512_S256x512).view.dmaCredit = N := rfl

theorem credit_ov (off : Fin 2 → ℕ) (inb) : (((Memref.whole cc0_scratch4 : Memref sig .tc .vmem S4096x1024 .bf16).slice
    (Rect.unit (s := S4096x1024) off S256x512.size inb) (fun _ => rfl))).view.dmaCredit = N :=
  View.dmaCredit_closed _ S256x512 rfl cc0_scratch4.idx rfl N (by decide +kernel)

theorem credit_ld (off : Fin 2 → ℕ) (inb) : (((Memref.whole cc0_scratch0 : Memref sig .tc .vmem S4096x1024 .f32).slice
    (Rect.unit (s := S4096x1024) off S1024x1024.size inb) (fun _ => rfl))).view.dmaCredit = NL := rfl

theorem credit_out (off : Fin 2 → ℕ) (inb) : (((Memref.whole main_v1 : Memref sig .tc .hbm S4096x1024 .bf16).slice
    (Rect.unit (s := S4096x1024) off S1024x512.size inb) (fun _ => rfl))).view.dmaCredit = NO := rfl

/-! ## The transfers -/

/-- A send of a staged piece. -/
theorem at_send_st {α : Type} {Q : α → sProp 𝕄} {c : Dev nD} {l e w s o sw ow : ℕ} (f : Dev nD → Dev nD) {off : Fin 2 → ℕ} {off' : Fin 4 → ℕ}
    {inb inb'} {qs qr : DmaSem sig} {hsc hsrc hdst hsem} {k : PUnit → Prog (TpuEff nD τ sig (Elt F) Λ₀ .tc) α}
    (H : state m K c 3 4 l e w (s + 1) o sw ow ⊢ WP c (k ⟨⟩) Q)
    (hs : s < 8 := by decide) (hsw : sw ≤ s := by decide) (he : s < e := by decide)
    (hn : ∀ c', f c' = dst s c' := by decide +kernel) (hS : off = stOff s := by rfl) (hD : off' = rsOff s := by rfl)
    (hqs : qs = sendSem s := by decide +kernel) (hqr : qr = recvSem s := by decide +kernel) :
    state m K c 3 4 l e w s o sw ow
      ⊢ WP c (.op (.enqueueDma ((Memref.whole cc0_scratch1).slice (Rect.unit (s := S1024x1024) off S256x512.size inb) (fun _ => rfl))
        (.remote (p := (c : Thread nD τ).2) (Dev.tc (f c) : Thread nD τ) (((Memref.whole cc0_scratch3).slice (Rect.unit (s := S2x3x1024x512) off' S1x1x256x512.size inb') (fun _ => rfl)).squeeze S256x512 squeezes_S1x1x256x512_S256x512)
          (.dma qs) hsc) (.dma qr) hsrc hdst hsem) k) Q := by
  subst hS hD
  exact step_send m K (by omega) hsw (by show (if _ then _ else _); rw [if_pos (by omega)]; exact he) (hn c)
    (by unfold srcM; rw [if_pos hs]) (by unfold landM; rw [if_pos (by omega)]) hqs hqr H

/-- A send of a running sum. -/
theorem at_send_ac {α : Type} {Q : α → sProp 𝕄} {c : Dev nD} {l e w s o sw ow : ℕ} (f : Dev nD → Dev nD) {off : Fin 4 → ℕ} {off' : Fin 4 → ℕ}
    {inb inb'} {qs qr : DmaSem sig} {hsc hsrc hdst hsem} {k : PUnit → Prog (TpuEff nD τ sig (Elt F) Λ₀ .tc) α}
    (H : state m K c 3 4 l e w (s + 1) o sw ow ⊢ WP c (k ⟨⟩) Q)
    (h8 : 8 ≤ s := by decide) (hs : s < 24 := by decide) (hsw : sw ≤ s := by decide) (he : s < e := by decide)
    (hn : ∀ c', f c' = dst s c' := by decide +kernel) (hS : off = acOff s := by rfl) (hD : off' = rsOff s := by rfl)
    (hqs : qs = sendSem s := by decide +kernel) (hqr : qr = recvSem s := by decide +kernel) :
    state m K c 3 4 l e w s o sw ow
      ⊢ WP c (.op (.enqueueDma (((Memref.whole cc0_scratch2).slice (Rect.unit (s := S2x2x1024x512) off S1x1x256x512.size inb) (fun _ => rfl)).squeeze S256x512 squeezes_S1x1x256x512_S256x512)
        (.remote (p := (c : Thread nD τ).2) (Dev.tc (f c) : Thread nD τ) (((Memref.whole cc0_scratch3).slice (Rect.unit (s := S2x3x1024x512) off' S1x1x256x512.size inb') (fun _ => rfl)).squeeze S256x512 squeezes_S1x1x256x512_S256x512)
          (.dma qs) hsc) (.dma qr) hsrc hdst hsem) k) Q := by
  subst hS hD
  exact step_send m K (by omega) hsw (by show (if _ then _ else _); rw [if_pos (by omega)]; exact he) (hn c)
    (by rw [srcM_ac c h8 hs]) (by unfold landM; rw [if_pos (by omega)]) hqs hqr H

/-- Where a finished piece lands is where it is read. -/
theorem land_off (c : Dev nD) (s : ℕ) (hs : s < 48) : ovOff (dst s c) (s + 8) = ovOff c s := by
  have h := chunk_step (dst s c) s hs
  rw [fro_dst] at h
  unfold ovOff
  rw [← h]
  have h1 : (s + 8) % 8 = s % 8 := by omega
  have h2 : (s + 8) % 2 = s % 2 := by omega
  rw [h1, h2]

/-- A send of a finished piece. -/
theorem at_send_ov {α : Type} {Q : α → sProp 𝕄} {c : Dev nD} {l e w s o sw ow : ℕ} (f : Dev nD → Dev nD) (off : Dev nD → Fin 2 → ℕ)
    {inb inb'} {qs qr : DmaSem sig} {hsc hsrc hdst hsem} {k : PUnit → Prog (TpuEff nD τ sig (Elt F) Λ₀ .tc) α}
    (H : state m K c 3 4 l e w (s + 1) o sw ow ⊢ WP c (k ⟨⟩) Q)
    (h24 : 24 ≤ s := by decide) (hs : s < 48 := by decide) (hsw : sw ≤ s := by decide) (he : Has e w s := by decide)
    (hn : ∀ c', f c' = dst s c' := by decide +kernel) (hS : ∀ c', off c' = ovOff c' s := by decide +kernel)
    (hqs : qs = sendSem s := by decide +kernel) (hqr : qr = recvSem s := by decide +kernel) :
    state m K c 3 4 l e w s o sw ow
      ⊢ WP c (.op (.enqueueDma ((Memref.whole cc0_scratch4).slice (Rect.unit (s := S4096x1024) (off c) S256x512.size inb) (fun _ => rfl))
        (.remote (p := (c : Thread nD τ).2) (Dev.tc (f c) : Thread nD τ) ((Memref.whole cc0_scratch4).slice (Rect.unit (s := S4096x1024) (off c) S256x512.size inb') (fun _ => rfl))
          (.dma qs) hsc) (.dma qr) hsrc hdst hsem) k) Q := by
  obtain rfl : off = fun c' => ovOff c' s := funext hS
  refine step_send m K hs hsw he (hn c) (by rw [srcM_ov c h24]) ?_ hqs hqr H
  unfold landM; rw [if_neg (by omega)]
  exact Memref.slice_unit_congr _ (land_off c s hs).symm _ _ _ _

/-- A landing among the first three hops is awaited. -/
theorem at_recv_add {α : Type} {Q : α → sProp 𝕄} {c : Dev nD} {l e w s o sw ow : ℕ}
    {spa spb : Space} {sha shb : Shape} {ea eb : EltTy} {src : Memref sig .tc spa sha ea} {dest : Memref sig .tc spb shb eb}
    {q : DmaSem sig} {h1 h2} {k : PUnit → Prog (TpuEff nD τ sig (Elt F) Λ₀ .tc) α}
    (hN : dest.view.dmaCredit = N)
    (H : state m K c 3 4 l e (w + 1) s o sw ow ⊢ WP c (k ⟨⟩) Q)
    (hw : w < s := by decide) (hs : s ≤ 48 := by decide) (hw' : w < 24 := by decide) (hq : q = recvSem w := by decide +kernel) :
    state m K c 3 4 l e w s o sw ow ⊢ WP c (.op (.waitDma2 q src dest h1 h2) k) Q :=
  step_recv_add m K hw hs hw' hN hq H

/-- A landing among the last three hops is awaited. -/
theorem at_recv_pass {α : Type} {Q : α → sProp 𝕄} {c : Dev nD} {l e w s o sw ow : ℕ}
    {spa spb : Space} {sha shb : Shape} {ea eb : EltTy} {src : Memref sig .tc spa sha ea} {dest : Memref sig .tc spb shb eb}
    {q : DmaSem sig} {h1 h2} {k : PUnit → Prog (TpuEff nD τ sig (Elt F) Λ₀ .tc) α}
    (hN : dest.view.dmaCredit = N)
    (H : state m K c 3 4 l e (w + 1) s o sw ow ⊢ WP c (k ⟨⟩) Q)
    (hw : w < s := by decide) (hs : s ≤ 48 := by decide) (hw' : 24 ≤ w := by decide) (hs' : s ≤ w + 8 := by decide)
    (ho : o ≤ cix (w + 8) := by decide) (hq : q = recvSem w := by decide +kernel) :
    state m K c 3 4 l e w s o sw ow ⊢ WP c (.op (.waitDma2 q src dest h1 h2) k) Q :=
  step_recv_pass m K hw hs hw' hs' ho hN hq H

/-- A send is awaited. -/
theorem at_sent {α : Type} {Q : α → sProp 𝕄} {c : Dev nD} {l sw o ow : ℕ}
    {spa spb : Space} {sha shb : Shape} {ea eb : EltTy} {src : Memref sig .tc spa sha ea} {dest : Memref sig .tc spb shb eb}
    {q : DmaSem sig} {h1 h2} {k : PUnit → Prog (TpuEff nD τ sig (Elt F) Λ₀ .tc) α}
    (hN : dest.view.dmaCredit = N)
    (H : state m K c 3 4 l 32 48 48 o (sw + 1) ow ⊢ WP c (k ⟨⟩) Q)
    (hsw : sw < 48 := by decide) (hq : q = sendSem sw := by decide +kernel) :
    state m K c 3 4 l 32 48 48 o sw ow ⊢ WP c (.op (.waitDma2 q src dest h1 h2) k) Q :=
  step_sent m K hsw hN hq H

/-! ## The sums -/

/-- What landed is read. -/
theorem at_landed {α : Type} {Q : α → sProp 𝕄} {c : Dev nD} {b i l e w s o sw ow : ℕ} (j : ℕ) {off : Fin 4 → ℕ}
    {inb hl} {k : (S1x1x256x512.Idx → Elt F .bf16) → Prog (TpuEff nD τ sig (Elt F) Λ₀ .tc) α}
    (H : state m K c b i l e w s o sw ow ⊢ WP c (k (rsV m c j)) Q)
    (hj : j < 24 := by decide) (hw : j < w := by decide) (hoff : off = rsOff j := by rfl) :
    state m K c b i l e w s o sw ow ⊢ WP c (.op (.load (Memref.whole cc0_scratch3)
      (Rect.unit (s := S2x3x1024x512) off S1x1x256x512.size inb).toLoadRect hl) k) Q :=
  step_read_landed m K j off hj hw hoff H

/-- A piece of the argument is read. -/
theorem at_piece {α : Type} {Q : α → sProp 𝕄} {c : Dev nD} {b i l e w s o sw ow : ℕ} (x ld : ℕ) (off : Dev nD → Fin 2 → ℕ)
    {inb hl} {k : (S256x512.Idx → Elt F .f32) → Prog (TpuEff nD τ sig (Elt F) Λ₀ .tc) α}
    (H : state m K c b i l e w s o sw ow ⊢ WP c (k (xp m c x)) Q)
    (hld : ld < 4 := by decide) (hlw : ordW ld < l := by decide) (hoff : ∀ c', off c' = ovOff c' x := by decide +kernel)
    (hch : ∀ c' : Dev nD, chunk c' x = (c'.val + ld) % 4 := by decide +kernel) :
    state m K c b i l e w s o sw ow ⊢ WP c (.op (.load (Memref.whole cc0_scratch0)
      (Rect.unit (s := S4096x1024) (off c) S256x512.size inb).toLoadRect hl) k) Q :=
  step_read_piece m K x ld off hld hlw hoff hch H

/-- The dead read and the store of a running sum. -/
theorem at_sum_ac {α : Type} {Q : α → sProp 𝕄} {c : Dev nD} {b i l w s sw ow : ℕ} (x : ℕ) {off : Fin 4 → ℕ}
    {inb inb' hl hx hm} {V : S1x1x256x512.Idx → Elt F .bf16} {k : PUnit → Prog (TpuEff nD τ sig (Elt F) Λ₀ .tc) α}
    (hV : V = shapeCast S1x1x256x512 (srcV m c x) shapeCasts_S256x512_S1x1x256x512)
    (H : state m K c b i l (x + 1) w s 0 sw ow ⊢ WP c (k ⟨⟩) Q)
    (h8 : 8 ≤ x := by decide) (h24 : x < 24 := by decide) (hs : s ≤ x := by decide) (hoff : off = acOff x := by rfl) :
    state m K c b i l x w s 0 sw ow ⊢ WP c (.op (.load (Memref.whole cc0_scratch2)
      (Rect.unit (s := S2x2x1024x512) off S1x1x256x512.size inb).toLoadRect hl) fun _ => .op (.store (Memref.whole cc0_scratch2)
      (Rect.unit (s := S2x2x1024x512) off S1x1x256x512.size inb') V Finset.univ hx hm) k) Q :=
  step_peek_ac m K x off h8 h24 le_rfl hoff fun _ => step_fill_ac m K x off h8 h24 hs rfl hoff hV H

/-- The dead read and the store of a finished piece. -/
theorem at_sum_ov {α : Type} {Q : α → sProp 𝕄} {c : Dev nD} {b i l w s sw ow : ℕ} (x : ℕ) (off : Dev nD → Fin 2 → ℕ)
    {inb inb' hl hx hm} {V : S256x512.Idx → Elt F .bf16} {k : PUnit → Prog (TpuEff nD τ sig (Elt F) Λ₀ .tc) α}
    (hV : V = srcV m c x)
    (H : state m K c b i l (x + 1) w s 0 sw ow ⊢ WP c (k ⟨⟩) Q)
    (h24 : 24 ≤ x := by decide) (h32 : x < 32 := by decide) (hs : s ≤ x := by decide) (hoff : ∀ c', off c' = ovOff c' x := by decide +kernel) :
    state m K c b i l x w s 0 sw ow ⊢ WP c (.op (.load (Memref.whole cc0_scratch4)
      (Rect.unit (s := S4096x1024) (off c) S256x512.size inb).toLoadRect hl) fun _ => .op (.store (Memref.whole cc0_scratch4)
      (Rect.unit (s := S4096x1024) (off c) S256x512.size inb') V Finset.univ hx hm) k) Q :=
  step_peek_ov m K x off h24 h32 le_rfl hoff fun _ => step_fill_ov m K x off h24 h32 hs rfl hoff hV H

/-! ## The output copies -/

/-- An output copy is issued. -/
theorem at_out {α : Type} {Q : α → sProp 𝕄} {c : Dev nD} {l w s o sw : ℕ} (off : Dev nD → Fin 2 → ℕ)
    {inb inb'} {q : DmaSem sig} {hsrc hdst hsem}
    {k : PUnit → Prog (TpuEff nD τ sig (Elt F) Λ₀ .tc) α}
    (H : state m K c 3 4 l 32 w s (o + 1) sw 0 ⊢ WP c (k ⟨⟩) Q)
    (ho : o < 8 := by decide) (hw : 24 + 8 * (o / 2) ≤ w := by decide) (hoff : ∀ c', off c' = coOff c' o := by decide +kernel)
    (hq : q = outSem o := by decide +kernel) :
    state m K c 3 4 l 32 w s o sw 0 ⊢ WP c (.op (.enqueueDma
      ((Memref.whole cc0_scratch4).slice (Rect.unit (s := S4096x1024) (off c) S1024x512.size inb) (fun _ => rfl))
      (.here ((Memref.whole main_v1).slice (Rect.unit (s := S4096x1024) (off c) S1024x512.size inb') (fun _ => rfl)))
      (.dma q) hsrc hdst hsem) k) Q :=
  step_out m K off ho hw hoff hq H

/-- An output copy is awaited. -/
theorem at_outed {α : Type} {Q : α → sProp 𝕄} {c : Dev nD} {l ow : ℕ}
    {spa spb : Space} {sha shb : Shape} {ea eb : EltTy} {src : Memref sig .tc spa sha ea} {dest : Memref sig .tc spb shb eb}
    {q : DmaSem sig} {h1 h2} {k : PUnit → Prog (TpuEff nD τ sig (Elt F) Λ₀ .tc) α}
    (hN : dest.view.dmaCredit = NO)
    (H : state m K c 3 4 l 32 48 48 8 48 (ow + 1) ⊢ WP c (k ⟨⟩) Q)
    (ho : ow < 8 := by decide) (hq : q = outSem ow := by decide +kernel) :
    state m K c 3 4 l 32 48 48 8 48 ow ⊢ WP c (.op (.waitDma2 q src dest h1 h2) k) Q :=
  step_outed m K ho hN hq H

/-- A part of the kernel over the kernel's buffers. -/
abbrev onBufs {β : Type 1} (p : (arg0 : Memref sig .tc .hbm S4096x1024 .f32) → arg0.IsWhole → (arg1 : Memref sig .tc .hbm S4096x1024 .bf16) → arg1.IsWhole →
    (arg2 : Memref sig .tc .vmem S4096x1024 .f32) → arg2.IsWhole → (arg3 : Memref sig .tc .vmem S1024x1024 .bf16) → arg3.IsWhole →
    (arg4 : Memref sig .tc .vmem S2x2x1024x512 .bf16) → arg4.IsWhole → (arg5 : Memref sig .tc .vmem S2x3x1024x512 .bf16) → arg5.IsWhole →
    (arg6 : Memref sig .tc .vmem S4096x1024 .bf16) → arg6.IsWhole → DmaSems sig S4 → DmaSems sig S2x3x4 → DmaSems sig S2x3x4 →
    DmaSems sig S2x3x4 → DmaSems sig S2x3x4 → DmaSems sig S2x4 → β) : β :=
  p (Memref.whole main_arg0) (Memref.isWhole_whole _) (Memref.whole main_v1) (Memref.isWhole_whole _) (Memref.whole cc0_scratch0) (Memref.isWhole_whole _)
    (Memref.whole cc0_scratch1) (Memref.isWhole_whole _) (Memref.whole cc0_scratch2) (Memref.isWhole_whole _) (Memref.whole cc0_scratch3) (Memref.isWhole_whole _)
    (Memref.whole cc0_scratch4) (Memref.isWhole_whole _) cc0_scratch5 cc0_scratch6 cc0_scratch7 cc0_scratch8 cc0_scratch9 cc0_scratch10

end RingSum
-- ==== Proof.Run1.lean ====
module
public import proofs.«01_k».proof.Proof.Text

/-!
# The start and the first hop

The parts of the kernel's text, run on the state.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

theorem part1 {α : Type} {Q : α → sProp 𝕄} {c : Dev nD}
    {k : (Σ' (d0 : Dev nD) (v2 : BitVec 32) (v13 : BitVec 32) (v24 : BitVec 32), BitVec 32) → Prog (TpuEff nD τ sig (Elt F) Λ₀ .tc) α}
    (H : ∀ (w0 : BitVec 32) (w1 : BitVec 32) (w2 : BitVec 32) (w3 : BitVec 32), state m K c 0 0 0 0 0 0 0 0 0 ⊢ WP c (k ⟨c, w0, w1, w2, w3⟩) Q) :
    state m K c 0 0 0 0 0 0 0 0 0 ⊢ WP c (onBufs (k0_part1 (F := F))  >>= k) Q := by
  rw [k0_part1_eq_skeleton]
  simp only [k0_part1_skel, semSignalWord, semWaitWord, Prog.lift, Prog.bind_op, Prog.bind_ret, Prog.pure_eq_ret, Prog.bind_assoc, wp_deviceId]
  exact H _ _ _ _

theorem part2 {α : Type} {Q : α → sProp 𝕄} {c : Dev nD} {v2 : BitVec 32} {v35 : BitVec 32}
    {k : (BitVec 32) → Prog (TpuEff nD τ sig (Elt F) Λ₀ .tc) α}
    (H : ∀ (w0 : BitVec 32), state m K c 0 2 0 0 0 0 0 0 0 ⊢ WP c (k w0) Q) :
    state m K c 0 0 0 0 0 0 0 0 0 ⊢ WP c (onBufs (k0_part2 (F := F)) c v2 v35 >>= k) Q := by
  rw [k0_part2_eq_skeleton]
  simp only [k0_part2_skel, semSignalWord, semWaitWord, Prog.lift, Prog.bind_op, Prog.bind_ret, Prog.pure_eq_ret, Prog.bind_assoc, wp_deviceId]
  refine step_load m K 0 (fun c' => k0_off1 c' 0#32) (by decide) (by decide) (by decide +kernel) (by decide +kernel) ?_
  refine step_load m K 1 (fun c' => k0_off1 c' 1#32) (by decide) (by decide) (by decide +kernel) (by decide +kernel) ?_
  exact H _

theorem part3 {α : Type} {Q : α → sProp 𝕄} {c : Dev nD} {v2 : BitVec 32} {v13 : BitVec 32} {v24 : BitVec 32} {v69 : BitVec 32}
    {k : (PUnit) → Prog (TpuEff nD τ sig (Elt F) Λ₀ .tc) α}
    (H : state m K c 3 4 0 0 0 0 0 0 0 ⊢ WP c (k ⟨⟩) Q) :
    state m K c 0 2 0 0 0 0 0 0 0 ⊢ WP c (onBufs (k0_part3 (F := F)) c v2 v13 v24 v69 >>= k) Q := by
  rw [k0_part3_eq_skeleton]
  simp only [k0_part3_skel, semSignalWord, semWaitWord, Prog.lift, Prog.bind_op, Prog.bind_ret, Prog.pure_eq_ret, Prog.bind_assoc, wp_deviceId]
  refine step_load m K 3 (fun c' => k0_off1 c' 3#32) (by decide) (by decide) (by decide +kernel) (by decide +kernel) ?_
  refine step_load m K 2 (fun c' => k0_off1 c' 2#32) (by decide) (by decide) (by decide +kernel) (by decide +kernel) ?_
  refine step_signal_prv m K ((by decide +kernel : ∀ c' : Dev nD, (⟨k0_dev1 c', k0_dev1_lt c'⟩ : Dev nD) = prv c') c) rfl rfl ?_
  refine step_signal_nxt m K ((by decide +kernel : ∀ c' : Dev nD, (⟨k0_dev2 c', k0_dev2_lt c'⟩ : Dev nD) = nxt c') c) rfl rfl ?_
  refine step_started m K rfl rfl ?_
  exact H

theorem part4 {α : Type} {Q : α → sProp 𝕄} {c : Dev nD} {v2 : BitVec 32} {v13 : BitVec 32} {v24 : BitVec 32}
    {k : (PUnit) → Prog (TpuEff nD τ sig (Elt F) Λ₀ .tc) α}
    (H : state m K c 3 4 1 8 0 1 0 0 0 ⊢ WP c (k ⟨⟩) Q) :
    state m K c 3 4 0 0 0 0 0 0 0 ⊢ WP c (onBufs (k0_part4 (F := F)) c v2 v13 v24 >>= k) Q := by
  rw [k0_part4_eq_skeleton]
  simp only [k0_part4_skel, semSignalWord, semWaitWord, Prog.lift, Prog.bind_op, Prog.bind_ret, Prog.pure_eq_ret, Prog.bind_assoc, wp_deviceId]
  refine step_loaded m K 0 (by decide) (by decide) (credit_ld _ _) (by decide +kernel) ?_
  refine step_read_rows m K (fun c' => k0_off2 c') (by decide) (by decide +kernel) ?_
  refine step_peek_stage m K fun _ => ?_
  refine step_fill_stage m K (by decide) (shapeCast_self _ _) ?_
  refine at_send_st m K (fun c' => ⟨k0_dev3 c', k0_dev3_lt c'⟩) ?_
  exact H

theorem part5 {α : Type} {Q : α → sProp 𝕄} {c : Dev nD} {v13 : BitVec 32} {v24 : BitVec 32}
    {k : (PUnit) → Prog (TpuEff nD τ sig (Elt F) Λ₀ .tc) α}
    (H : state m K c 3 4 1 8 0 4 0 0 0 ⊢ WP c (k ⟨⟩) Q) :
    state m K c 3 4 1 8 0 1 0 0 0 ⊢ WP c (onBufs (k0_part5 (F := F)) c v13 v24 >>= k) Q := by
  rw [k0_part5_eq_skeleton]
  simp only [k0_part5_skel, semSignalWord, semWaitWord, Prog.lift, Prog.bind_op, Prog.bind_ret, Prog.pure_eq_ret, Prog.bind_assoc, wp_deviceId]
  refine at_send_st m K (fun c' => ⟨k0_dev4 c', k0_dev4_lt c'⟩) ?_
  refine at_send_st m K (fun c' => ⟨k0_dev5 c', k0_dev5_lt c'⟩) ?_
  refine at_send_st m K (fun c' => ⟨k0_dev6 c', k0_dev6_lt c'⟩) ?_
  exact H

theorem part6 {α : Type} {Q : α → sProp 𝕄} {c : Dev nD} {v13 : BitVec 32} {v24 : BitVec 32}
    {k : (PUnit) → Prog (TpuEff nD τ sig (Elt F) Λ₀ .tc) α}
    (H : state m K c 3 4 1 8 0 6 0 0 0 ⊢ WP c (k ⟨⟩) Q) :
    state m K c 3 4 1 8 0 4 0 0 0 ⊢ WP c (onBufs (k0_part6 (F := F)) c v13 v24 >>= k) Q := by
  rw [k0_part6_eq_skeleton]
  simp only [k0_part6_skel, semSignalWord, semWaitWord, Prog.lift, Prog.bind_op, Prog.bind_ret, Prog.pure_eq_ret, Prog.bind_assoc, wp_deviceId]
  refine at_send_st m K (fun c' => ⟨k0_dev7 c', k0_dev7_lt c'⟩) ?_
  refine at_send_st m K (fun c' => ⟨k0_dev8 c', k0_dev8_lt c'⟩) ?_
  exact H

theorem part7 {α : Type} {Q : α → sProp 𝕄} {c : Dev nD} {v2 : BitVec 32} {v13 : BitVec 32} {v24 : BitVec 32}
    {k : (Σ' (v190 : BitVec 32), BitVec 32) → Prog (TpuEff nD τ sig (Elt F) Λ₀ .tc) α}
    (H : ∀ (w0 : BitVec 32) (w1 : BitVec 32), state m K c 3 4 1 8 1 8 0 0 0 ⊢ WP c (k ⟨w0, w1⟩) Q) :
    state m K c 3 4 1 8 0 6 0 0 0 ⊢ WP c (onBufs (k0_part7 (F := F)) c v2 v13 v24 >>= k) Q := by
  rw [k0_part7_eq_skeleton]
  simp only [k0_part7_skel, semSignalWord, semWaitWord, Prog.lift, Prog.bind_op, Prog.bind_ret, Prog.pure_eq_ret, Prog.bind_assoc, wp_deviceId]
  refine at_send_st m K (fun c' => ⟨k0_dev9 c', k0_dev9_lt c'⟩) ?_
  refine at_send_st m K (fun c' => ⟨k0_dev10 c', k0_dev10_lt c'⟩) ?_
  refine at_recv_add m K (credit_rs _ _) ?_
  exact H _ _

theorem part8 {α : Type} {Q : α → sProp 𝕄} {c : Dev nD} {v24 : BitVec 32} {v190 : BitVec 32} {v191 : BitVec 32}
    {k : (PUnit) → Prog (TpuEff nD τ sig (Elt F) Λ₀ .tc) α}
    (H : state m K c 3 4 2 9 1 8 0 0 0 ⊢ WP c (k ⟨⟩) Q) :
    state m K c 3 4 1 8 1 8 0 0 0 ⊢ WP c (onBufs (k0_part8 (F := F)) c v24 v190 v191 >>= k) Q := by
  rw [k0_part8_eq_skeleton]
  simp only [k0_part8_skel, semSignalWord, semWaitWord, Prog.lift, Prog.bind_op, Prog.bind_ret, Prog.pure_eq_ret, Prog.bind_assoc, wp_deviceId]
  refine step_loaded m K 3 (by decide) (by decide) (credit_ld _ _) (by decide +kernel) ?_
  refine at_landed m K 0 ?_
  refine at_piece m K 8 3 (fun c' => k0_off3 c' 4294967295#32 0#32) ?_
  refine at_sum_ac m K 8 (pay_ac m c 0 (by decide)) ?_
  exact H

theorem part9 {α : Type} {Q : α → sProp 𝕄} {c : Dev nD} {v2 : BitVec 32} {v13 : BitVec 32}
    {k : (BitVec 32) → Prog (TpuEff nD τ sig (Elt F) Λ₀ .tc) α}
    (H : ∀ (w0 : BitVec 32), state m K c 3 4 3 9 2 9 0 0 0 ⊢ WP c (k w0) Q) :
    state m K c 3 4 2 9 1 8 0 0 0 ⊢ WP c (onBufs (k0_part9 (F := F)) c v2 v13 >>= k) Q := by
  rw [k0_part9_eq_skeleton]
  simp only [k0_part9_skel, semSignalWord, semWaitWord, Prog.lift, Prog.bind_op, Prog.bind_ret, Prog.pure_eq_ret, Prog.bind_assoc, wp_deviceId]
  refine at_send_ac m K (fun c' => ⟨k0_dev11 c', k0_dev11_lt c'⟩) ?_
  refine at_recv_add m K (credit_rs _ _) ?_
  refine step_loaded m K 1 (by decide) (by decide) (credit_ld _ _) (by decide +kernel) ?_
  exact H _

theorem part10 {α : Type} {Q : α → sProp 𝕄} {c : Dev nD} {v13 : BitVec 32} {v24 : BitVec 32} {v241 : BitVec 32}
    {k : (PUnit) → Prog (TpuEff nD τ sig (Elt F) Λ₀ .tc) α}
    (H : state m K c 3 4 3 10 2 10 0 0 0 ⊢ WP c (k ⟨⟩) Q) :
    state m K c 3 4 3 9 2 9 0 0 0 ⊢ WP c (onBufs (k0_part10 (F := F)) c v13 v24 v241 >>= k) Q := by
  rw [k0_part10_eq_skeleton]
  simp only [k0_part10_skel, semSignalWord, semWaitWord, Prog.lift, Prog.bind_op, Prog.bind_ret, Prog.pure_eq_ret, Prog.bind_assoc, wp_deviceId]
  refine at_landed m K 1 ?_
  refine at_piece m K 9 1 (fun c' => k0_off4 c' 1#32 0#32) ?_
  refine at_sum_ac m K 9 (pay_ac m c 1 (by decide)) ?_
  refine at_send_ac m K (fun c' => ⟨k0_dev12 c', k0_dev12_lt c'⟩) ?_
  exact H

theorem part11 {α : Type} {Q : α → sProp 𝕄} {c : Dev nD} {v2 : BitVec 32}
    {k : (BitVec 32) → Prog (TpuEff nD τ sig (Elt F) Λ₀ .tc) α}
    (H : ∀ (w0 : BitVec 32), state m K c 3 4 3 11 3 10 0 0 0 ⊢ WP c (k w0) Q) :
    state m K c 3 4 3 10 2 10 0 0 0 ⊢ WP c (onBufs (k0_part11 (F := F)) c v2 >>= k) Q := by
  rw [k0_part11_eq_skeleton]
  simp only [k0_part11_skel, semSignalWord, semWaitWord, Prog.lift, Prog.bind_op, Prog.bind_ret, Prog.pure_eq_ret, Prog.bind_assoc, wp_deviceId]
  refine at_recv_add m K (credit_rs _ _) ?_
  refine at_landed m K 2 ?_
  refine at_piece m K 10 3 (fun c' => k0_off3 c' 4294967295#32 256#32) ?_
  refine at_sum_ac m K 10 (pay_ac m c 2 (by decide)) ?_
  exact H _

theorem part12 {α : Type} {Q : α → sProp 𝕄} {c : Dev nD} {v2 : BitVec 32} {v13 : BitVec 32} {v24 : BitVec 32} {c1_i32_320 : BitVec 32}
    {k : (BitVec 32) → Prog (TpuEff nD τ sig (Elt F) Λ₀ .tc) α}
    (H : ∀ (w0 : BitVec 32), state m K c 3 4 3 11 4 11 0 0 0 ⊢ WP c (k w0) Q) :
    state m K c 3 4 3 11 3 10 0 0 0 ⊢ WP c (onBufs (k0_part12 (F := F)) c v2 v13 v24 c1_i32_320 >>= k) Q := by
  rw [k0_part12_eq_skeleton]
  simp only [k0_part12_skel, semSignalWord, semWaitWord, Prog.lift, Prog.bind_op, Prog.bind_ret, Prog.pure_eq_ret, Prog.bind_assoc, wp_deviceId]
  refine at_send_ac m K (fun c' => ⟨k0_dev13 c', k0_dev13_lt c'⟩) ?_
  refine at_recv_add m K (credit_rs _ _) ?_
  exact H _

theorem part13 {α : Type} {Q : α → sProp 𝕄} {c : Dev nD} {v13 : BitVec 32} {v24 : BitVec 32} {v323 : BitVec 32}
    {k : (PUnit) → Prog (TpuEff nD τ sig (Elt F) Λ₀ .tc) α}
    (H : state m K c 3 4 3 12 4 12 0 0 0 ⊢ WP c (k ⟨⟩) Q) :
    state m K c 3 4 3 11 4 11 0 0 0 ⊢ WP c (onBufs (k0_part13 (F := F)) c v13 v24 v323 >>= k) Q := by
  rw [k0_part13_eq_skeleton]
  simp only [k0_part13_skel, semSignalWord, semWaitWord, Prog.lift, Prog.bind_op, Prog.bind_ret, Prog.pure_eq_ret, Prog.bind_assoc, wp_deviceId]
  refine at_landed m K 3 ?_
  refine at_piece m K 11 1 (fun c' => k0_off4 c' 1#32 256#32) ?_
  refine at_sum_ac m K 11 (pay_ac m c 3 (by decide)) ?_
  refine at_send_ac m K (fun c' => ⟨k0_dev14 c', k0_dev14_lt c'⟩) ?_
  exact H

theorem part14 {α : Type} {Q : α → sProp 𝕄} {c : Dev nD} {v2 : BitVec 32}
    {k : (BitVec 32) → Prog (TpuEff nD τ sig (Elt F) Λ₀ .tc) α}
    (H : ∀ (w0 : BitVec 32), state m K c 3 4 3 13 5 12 0 0 0 ⊢ WP c (k w0) Q) :
    state m K c 3 4 3 12 4 12 0 0 0 ⊢ WP c (onBufs (k0_part14 (F := F)) c v2 >>= k) Q := by
  rw [k0_part14_eq_skeleton]
  simp only [k0_part14_skel, semSignalWord, semWaitWord, Prog.lift, Prog.bind_op, Prog.bind_ret, Prog.pure_eq_ret, Prog.bind_assoc, wp_deviceId]
  refine at_recv_add m K (credit_rs _ _) ?_
  refine at_landed m K 4 ?_
  refine at_piece m K 12 3 (fun c' => k0_off3 c' 4294967295#32 512#32) ?_
  refine at_sum_ac m K 12 (pay_ac m c 4 (by decide)) ?_
  exact H _

theorem part15 {α : Type} {Q : α → sProp 𝕄} {c : Dev nD} {v2 : BitVec 32} {v13 : BitVec 32} {v24 : BitVec 32} {c1_i32_416 : BitVec 32}
    {k : (BitVec 32) → Prog (TpuEff nD τ sig (Elt F) Λ₀ .tc) α}
    (H : ∀ (w0 : BitVec 32), state m K c 3 4 3 13 6 13 0 0 0 ⊢ WP c (k w0) Q) :
    state m K c 3 4 3 13 5 12 0 0 0 ⊢ WP c (onBufs (k0_part15 (F := F)) c v2 v13 v24 c1_i32_416 >>= k) Q := by
  rw [k0_part15_eq_skeleton]
  simp only [k0_part15_skel, semSignalWord, semWaitWord, Prog.lift, Prog.bind_op, Prog.bind_ret, Prog.pure_eq_ret, Prog.bind_assoc, wp_deviceId]
  refine at_send_ac m K (fun c' => ⟨k0_dev15 c', k0_dev15_lt c'⟩) ?_
  refine at_recv_add m K (credit_rs _ _) ?_
  exact H _

theorem part16 {α : Type} {Q : α → sProp 𝕄} {c : Dev nD} {v13 : BitVec 32} {v24 : BitVec 32} {v401 : BitVec 32}
    {k : (PUnit) → Prog (TpuEff nD τ sig (Elt F) Λ₀ .tc) α}
    (H : state m K c 3 4 3 14 6 14 0 0 0 ⊢ WP c (k ⟨⟩) Q) :
    state m K c 3 4 3 13 6 13 0 0 0 ⊢ WP c (onBufs (k0_part16 (F := F)) c v13 v24 v401 >>= k) Q := by
  rw [k0_part16_eq_skeleton]
  simp only [k0_part16_skel, semSignalWord, semWaitWord, Prog.lift, Prog.bind_op, Prog.bind_ret, Prog.pure_eq_ret, Prog.bind_assoc, wp_deviceId]
  refine at_landed m K 5 ?_
  refine at_piece m K 13 1 (fun c' => k0_off4 c' 1#32 512#32) ?_
  refine at_sum_ac m K 13 (pay_ac m c 5 (by decide)) ?_
  refine at_send_ac m K (fun c' => ⟨k0_dev16 c', k0_dev16_lt c'⟩) ?_
  exact H

theorem part17 {α : Type} {Q : α → sProp 𝕄} {c : Dev nD} {v2 : BitVec 32}
    {k : (BitVec 32) → Prog (TpuEff nD τ sig (Elt F) Λ₀ .tc) α}
    (H : ∀ (w0 : BitVec 32), state m K c 3 4 3 15 7 14 0 0 0 ⊢ WP c (k w0) Q) :
    state m K c 3 4 3 14 6 14 0 0 0 ⊢ WP c (onBufs (k0_part17 (F := F)) c v2 >>= k) Q := by
  rw [k0_part17_eq_skeleton]
  simp only [k0_part17_skel, semSignalWord, semWaitWord, Prog.lift, Prog.bind_op, Prog.bind_ret, Prog.pure_eq_ret, Prog.bind_assoc, wp_deviceId]
  refine at_recv_add m K (credit_rs _ _) ?_
  refine at_landed m K 6 ?_
  refine at_piece m K 14 3 (fun c' => k0_off3 c' 4294967295#32 768#32) ?_
  refine at_sum_ac m K 14 (pay_ac m c 6 (by decide)) ?_
  exact H _

theorem part18 {α : Type} {Q : α → sProp 𝕄} {c : Dev nD} {v2 : BitVec 32} {v13 : BitVec 32} {v24 : BitVec 32} {c1_i32_511 : BitVec 32}
    {k : (BitVec 32) → Prog (TpuEff nD τ sig (Elt F) Λ₀ .tc) α}
    (H : ∀ (w0 : BitVec 32), state m K c 3 4 3 15 8 15 0 0 0 ⊢ WP c (k w0) Q) :
    state m K c 3 4 3 15 7 14 0 0 0 ⊢ WP c (onBufs (k0_part18 (F := F)) c v2 v13 v24 c1_i32_511 >>= k) Q := by
  rw [k0_part18_eq_skeleton]
  simp only [k0_part18_skel, semSignalWord, semWaitWord, Prog.lift, Prog.bind_op, Prog.bind_ret, Prog.pure_eq_ret, Prog.bind_assoc, wp_deviceId]
  refine at_send_ac m K (fun c' => ⟨k0_dev17 c', k0_dev17_lt c'⟩) ?_
  refine at_recv_add m K (credit_rs _ _) ?_
  exact H _

theorem part19 {α : Type} {Q : α → sProp 𝕄} {c : Dev nD} {v13 : BitVec 32} {v24 : BitVec 32} {v479 : BitVec 32}
    {k : (PUnit) → Prog (TpuEff nD τ sig (Elt F) Λ₀ .tc) α}
    (H : state m K c 3 4 3 16 8 16 0 0 0 ⊢ WP c (k ⟨⟩) Q) :
    state m K c 3 4 3 15 8 15 0 0 0 ⊢ WP c (onBufs (k0_part19 (F := F)) c v13 v24 v479 >>= k) Q := by
  rw [k0_part19_eq_skeleton]
  simp only [k0_part19_skel, semSignalWord, semWaitWord, Prog.lift, Prog.bind_op, Prog.bind_ret, Prog.pure_eq_ret, Prog.bind_assoc, wp_deviceId]
  refine at_landed m K 7 ?_
  refine at_piece m K 15 1 (fun c' => k0_off4 c' 1#32 768#32) ?_
  refine at_sum_ac m K 15 (pay_ac m c 7 (by decide)) ?_
  refine at_send_ac m K (fun c' => ⟨k0_dev18 c', k0_dev18_lt c'⟩) ?_
  exact H

end RingSum
-- ==== Proof.Run2.lean ====
module
public import proofs.«01_k».proof.Proof.Text

/-!
# The second hop

The parts of the kernel's text, run on the state.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

theorem part20 {α : Type} {Q : α → sProp 𝕄} {c : Dev nD} {v2 : BitVec 32}
    {k : (PUnit) → Prog (TpuEff nD τ sig (Elt F) Λ₀ .tc) α}
    (H : state m K c 3 4 4 17 9 16 0 0 0 ⊢ WP c (k ⟨⟩) Q) :
    state m K c 3 4 3 16 8 16 0 0 0 ⊢ WP c (onBufs (k0_part20 (F := F)) c v2 >>= k) Q := by
  rw [k0_part20_eq_skeleton]
  simp only [k0_part20_skel, semSignalWord, semWaitWord, Prog.lift, Prog.bind_op, Prog.bind_ret, Prog.pure_eq_ret, Prog.bind_assoc, wp_deviceId]
  refine at_recv_add m K (credit_rs _ _) ?_
  refine step_loaded m K 2 (by decide) (by decide) (credit_ld _ _) (by decide +kernel) ?_
  refine at_landed m K 8 ?_
  refine at_piece m K 16 2 (fun c' => k0_off3 c' 4294967294#32 0#32) ?_
  refine at_sum_ac m K 16 (pay_ac m c 8 (by decide)) ?_
  exact H

theorem part21 {α : Type} {Q : α → sProp 𝕄} {c : Dev nD} {v2 : BitVec 32} {v13 : BitVec 32} {v24 : BitVec 32}
    {k : (Σ' (v555 : BitVec 32), BitVec 32) → Prog (TpuEff nD τ sig (Elt F) Λ₀ .tc) α}
    (H : ∀ (w0 : BitVec 32) (w1 : BitVec 32), state m K c 3 4 4 17 10 17 0 0 0 ⊢ WP c (k ⟨w0, w1⟩) Q) :
    state m K c 3 4 4 17 9 16 0 0 0 ⊢ WP c (onBufs (k0_part21 (F := F)) c v2 v13 v24 >>= k) Q := by
  rw [k0_part21_eq_skeleton]
  simp only [k0_part21_skel, semSignalWord, semWaitWord, Prog.lift, Prog.bind_op, Prog.bind_ret, Prog.pure_eq_ret, Prog.bind_assoc, wp_deviceId]
  refine at_send_ac m K (fun c' => ⟨k0_dev19 c', k0_dev19_lt c'⟩) ?_
  refine at_recv_add m K (credit_rs _ _) ?_
  exact H _ _

theorem part22 {α : Type} {Q : α → sProp 𝕄} {c : Dev nD} {v13 : BitVec 32} {v555 : BitVec 32} {v556 : BitVec 32}
    {k : (PUnit) → Prog (TpuEff nD τ sig (Elt F) Λ₀ .tc) α}
    (H : state m K c 3 4 4 18 10 18 0 0 0 ⊢ WP c (k ⟨⟩) Q) :
    state m K c 3 4 4 17 10 17 0 0 0 ⊢ WP c (onBufs (k0_part22 (F := F)) c v13 v555 v556 >>= k) Q := by
  rw [k0_part22_eq_skeleton]
  simp only [k0_part22_skel, semSignalWord, semWaitWord, Prog.lift, Prog.bind_op, Prog.bind_ret, Prog.pure_eq_ret, Prog.bind_assoc, wp_deviceId]
  refine at_landed m K 9 ?_
  refine at_piece m K 17 2 (fun c' => k0_off4 c' 2#32 0#32) ?_
  refine at_sum_ac m K 17 (pay_ac m c 9 (by decide)) ?_
  refine at_send_ac m K (fun c' => ⟨k0_dev20 c', k0_dev20_lt c'⟩) ?_
  exact H

theorem part23 {α : Type} {Q : α → sProp 𝕄} {c : Dev nD} {v2 : BitVec 32} {v24 : BitVec 32}
    {k : (FVec F S256x512 .bf16) → Prog (TpuEff nD τ sig (Elt F) Λ₀ .tc) α}
    (H : state m K c 3 4 4 18 11 18 0 0 0 ⊢ WP c (k (k0_pay12 (rsV m c 10) (xp m c 18))) Q) :
    state m K c 3 4 4 18 10 18 0 0 0 ⊢ WP c (onBufs (k0_part23 (F := F)) c v2 v24 >>= k) Q := by
  rw [k0_part23_eq_skeleton]
  simp only [k0_part23_skel, semSignalWord, semWaitWord, Prog.lift, Prog.bind_op, Prog.bind_ret, Prog.pure_eq_ret, Prog.bind_assoc, wp_deviceId]
  refine at_recv_add m K (credit_rs _ _) ?_
  refine at_landed m K 10 ?_
  refine at_piece m K 18 2 (fun c' => k0_off3 c' 4294967294#32 256#32) ?_
  exact H

theorem part24 {α : Type} {Q : α → sProp 𝕄} {c : Dev nD} {v2 : BitVec 32} {v13 : BitVec 32} {v24 : BitVec 32}
    {k : (BitVec 32) → Prog (TpuEff nD τ sig (Elt F) Λ₀ .tc) α}
    (H : ∀ (w0 : BitVec 32), state m K c 3 4 4 19 12 19 0 0 0 ⊢ WP c (k w0) Q) :
    state m K c 3 4 4 18 11 18 0 0 0 ⊢ WP c (onBufs (k0_part24 (F := F)) c v2 v13 v24 (k0_pay12 (rsV m c 10) (xp m c 18)) >>= k) Q := by
  rw [k0_part24_eq_skeleton]
  simp only [k0_part24_skel, semSignalWord, semWaitWord, Prog.lift, Prog.bind_op, Prog.bind_ret, Prog.pure_eq_ret, Prog.bind_assoc, wp_deviceId]
  refine at_sum_ac m K 18 (pay_ac m c 10 (by decide)) ?_
  refine at_send_ac m K (fun c' => ⟨k0_dev21 c', k0_dev21_lt c'⟩) ?_
  refine at_recv_add m K (credit_rs _ _) ?_
  exact H _

theorem part25 {α : Type} {Q : α → sProp 𝕄} {c : Dev nD} {v13 : BitVec 32} {v633 : BitVec 32}
    {k : (PUnit) → Prog (TpuEff nD τ sig (Elt F) Λ₀ .tc) α}
    (H : state m K c 3 4 4 20 12 19 0 0 0 ⊢ WP c (k ⟨⟩) Q) :
    state m K c 3 4 4 19 12 19 0 0 0 ⊢ WP c (onBufs (k0_part25 (F := F)) c v13 v633 >>= k) Q := by
  rw [k0_part25_eq_skeleton]
  simp only [k0_part25_skel, semSignalWord, semWaitWord, Prog.lift, Prog.bind_op, Prog.bind_ret, Prog.pure_eq_ret, Prog.bind_assoc, wp_deviceId]
  refine at_landed m K 11 ?_
  refine at_piece m K 19 2 (fun c' => k0_off4 c' 2#32 256#32) ?_
  refine at_sum_ac m K 19 (pay_ac m c 11 (by decide)) ?_
  exact H

theorem part26 {α : Type} {Q : α → sProp 𝕄} {c : Dev nD} {v2 : BitVec 32} {v24 : BitVec 32}
    {k : (FVec F S256x512 .bf16) → Prog (TpuEff nD τ sig (Elt F) Λ₀ .tc) α}
    (H : state m K c 3 4 4 20 13 20 0 0 0 ⊢ WP c (k (k0_pay15 (rsV m c 12))) Q) :
    state m K c 3 4 4 20 12 19 0 0 0 ⊢ WP c (onBufs (k0_part26 (F := F)) c v2 v24 >>= k) Q := by
  rw [k0_part26_eq_skeleton]
  simp only [k0_part26_skel, semSignalWord, semWaitWord, Prog.lift, Prog.bind_op, Prog.bind_ret, Prog.pure_eq_ret, Prog.bind_assoc, wp_deviceId]
  refine at_send_ac m K (fun c' => ⟨k0_dev22 c', k0_dev22_lt c'⟩) ?_
  refine at_recv_add m K (credit_rs _ _) ?_
  refine at_landed m K 12 ?_
  exact H

theorem part27 {α : Type} {Q : α → sProp 𝕄} {c : Dev nD} {v13 : BitVec 32} {v24 : BitVec 32}
    {k : (PUnit) → Prog (TpuEff nD τ sig (Elt F) Λ₀ .tc) α}
    (H : state m K c 3 4 4 21 13 21 0 0 0 ⊢ WP c (k ⟨⟩) Q) :
    state m K c 3 4 4 20 13 20 0 0 0 ⊢ WP c (onBufs (k0_part27 (F := F)) c v13 v24 (k0_pay15 (rsV m c 12)) >>= k) Q := by
  rw [k0_part27_eq_skeleton]
  simp only [k0_part27_skel, semSignalWord, semWaitWord, Prog.lift, Prog.bind_op, Prog.bind_ret, Prog.pure_eq_ret, Prog.bind_assoc, wp_deviceId]
  refine at_piece m K 20 2 (fun c' => k0_off3 c' 4294967294#32 512#32) ?_
  refine at_sum_ac m K 20 (pay_ac m c 12 (by decide)) ?_
  refine at_send_ac m K (fun c' => ⟨k0_dev23 c', k0_dev23_lt c'⟩) ?_
  exact H

theorem part28 {α : Type} {Q : α → sProp 𝕄} {c : Dev nD} {v2 : BitVec 32} {v13 : BitVec 32}
    {k : (PUnit) → Prog (TpuEff nD τ sig (Elt F) Λ₀ .tc) α}
    (H : state m K c 3 4 4 22 14 21 0 0 0 ⊢ WP c (k ⟨⟩) Q) :
    state m K c 3 4 4 21 13 21 0 0 0 ⊢ WP c (onBufs (k0_part28 (F := F)) c v2 v13 >>= k) Q := by
  rw [k0_part28_eq_skeleton]
  simp only [k0_part28_skel, semSignalWord, semWaitWord, Prog.lift, Prog.bind_op, Prog.bind_ret, Prog.pure_eq_ret, Prog.bind_assoc, wp_deviceId]
  refine at_recv_add m K (credit_rs _ _) ?_
  refine at_landed m K 13 ?_
  refine at_piece m K 21 2 (fun c' => k0_off4 c' 2#32 512#32) ?_
  refine at_sum_ac m K 21 (pay_ac m c 13 (by decide)) ?_
  exact H

theorem part29 {α : Type} {Q : α → sProp 𝕄} {c : Dev nD} {v2 : BitVec 32} {v24 : BitVec 32}
    {k : (Σ' (v763 : BitVec 32), Vec F S1x1x256x512 .bf16) → Prog (TpuEff nD τ sig (Elt F) Λ₀ .tc) α}
    (H : ∀ (w0 : BitVec 32), state m K c 3 4 4 22 15 22 0 0 0 ⊢ WP c (k ⟨w0, (rsV m c 14)⟩) Q) :
    state m K c 3 4 4 22 14 21 0 0 0 ⊢ WP c (onBufs (k0_part29 (F := F)) c v2 v24 >>= k) Q := by
  rw [k0_part29_eq_skeleton]
  simp only [k0_part29_skel, semSignalWord, semWaitWord, Prog.lift, Prog.bind_op, Prog.bind_ret, Prog.pure_eq_ret, Prog.bind_assoc, wp_deviceId]
  refine at_send_ac m K (fun c' => ⟨k0_dev24 c', k0_dev24_lt c'⟩) ?_
  refine at_recv_add m K (credit_rs _ _) ?_
  refine at_landed m K 14 ?_
  exact H _

theorem part30 {α : Type} {Q : α → sProp 𝕄} {c : Dev nD} {v13 : BitVec 32} {v24 : BitVec 32} {v763 : BitVec 32}
    {k : (PUnit) → Prog (TpuEff nD τ sig (Elt F) Λ₀ .tc) α}
    (H : state m K c 3 4 4 23 15 23 0 0 0 ⊢ WP c (k ⟨⟩) Q) :
    state m K c 3 4 4 22 15 22 0 0 0 ⊢ WP c (onBufs (k0_part30 (F := F)) c v13 v24 v763 (rsV m c 14) >>= k) Q := by
  rw [k0_part30_eq_skeleton]
  simp only [k0_part30_skel, semSignalWord, semWaitWord, Prog.lift, Prog.bind_op, Prog.bind_ret, Prog.pure_eq_ret, Prog.bind_assoc, wp_deviceId]
  refine at_piece m K 22 2 (fun c' => k0_off3 c' 4294967294#32 768#32) ?_
  refine at_sum_ac m K 22 (pay_ac m c 14 (by decide)) ?_
  refine at_send_ac m K (fun c' => ⟨k0_dev25 c', k0_dev25_lt c'⟩) ?_
  exact H

theorem part31 {α : Type} {Q : α → sProp 𝕄} {c : Dev nD} {v2 : BitVec 32}
    {k : (PUnit) → Prog (TpuEff nD τ sig (Elt F) Λ₀ .tc) α}
    (H : state m K c 3 4 4 24 16 23 0 0 0 ⊢ WP c (k ⟨⟩) Q) :
    state m K c 3 4 4 23 15 23 0 0 0 ⊢ WP c (onBufs (k0_part31 (F := F)) c v2 >>= k) Q := by
  rw [k0_part31_eq_skeleton]
  simp only [k0_part31_skel, semSignalWord, semWaitWord, Prog.lift, Prog.bind_op, Prog.bind_ret, Prog.pure_eq_ret, Prog.bind_assoc, wp_deviceId]
  refine at_recv_add m K (credit_rs _ _) ?_
  refine at_landed m K 15 ?_
  refine at_piece m K 23 2 (fun c' => k0_off4 c' 2#32 768#32) ?_
  refine at_sum_ac m K 23 (pay_ac m c 15 (by decide)) ?_
  exact H

theorem part32 {α : Type} {Q : α → sProp 𝕄} {c : Dev nD} {v2 : BitVec 32} {v13 : BitVec 32} {v24 : BitVec 32}
    {k : (BitVec 32) → Prog (TpuEff nD τ sig (Elt F) Λ₀ .tc) α}
    (H : ∀ (w0 : BitVec 32), state m K c 3 4 4 24 16 24 0 0 0 ⊢ WP c (k w0) Q) :
    state m K c 3 4 4 24 16 23 0 0 0 ⊢ WP c (onBufs (k0_part32 (F := F)) c v2 v13 v24 >>= k) Q := by
  rw [k0_part32_eq_skeleton]
  simp only [k0_part32_skel, semSignalWord, semWaitWord, Prog.lift, Prog.bind_op, Prog.bind_ret, Prog.pure_eq_ret, Prog.bind_assoc, wp_deviceId]
  refine at_send_ac m K (fun c' => ⟨k0_dev26 c', k0_dev26_lt c'⟩) ?_
  exact H _

end RingSum
-- ==== Proof.Run3.lean ====
module
public import proofs.«01_k».proof.Proof.Text

/-!
# The third hop

The parts of the kernel's text, run on the state.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

theorem part33 {α : Type} {Q : α → sProp 𝕄} {c : Dev nD} {v2 : BitVec 32} {v24 : BitVec 32} {v835 : BitVec 32}
    {k : (PUnit) → Prog (TpuEff nD τ sig (Elt F) Λ₀ .tc) α}
    (H : state m K c 3 4 4 25 17 24 0 0 0 ⊢ WP c (k ⟨⟩) Q) :
    state m K c 3 4 4 24 16 24 0 0 0 ⊢ WP c (onBufs (k0_part33 (F := F)) c v2 v24 v835 >>= k) Q := by
  rw [k0_part33_eq_skeleton]
  simp only [k0_part33_skel, semSignalWord, semWaitWord, Prog.lift, Prog.bind_op, Prog.bind_ret, Prog.pure_eq_ret, Prog.bind_assoc, wp_deviceId]
  refine at_recv_add m K (credit_rs _ _) ?_
  refine at_landed m K 16 ?_
  refine at_piece m K 24 1 (fun c' => k0_off5 c' 0#32) ?_
  refine at_sum_ov m K 24 (fun c' => k0_off5 c' 0#32) (pay_ov m c 16 (by decide)) ?_
  exact H

theorem part34 {α : Type} {Q : α → sProp 𝕄} {c : Dev nD} {v2 : BitVec 32} {v13 : BitVec 32}
    {k : (Σ' (v890 : BitVec 32) (v900 : FVec F S256x512 .bf16), BitVec 32) → Prog (TpuEff nD τ sig (Elt F) Λ₀ .tc) α}
    (H : ∀ (w0 : BitVec 32) (w1 : BitVec 32), state m K c 3 4 4 25 18 25 0 0 0 ⊢ WP c (k ⟨w0, (k0_pay21 (rsV m c 17)), w1⟩) Q) :
    state m K c 3 4 4 25 17 24 0 0 0 ⊢ WP c (onBufs (k0_part34 (F := F)) c v2 v13 >>= k) Q := by
  rw [k0_part34_eq_skeleton]
  simp only [k0_part34_skel, semSignalWord, semWaitWord, Prog.lift, Prog.bind_op, Prog.bind_ret, Prog.pure_eq_ret, Prog.bind_assoc, wp_deviceId]
  refine at_send_ov m K (fun c' => ⟨k0_dev27 c', k0_dev27_lt c'⟩) (fun c' => k0_off6 c' 0#32 0#32) ?_
  refine at_recv_add m K (credit_rs _ _) ?_
  refine at_landed m K 17 ?_
  exact H _ _

theorem part35 {α : Type} {Q : α → sProp 𝕄} {c : Dev nD} {v2 : BitVec 32} {v13 : BitVec 32} {v890 : BitVec 32} {v901 : BitVec 32}
    {k : (PUnit) → Prog (TpuEff nD τ sig (Elt F) Λ₀ .tc) α}
    (H : state m K c 3 4 4 26 18 26 0 0 0 ⊢ WP c (k ⟨⟩) Q) :
    state m K c 3 4 4 25 18 25 0 0 0 ⊢ WP c (onBufs (k0_part35 (F := F)) c v2 v13 v890 (k0_pay21 (rsV m c 17)) v901 >>= k) Q := by
  rw [k0_part35_eq_skeleton]
  simp only [k0_part35_skel, semSignalWord, semWaitWord, Prog.lift, Prog.bind_op, Prog.bind_ret, Prog.pure_eq_ret, Prog.bind_assoc, wp_deviceId]
  refine at_piece m K 25 3 (fun c' => k0_off7 c' 0#32) ?_
  refine at_sum_ov m K 25 (fun c' => k0_off7 c' 0#32) (pay_ov m c 17 (by decide)) ?_
  refine at_send_ov m K (fun c' => ⟨k0_dev28 c', k0_dev28_lt c'⟩) (fun c' => k0_off8 c' 0#32 0#32) ?_
  exact H

theorem part36 {α : Type} {Q : α → sProp 𝕄} {c : Dev nD} {v2 : BitVec 32} {v24 : BitVec 32}
    {k : (Σ' (v961 : FVec F S256x512 .bf16), BitVec 32) → Prog (TpuEff nD τ sig (Elt F) Λ₀ .tc) α}
    (H : ∀ (w0 : BitVec 32), state m K c 3 4 4 26 19 26 0 0 0 ⊢ WP c (k ⟨(k0_pay23 (rsV m c 18) (xp m c 26)), w0⟩) Q) :
    state m K c 3 4 4 26 18 26 0 0 0 ⊢ WP c (onBufs (k0_part36 (F := F)) c v2 v24 >>= k) Q := by
  rw [k0_part36_eq_skeleton]
  simp only [k0_part36_skel, semSignalWord, semWaitWord, Prog.lift, Prog.bind_op, Prog.bind_ret, Prog.pure_eq_ret, Prog.bind_assoc, wp_deviceId]
  refine at_recv_add m K (credit_rs _ _) ?_
  refine at_landed m K 18 ?_
  refine at_piece m K 26 1 (fun c' => k0_off5 c' 256#32) ?_
  exact H _

theorem part37 {α : Type} {Q : α → sProp 𝕄} {c : Dev nD} {v2 : BitVec 32} {v24 : BitVec 32} {v962 : BitVec 32}
    {k : (Σ' (v992 : BitVec 32) (v993 : BitVec 32), BitVec 32) → Prog (TpuEff nD τ sig (Elt F) Λ₀ .tc) α}
    (H : ∀ (w0 : BitVec 32) (w1 : BitVec 32) (w2 : BitVec 32), state m K c 3 4 4 27 19 27 0 0 0 ⊢ WP c (k ⟨w0, w1, w2⟩) Q) :
    state m K c 3 4 4 26 19 26 0 0 0 ⊢ WP c (onBufs (k0_part37 (F := F)) c v2 v24 (k0_pay23 (rsV m c 18) (xp m c 26)) v962 >>= k) Q := by
  rw [k0_part37_eq_skeleton]
  simp only [k0_part37_skel, semSignalWord, semWaitWord, Prog.lift, Prog.bind_op, Prog.bind_ret, Prog.pure_eq_ret, Prog.bind_assoc, wp_deviceId]
  refine at_sum_ov m K 26 (fun c' => k0_off5 c' 256#32) (pay_ov m c 18 (by decide)) ?_
  refine at_send_ov m K (fun c' => ⟨k0_dev29 c', k0_dev29_lt c'⟩) (fun c' => k0_off6 c' 0#32 256#32) ?_
  exact H _ _ _

theorem part38 {α : Type} {Q : α → sProp 𝕄} {c : Dev nD} {v13 : BitVec 32} {v992 : BitVec 32} {v993 : BitVec 32} {c0_i32_1129 : BitVec 32}
    {k : (BitVec 32) → Prog (TpuEff nD τ sig (Elt F) Λ₀ .tc) α}
    (H : ∀ (w0 : BitVec 32), state m K c 3 4 4 28 20 27 0 0 0 ⊢ WP c (k w0) Q) :
    state m K c 3 4 4 27 19 27 0 0 0 ⊢ WP c (onBufs (k0_part38 (F := F)) c v13 v992 v993 c0_i32_1129 >>= k) Q := by
  rw [k0_part38_eq_skeleton]
  simp only [k0_part38_skel, semSignalWord, semWaitWord, Prog.lift, Prog.bind_op, Prog.bind_ret, Prog.pure_eq_ret, Prog.bind_assoc, wp_deviceId]
  refine at_recv_add m K (credit_rs _ _) ?_
  refine at_landed m K 19 ?_
  refine at_piece m K 27 3 (fun c' => k0_off7 c' 256#32) ?_
  refine at_sum_ov m K 27 (fun c' => k0_off7 c' 256#32) (pay_ov m c 19 (by decide)) ?_
  exact H _

theorem part39 {α : Type} {Q : α → sProp 𝕄} {c : Dev nD} {v2 : BitVec 32} {v13 : BitVec 32} {c1_i32_1158 : BitVec 32}
    {k : (BitVec 32) → Prog (TpuEff nD τ sig (Elt F) Λ₀ .tc) α}
    (H : ∀ (w0 : BitVec 32), state m K c 3 4 4 28 20 28 0 0 0 ⊢ WP c (k w0) Q) :
    state m K c 3 4 4 28 20 27 0 0 0 ⊢ WP c (onBufs (k0_part39 (F := F)) c v2 v13 c1_i32_1158 >>= k) Q := by
  rw [k0_part39_eq_skeleton]
  simp only [k0_part39_skel, semSignalWord, semWaitWord, Prog.lift, Prog.bind_op, Prog.bind_ret, Prog.pure_eq_ret, Prog.bind_assoc, wp_deviceId]
  refine at_send_ov m K (fun c' => ⟨k0_dev30 c', k0_dev30_lt c'⟩) (fun c' => k0_off8 c' 0#32 256#32) ?_
  exact H _

theorem part40 {α : Type} {Q : α → sProp 𝕄} {c : Dev nD} {v2 : BitVec 32} {v24 : BitVec 32} {v1055 : BitVec 32}
    {k : (Σ' (v1081 : BitVec 32), BitVec 32) → Prog (TpuEff nD τ sig (Elt F) Λ₀ .tc) α}
    (H : ∀ (w0 : BitVec 32) (w1 : BitVec 32), state m K c 3 4 4 29 21 28 0 0 0 ⊢ WP c (k ⟨w0, w1⟩) Q) :
    state m K c 3 4 4 28 20 28 0 0 0 ⊢ WP c (onBufs (k0_part40 (F := F)) c v2 v24 v1055 >>= k) Q := by
  rw [k0_part40_eq_skeleton]
  simp only [k0_part40_skel, semSignalWord, semWaitWord, Prog.lift, Prog.bind_op, Prog.bind_ret, Prog.pure_eq_ret, Prog.bind_assoc, wp_deviceId]
  refine at_recv_add m K (credit_rs _ _) ?_
  refine at_landed m K 20 ?_
  refine at_piece m K 28 1 (fun c' => k0_off5 c' 512#32) ?_
  refine at_sum_ov m K 28 (fun c' => k0_off5 c' 512#32) (pay_ov m c 20 (by decide)) ?_
  exact H _ _

theorem part41 {α : Type} {Q : α → sProp 𝕄} {c : Dev nD} {v2 : BitVec 32} {v24 : BitVec 32} {v1081 : BitVec 32} {v1082 : BitVec 32}
    {k : (BitVec 32) → Prog (TpuEff nD τ sig (Elt F) Λ₀ .tc) α}
    (H : ∀ (w0 : BitVec 32), state m K c 3 4 4 29 21 29 0 0 0 ⊢ WP c (k w0) Q) :
    state m K c 3 4 4 29 21 28 0 0 0 ⊢ WP c (onBufs (k0_part41 (F := F)) c v2 v24 v1081 v1082 >>= k) Q := by
  rw [k0_part41_eq_skeleton]
  simp only [k0_part41_skel, semSignalWord, semWaitWord, Prog.lift, Prog.bind_op, Prog.bind_ret, Prog.pure_eq_ret, Prog.bind_assoc, wp_deviceId]
  refine at_send_ov m K (fun c' => ⟨k0_dev31 c', k0_dev31_lt c'⟩) (fun c' => k0_off6 c' 0#32 512#32) ?_
  exact H _

theorem part42 {α : Type} {Q : α → sProp 𝕄} {c : Dev nD} {v2 : BitVec 32} {v13 : BitVec 32} {v1110 : BitVec 32}
    {k : (Σ' (v1137 : BitVec 32) (v1142 : BitVec 1), BitVec 32) → Prog (TpuEff nD τ sig (Elt F) Λ₀ .tc) α}
    (H : ∀ (w0 : BitVec 32) (w1 : BitVec 1) (w2 : BitVec 32), state m K c 3 4 4 30 22 29 0 0 0 ⊢ WP c (k ⟨w0, w1, w2⟩) Q) :
    state m K c 3 4 4 29 21 29 0 0 0 ⊢ WP c (onBufs (k0_part42 (F := F)) c v2 v13 v1110 >>= k) Q := by
  rw [k0_part42_eq_skeleton]
  simp only [k0_part42_skel, semSignalWord, semWaitWord, Prog.lift, Prog.bind_op, Prog.bind_ret, Prog.pure_eq_ret, Prog.bind_assoc, wp_deviceId]
  refine at_recv_add m K (credit_rs _ _) ?_
  refine at_landed m K 21 ?_
  refine at_piece m K 29 3 (fun c' => k0_off7 c' 512#32) ?_
  refine at_sum_ov m K 29 (fun c' => k0_off7 c' 512#32) (pay_ov m c 21 (by decide)) ?_
  exact H _ _ _

theorem part43 {α : Type} {Q : α → sProp 𝕄} {c : Dev nD} {v2 : BitVec 32} {v13 : BitVec 32} {v24 : BitVec 32} {v1137 : BitVec 32} {v1142 : BitVec 1} {v1143 : BitVec 32}
    {k : (BitVec 32) → Prog (TpuEff nD τ sig (Elt F) Λ₀ .tc) α}
    (H : ∀ (w0 : BitVec 32), state m K c 3 4 4 30 22 30 0 0 0 ⊢ WP c (k w0) Q) :
    state m K c 3 4 4 30 22 29 0 0 0 ⊢ WP c (onBufs (k0_part43 (F := F)) c v2 v13 v24 v1137 v1142 v1143 >>= k) Q := by
  rw [k0_part43_eq_skeleton]
  simp only [k0_part43_skel, semSignalWord, semWaitWord, Prog.lift, Prog.bind_op, Prog.bind_ret, Prog.pure_eq_ret, Prog.bind_assoc, wp_deviceId]
  refine at_send_ov m K (fun c' => ⟨k0_dev32 c', k0_dev32_lt c'⟩) (fun c' => k0_off8 c' 0#32 512#32) ?_
  exact H _

theorem part44 {α : Type} {Q : α → sProp 𝕄} {c : Dev nD} {v2 : BitVec 32} {v1165 : BitVec 32}
    {k : (PUnit) → Prog (TpuEff nD τ sig (Elt F) Λ₀ .tc) α}
    (H : state m K c 3 4 4 31 23 30 0 0 0 ⊢ WP c (k ⟨⟩) Q) :
    state m K c 3 4 4 30 22 30 0 0 0 ⊢ WP c (onBufs (k0_part44 (F := F)) c v2 v1165 >>= k) Q := by
  rw [k0_part44_eq_skeleton]
  simp only [k0_part44_skel, semSignalWord, semWaitWord, Prog.lift, Prog.bind_op, Prog.bind_ret, Prog.pure_eq_ret, Prog.bind_assoc, wp_deviceId]
  refine at_recv_add m K (credit_rs _ _) ?_
  refine at_landed m K 22 ?_
  refine at_piece m K 30 1 (fun c' => k0_off5 c' 768#32) ?_
  refine at_sum_ov m K 30 (fun c' => k0_off5 c' 768#32) (pay_ov m c 22 (by decide)) ?_
  exact H

theorem part45 {α : Type} {Q : α → sProp 𝕄} {c : Dev nD} {v2 : BitVec 32} {v13 : BitVec 32} {v24 : BitVec 32}
    {k : (BitVec 32) → Prog (TpuEff nD τ sig (Elt F) Λ₀ .tc) α}
    (H : ∀ (w0 : BitVec 32), state m K c 3 4 4 31 24 31 0 0 0 ⊢ WP c (k w0) Q) :
    state m K c 3 4 4 31 23 30 0 0 0 ⊢ WP c (onBufs (k0_part45 (F := F)) c v2 v13 v24 >>= k) Q := by
  rw [k0_part45_eq_skeleton]
  simp only [k0_part45_skel, semSignalWord, semWaitWord, Prog.lift, Prog.bind_op, Prog.bind_ret, Prog.pure_eq_ret, Prog.bind_assoc, wp_deviceId]
  refine at_send_ov m K (fun c' => ⟨k0_dev33 c', k0_dev33_lt c'⟩) (fun c' => k0_off6 c' 0#32 768#32) ?_
  refine at_recv_add m K (credit_rs _ _) ?_
  exact H _

theorem part46 {α : Type} {Q : α → sProp 𝕄} {c : Dev nD} {v2 : BitVec 32} {v13 : BitVec 32} {v1220 : BitVec 32}
    {k : (PUnit) → Prog (TpuEff nD τ sig (Elt F) Λ₀ .tc) α}
    (H : state m K c 3 4 4 32 24 31 0 0 0 ⊢ WP c (k ⟨⟩) Q) :
    state m K c 3 4 4 31 24 31 0 0 0 ⊢ WP c (onBufs (k0_part46 (F := F)) c v2 v13 v1220 >>= k) Q := by
  rw [k0_part46_eq_skeleton]
  simp only [k0_part46_skel, semSignalWord, semWaitWord, Prog.lift, Prog.bind_op, Prog.bind_ret, Prog.pure_eq_ret, Prog.bind_assoc, wp_deviceId]
  refine at_landed m K 23 ?_
  refine at_piece m K 31 3 (fun c' => k0_off7 c' 768#32) ?_
  refine at_sum_ov m K 31 (fun c' => k0_off7 c' 768#32) (pay_ov m c 23 (by decide)) ?_
  exact H

theorem part47 {α : Type} {Q : α → sProp 𝕄} {c : Dev nD} {v2 : BitVec 32}
    {k : (PUnit) → Prog (TpuEff nD τ sig (Elt F) Λ₀ .tc) α}
    (H : state m K c 3 4 4 32 24 32 1 0 0 ⊢ WP c (k ⟨⟩) Q) :
    state m K c 3 4 4 32 24 31 0 0 0 ⊢ WP c (onBufs (k0_part47 (F := F)) c v2 >>= k) Q := by
  rw [k0_part47_eq_skeleton]
  simp only [k0_part47_skel, semSignalWord, semWaitWord, Prog.lift, Prog.bind_op, Prog.bind_ret, Prog.pure_eq_ret, Prog.bind_assoc, wp_deviceId]
  refine at_send_ov m K (fun c' => ⟨k0_dev34 c', k0_dev34_lt c'⟩) (fun c' => k0_off8 c' 0#32 768#32) ?_
  refine at_out m K (fun c' => k0_off9 c') ?_
  exact H

theorem part48 {α : Type} {Q : α → sProp 𝕄} {c : Dev nD} {v2 : BitVec 32} {v24 : BitVec 32}
    {k : (PUnit) → Prog (TpuEff nD τ sig (Elt F) Λ₀ .tc) α}
    (H : state m K c 3 4 4 32 25 32 2 0 0 ⊢ WP c (k ⟨⟩) Q) :
    state m K c 3 4 4 32 24 32 1 0 0 ⊢ WP c (onBufs (k0_part48 (F := F)) c v2 v24 >>= k) Q := by
  rw [k0_part48_eq_skeleton]
  simp only [k0_part48_skel, semSignalWord, semWaitWord, Prog.lift, Prog.bind_op, Prog.bind_ret, Prog.pure_eq_ret, Prog.bind_assoc, wp_deviceId]
  refine at_out m K (fun c' => k0_off10 c') ?_
  refine at_recv_pass m K (credit_ov _ _) ?_
  exact H

end RingSum
-- ==== Proof.Run4.lean ====
module
public import proofs.«01_k».proof.Proof.Text

/-!
# The last hops

The parts of the kernel's text, run on the state.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

theorem part49 {α : Type} {Q : α → sProp 𝕄} {c : Dev nD} {v2 : BitVec 32} {v13 : BitVec 32}
    {k : (PUnit) → Prog (TpuEff nD τ sig (Elt F) Λ₀ .tc) α}
    (H : state m K c 3 4 4 32 26 33 2 0 0 ⊢ WP c (k ⟨⟩) Q) :
    state m K c 3 4 4 32 25 32 2 0 0 ⊢ WP c (onBufs (k0_part49 (F := F)) c v2 v13 >>= k) Q := by
  rw [k0_part49_eq_skeleton]
  simp only [k0_part49_skel, semSignalWord, semWaitWord, Prog.lift, Prog.bind_op, Prog.bind_ret, Prog.pure_eq_ret, Prog.bind_assoc, wp_deviceId]
  refine at_send_ov m K (fun c' => ⟨k0_dev35 c', k0_dev35_lt c'⟩) (fun c' => k0_off6 c' 4294967295#32 0#32) ?_
  refine at_recv_pass m K (credit_ov _ _) ?_
  exact H

theorem part50 {α : Type} {Q : α → sProp 𝕄} {c : Dev nD} {v2 : BitVec 32} {v24 : BitVec 32}
    {k : (PUnit) → Prog (TpuEff nD τ sig (Elt F) Λ₀ .tc) α}
    (H : state m K c 3 4 4 32 27 34 2 0 0 ⊢ WP c (k ⟨⟩) Q) :
    state m K c 3 4 4 32 26 33 2 0 0 ⊢ WP c (onBufs (k0_part50 (F := F)) c v2 v24 >>= k) Q := by
  rw [k0_part50_eq_skeleton]
  simp only [k0_part50_skel, semSignalWord, semWaitWord, Prog.lift, Prog.bind_op, Prog.bind_ret, Prog.pure_eq_ret, Prog.bind_assoc, wp_deviceId]
  refine at_send_ov m K (fun c' => ⟨k0_dev36 c', k0_dev36_lt c'⟩) (fun c' => k0_off8 c' 1#32 0#32) ?_
  refine at_recv_pass m K (credit_ov _ _) ?_
  exact H

theorem part51 {α : Type} {Q : α → sProp 𝕄} {c : Dev nD} {v2 : BitVec 32} {v13 : BitVec 32}
    {k : (PUnit) → Prog (TpuEff nD τ sig (Elt F) Λ₀ .tc) α}
    (H : state m K c 3 4 4 32 28 35 2 0 0 ⊢ WP c (k ⟨⟩) Q) :
    state m K c 3 4 4 32 27 34 2 0 0 ⊢ WP c (onBufs (k0_part51 (F := F)) c v2 v13 >>= k) Q := by
  rw [k0_part51_eq_skeleton]
  simp only [k0_part51_skel, semSignalWord, semWaitWord, Prog.lift, Prog.bind_op, Prog.bind_ret, Prog.pure_eq_ret, Prog.bind_assoc, wp_deviceId]
  refine at_send_ov m K (fun c' => ⟨k0_dev37 c', k0_dev37_lt c'⟩) (fun c' => k0_off6 c' 4294967295#32 256#32) ?_
  refine at_recv_pass m K (credit_ov _ _) ?_
  exact H

theorem part52 {α : Type} {Q : α → sProp 𝕄} {c : Dev nD} {v2 : BitVec 32} {v24 : BitVec 32}
    {k : (PUnit) → Prog (TpuEff nD τ sig (Elt F) Λ₀ .tc) α}
    (H : state m K c 3 4 4 32 29 36 2 0 0 ⊢ WP c (k ⟨⟩) Q) :
    state m K c 3 4 4 32 28 35 2 0 0 ⊢ WP c (onBufs (k0_part52 (F := F)) c v2 v24 >>= k) Q := by
  rw [k0_part52_eq_skeleton]
  simp only [k0_part52_skel, semSignalWord, semWaitWord, Prog.lift, Prog.bind_op, Prog.bind_ret, Prog.pure_eq_ret, Prog.bind_assoc, wp_deviceId]
  refine at_send_ov m K (fun c' => ⟨k0_dev38 c', k0_dev38_lt c'⟩) (fun c' => k0_off8 c' 1#32 256#32) ?_
  refine at_recv_pass m K (credit_ov _ _) ?_
  exact H

theorem part53 {α : Type} {Q : α → sProp 𝕄} {c : Dev nD} {v2 : BitVec 32} {v13 : BitVec 32}
    {k : (PUnit) → Prog (TpuEff nD τ sig (Elt F) Λ₀ .tc) α}
    (H : state m K c 3 4 4 32 30 37 2 0 0 ⊢ WP c (k ⟨⟩) Q) :
    state m K c 3 4 4 32 29 36 2 0 0 ⊢ WP c (onBufs (k0_part53 (F := F)) c v2 v13 >>= k) Q := by
  rw [k0_part53_eq_skeleton]
  simp only [k0_part53_skel, semSignalWord, semWaitWord, Prog.lift, Prog.bind_op, Prog.bind_ret, Prog.pure_eq_ret, Prog.bind_assoc, wp_deviceId]
  refine at_send_ov m K (fun c' => ⟨k0_dev39 c', k0_dev39_lt c'⟩) (fun c' => k0_off6 c' 4294967295#32 512#32) ?_
  refine at_recv_pass m K (credit_ov _ _) ?_
  exact H

theorem part54 {α : Type} {Q : α → sProp 𝕄} {c : Dev nD} {v2 : BitVec 32} {v24 : BitVec 32}
    {k : (PUnit) → Prog (TpuEff nD τ sig (Elt F) Λ₀ .tc) α}
    (H : state m K c 3 4 4 32 31 38 2 0 0 ⊢ WP c (k ⟨⟩) Q) :
    state m K c 3 4 4 32 30 37 2 0 0 ⊢ WP c (onBufs (k0_part54 (F := F)) c v2 v24 >>= k) Q := by
  rw [k0_part54_eq_skeleton]
  simp only [k0_part54_skel, semSignalWord, semWaitWord, Prog.lift, Prog.bind_op, Prog.bind_ret, Prog.pure_eq_ret, Prog.bind_assoc, wp_deviceId]
  refine at_send_ov m K (fun c' => ⟨k0_dev40 c', k0_dev40_lt c'⟩) (fun c' => k0_off8 c' 1#32 512#32) ?_
  refine at_recv_pass m K (credit_ov _ _) ?_
  exact H

theorem part55 {α : Type} {Q : α → sProp 𝕄} {c : Dev nD} {v2 : BitVec 32} {v13 : BitVec 32}
    {k : (PUnit) → Prog (TpuEff nD τ sig (Elt F) Λ₀ .tc) α}
    (H : state m K c 3 4 4 32 32 39 2 0 0 ⊢ WP c (k ⟨⟩) Q) :
    state m K c 3 4 4 32 31 38 2 0 0 ⊢ WP c (onBufs (k0_part55 (F := F)) c v2 v13 >>= k) Q := by
  rw [k0_part55_eq_skeleton]
  simp only [k0_part55_skel, semSignalWord, semWaitWord, Prog.lift, Prog.bind_op, Prog.bind_ret, Prog.pure_eq_ret, Prog.bind_assoc, wp_deviceId]
  refine at_send_ov m K (fun c' => ⟨k0_dev41 c', k0_dev41_lt c'⟩) (fun c' => k0_off6 c' 4294967295#32 768#32) ?_
  refine at_recv_pass m K (credit_ov _ _) ?_
  exact H

theorem part56 {α : Type} {Q : α → sProp 𝕄} {c : Dev nD} {v2 : BitVec 32}
    {k : (PUnit) → Prog (TpuEff nD τ sig (Elt F) Λ₀ .tc) α}
    (H : state m K c 3 4 4 32 32 40 3 0 0 ⊢ WP c (k ⟨⟩) Q) :
    state m K c 3 4 4 32 32 39 2 0 0 ⊢ WP c (onBufs (k0_part56 (F := F)) c v2 >>= k) Q := by
  rw [k0_part56_eq_skeleton]
  simp only [k0_part56_skel, semSignalWord, semWaitWord, Prog.lift, Prog.bind_op, Prog.bind_ret, Prog.pure_eq_ret, Prog.bind_assoc, wp_deviceId]
  refine at_send_ov m K (fun c' => ⟨k0_dev42 c', k0_dev42_lt c'⟩) (fun c' => k0_off8 c' 1#32 768#32) ?_
  refine at_out m K (fun c' => k0_off11 c' 0#32) ?_
  exact H

theorem part57 {α : Type} {Q : α → sProp 𝕄} {c : Dev nD} {v2 : BitVec 32} {v24 : BitVec 32}
    {k : (PUnit) → Prog (TpuEff nD τ sig (Elt F) Λ₀ .tc) α}
    (H : state m K c 3 4 4 32 33 40 4 0 0 ⊢ WP c (k ⟨⟩) Q) :
    state m K c 3 4 4 32 32 40 3 0 0 ⊢ WP c (onBufs (k0_part57 (F := F)) c v2 v24 >>= k) Q := by
  rw [k0_part57_eq_skeleton]
  simp only [k0_part57_skel, semSignalWord, semWaitWord, Prog.lift, Prog.bind_op, Prog.bind_ret, Prog.pure_eq_ret, Prog.bind_assoc, wp_deviceId]
  refine at_out m K (fun c' => k0_off12 c' 0#32) ?_
  refine at_recv_pass m K (credit_ov _ _) ?_
  exact H

theorem part58 {α : Type} {Q : α → sProp 𝕄} {c : Dev nD} {v2 : BitVec 32} {v13 : BitVec 32}
    {k : (PUnit) → Prog (TpuEff nD τ sig (Elt F) Λ₀ .tc) α}
    (H : state m K c 3 4 4 32 34 41 4 0 0 ⊢ WP c (k ⟨⟩) Q) :
    state m K c 3 4 4 32 33 40 4 0 0 ⊢ WP c (onBufs (k0_part58 (F := F)) c v2 v13 >>= k) Q := by
  rw [k0_part58_eq_skeleton]
  simp only [k0_part58_skel, semSignalWord, semWaitWord, Prog.lift, Prog.bind_op, Prog.bind_ret, Prog.pure_eq_ret, Prog.bind_assoc, wp_deviceId]
  refine at_send_ov m K (fun c' => ⟨k0_dev43 c', k0_dev43_lt c'⟩) (fun c' => k0_off6 c' 4294967294#32 0#32) ?_
  refine at_recv_pass m K (credit_ov _ _) ?_
  exact H

theorem part59 {α : Type} {Q : α → sProp 𝕄} {c : Dev nD} {v2 : BitVec 32} {v24 : BitVec 32}
    {k : (PUnit) → Prog (TpuEff nD τ sig (Elt F) Λ₀ .tc) α}
    (H : state m K c 3 4 4 32 35 42 4 0 0 ⊢ WP c (k ⟨⟩) Q) :
    state m K c 3 4 4 32 34 41 4 0 0 ⊢ WP c (onBufs (k0_part59 (F := F)) c v2 v24 >>= k) Q := by
  rw [k0_part59_eq_skeleton]
  simp only [k0_part59_skel, semSignalWord, semWaitWord, Prog.lift, Prog.bind_op, Prog.bind_ret, Prog.pure_eq_ret, Prog.bind_assoc, wp_deviceId]
  refine at_send_ov m K (fun c' => ⟨k0_dev44 c', k0_dev44_lt c'⟩) (fun c' => k0_off8 c' 2#32 0#32) ?_
  refine at_recv_pass m K (credit_ov _ _) ?_
  exact H

theorem part60 {α : Type} {Q : α → sProp 𝕄} {c : Dev nD} {v2 : BitVec 32} {v13 : BitVec 32}
    {k : (PUnit) → Prog (TpuEff nD τ sig (Elt F) Λ₀ .tc) α}
    (H : state m K c 3 4 4 32 36 43 4 0 0 ⊢ WP c (k ⟨⟩) Q) :
    state m K c 3 4 4 32 35 42 4 0 0 ⊢ WP c (onBufs (k0_part60 (F := F)) c v2 v13 >>= k) Q := by
  rw [k0_part60_eq_skeleton]
  simp only [k0_part60_skel, semSignalWord, semWaitWord, Prog.lift, Prog.bind_op, Prog.bind_ret, Prog.pure_eq_ret, Prog.bind_assoc, wp_deviceId]
  refine at_send_ov m K (fun c' => ⟨k0_dev45 c', k0_dev45_lt c'⟩) (fun c' => k0_off6 c' 4294967294#32 256#32) ?_
  refine at_recv_pass m K (credit_ov _ _) ?_
  exact H

theorem part61 {α : Type} {Q : α → sProp 𝕄} {c : Dev nD} {v2 : BitVec 32} {v24 : BitVec 32}
    {k : (PUnit) → Prog (TpuEff nD τ sig (Elt F) Λ₀ .tc) α}
    (H : state m K c 3 4 4 32 37 44 4 0 0 ⊢ WP c (k ⟨⟩) Q) :
    state m K c 3 4 4 32 36 43 4 0 0 ⊢ WP c (onBufs (k0_part61 (F := F)) c v2 v24 >>= k) Q := by
  rw [k0_part61_eq_skeleton]
  simp only [k0_part61_skel, semSignalWord, semWaitWord, Prog.lift, Prog.bind_op, Prog.bind_ret, Prog.pure_eq_ret, Prog.bind_assoc, wp_deviceId]
  refine at_send_ov m K (fun c' => ⟨k0_dev46 c', k0_dev46_lt c'⟩) (fun c' => k0_off8 c' 2#32 256#32) ?_
  refine at_recv_pass m K (credit_ov _ _) ?_
  exact H

theorem part62 {α : Type} {Q : α → sProp 𝕄} {c : Dev nD} {v2 : BitVec 32} {v13 : BitVec 32}
    {k : (PUnit) → Prog (TpuEff nD τ sig (Elt F) Λ₀ .tc) α}
    (H : state m K c 3 4 4 32 38 45 4 0 0 ⊢ WP c (k ⟨⟩) Q) :
    state m K c 3 4 4 32 37 44 4 0 0 ⊢ WP c (onBufs (k0_part62 (F := F)) c v2 v13 >>= k) Q := by
  rw [k0_part62_eq_skeleton]
  simp only [k0_part62_skel, semSignalWord, semWaitWord, Prog.lift, Prog.bind_op, Prog.bind_ret, Prog.pure_eq_ret, Prog.bind_assoc, wp_deviceId]
  refine at_send_ov m K (fun c' => ⟨k0_dev47 c', k0_dev47_lt c'⟩) (fun c' => k0_off6 c' 4294967294#32 512#32) ?_
  refine at_recv_pass m K (credit_ov _ _) ?_
  exact H

theorem part63 {α : Type} {Q : α → sProp 𝕄} {c : Dev nD} {v2 : BitVec 32} {v24 : BitVec 32}
    {k : (PUnit) → Prog (TpuEff nD τ sig (Elt F) Λ₀ .tc) α}
    (H : state m K c 3 4 4 32 39 46 4 0 0 ⊢ WP c (k ⟨⟩) Q) :
    state m K c 3 4 4 32 38 45 4 0 0 ⊢ WP c (onBufs (k0_part63 (F := F)) c v2 v24 >>= k) Q := by
  rw [k0_part63_eq_skeleton]
  simp only [k0_part63_skel, semSignalWord, semWaitWord, Prog.lift, Prog.bind_op, Prog.bind_ret, Prog.pure_eq_ret, Prog.bind_assoc, wp_deviceId]
  refine at_send_ov m K (fun c' => ⟨k0_dev48 c', k0_dev48_lt c'⟩) (fun c' => k0_off8 c' 2#32 512#32) ?_
  refine at_recv_pass m K (credit_ov _ _) ?_
  exact H

theorem part64 {α : Type} {Q : α → sProp 𝕄} {c : Dev nD} {v2 : BitVec 32} {v13 : BitVec 32}
    {k : (PUnit) → Prog (TpuEff nD τ sig (Elt F) Λ₀ .tc) α}
    (H : state m K c 3 4 4 32 40 47 4 0 0 ⊢ WP c (k ⟨⟩) Q) :
    state m K c 3 4 4 32 39 46 4 0 0 ⊢ WP c (onBufs (k0_part64 (F := F)) c v2 v13 >>= k) Q := by
  rw [k0_part64_eq_skeleton]
  simp only [k0_part64_skel, semSignalWord, semWaitWord, Prog.lift, Prog.bind_op, Prog.bind_ret, Prog.pure_eq_ret, Prog.bind_assoc, wp_deviceId]
  refine at_send_ov m K (fun c' => ⟨k0_dev49 c', k0_dev49_lt c'⟩) (fun c' => k0_off6 c' 4294967294#32 768#32) ?_
  refine at_recv_pass m K (credit_ov _ _) ?_
  exact H

theorem part65 {α : Type} {Q : α → sProp 𝕄} {c : Dev nD} {v2 : BitVec 32}
    {k : (PUnit) → Prog (TpuEff nD τ sig (Elt F) Λ₀ .tc) α}
    (H : state m K c 3 4 4 32 40 48 6 0 0 ⊢ WP c (k ⟨⟩) Q) :
    state m K c 3 4 4 32 40 47 4 0 0 ⊢ WP c (onBufs (k0_part65 (F := F)) c v2 >>= k) Q := by
  rw [k0_part65_eq_skeleton]
  simp only [k0_part65_skel, semSignalWord, semWaitWord, Prog.lift, Prog.bind_op, Prog.bind_ret, Prog.pure_eq_ret, Prog.bind_assoc, wp_deviceId]
  refine at_send_ov m K (fun c' => ⟨k0_dev50 c', k0_dev50_lt c'⟩) (fun c' => k0_off8 c' 2#32 768#32) ?_
  refine at_out m K (fun c' => k0_off11 c' 4294967295#32) ?_
  refine at_out m K (fun c' => k0_off12 c' 1#32) ?_
  exact H

theorem part66 {α : Type} {Q : α → sProp 𝕄} {c : Dev nD} {v13 : BitVec 32} {v24 : BitVec 32}
    {k : (Σ' (v1827 : BitVec 32), BitVec 32) → Prog (TpuEff nD τ sig (Elt F) Λ₀ .tc) α}
    (H : ∀ (w0 : BitVec 32) (w1 : BitVec 32), state m K c 3 4 4 32 43 48 6 0 0 ⊢ WP c (k ⟨w0, w1⟩) Q) :
    state m K c 3 4 4 32 40 48 6 0 0 ⊢ WP c (onBufs (k0_part66 (F := F)) c v13 v24 >>= k) Q := by
  rw [k0_part66_eq_skeleton]
  simp only [k0_part66_skel, semSignalWord, semWaitWord, Prog.lift, Prog.bind_op, Prog.bind_ret, Prog.pure_eq_ret, Prog.bind_assoc, wp_deviceId]
  refine at_recv_pass m K (credit_ov _ _) ?_
  refine at_recv_pass m K (credit_ov _ _) ?_
  refine at_recv_pass m K (credit_ov _ _) ?_
  exact H _ _

theorem part67 {α : Type} {Q : α → sProp 𝕄} {c : Dev nD} {v13 : BitVec 32} {v24 : BitVec 32} {v1827 : BitVec 32} {c0_i32_1979 : BitVec 32}
    {k : (PUnit) → Prog (TpuEff nD τ sig (Elt F) Λ₀ .tc) α}
    (H : state m K c 3 4 4 32 47 48 6 0 0 ⊢ WP c (k ⟨⟩) Q) :
    state m K c 3 4 4 32 43 48 6 0 0 ⊢ WP c (onBufs (k0_part67 (F := F)) c v13 v24 v1827 c0_i32_1979 >>= k) Q := by
  rw [k0_part67_eq_skeleton]
  simp only [k0_part67_skel, semSignalWord, semWaitWord, Prog.lift, Prog.bind_op, Prog.bind_ret, Prog.pure_eq_ret, Prog.bind_assoc, wp_deviceId]
  refine at_recv_pass m K (credit_ov _ _) ?_
  refine at_recv_pass m K (credit_ov _ _) ?_
  refine at_recv_pass m K (credit_ov _ _) ?_
  refine at_recv_pass m K (credit_ov _ _) ?_
  exact H

theorem part68 {α : Type} {Q : α → sProp 𝕄} {c : Dev nD} {v2 : BitVec 32} {v13 : BitVec 32}
    {k : (Σ' (v1875 : BitVec 32) (v1876 : BitVec 32) (v1877 : BitVec 1), BitVec 1) → Prog (TpuEff nD τ sig (Elt F) Λ₀ .tc) α}
    (H : ∀ (w0 : BitVec 32) (w1 : BitVec 32) (w2 : BitVec 1) (w3 : BitVec 1), state m K c 3 4 4 32 48 48 7 0 0 ⊢ WP c (k ⟨w0, w1, w2, w3⟩) Q) :
    state m K c 3 4 4 32 47 48 6 0 0 ⊢ WP c (onBufs (k0_part68 (F := F)) c v2 v13 >>= k) Q := by
  rw [k0_part68_eq_skeleton]
  simp only [k0_part68_skel, semSignalWord, semWaitWord, Prog.lift, Prog.bind_op, Prog.bind_ret, Prog.pure_eq_ret, Prog.bind_assoc, wp_deviceId]
  refine at_recv_pass m K (credit_ov _ _) ?_
  refine at_out m K (fun c' => k0_off11 c' 4294967294#32) ?_
  exact H _ _ _ _

theorem part69 {α : Type} {Q : α → sProp 𝕄} {c : Dev nD} {v1875 : BitVec 32} {v1876 : BitVec 32} {v1877 : BitVec 1} {v1880 : BitVec 1}
    {k : (PUnit) → Prog (TpuEff nD τ sig (Elt F) Λ₀ .tc) α}
    (H : state m K c 3 4 4 32 48 48 8 2 0 ⊢ WP c (k ⟨⟩) Q) :
    state m K c 3 4 4 32 48 48 7 0 0 ⊢ WP c (onBufs (k0_part69 (F := F)) c v1875 v1876 v1877 v1880 >>= k) Q := by
  rw [k0_part69_eq_skeleton]
  simp only [k0_part69_skel, semSignalWord, semWaitWord, Prog.lift, Prog.bind_op, Prog.bind_ret, Prog.pure_eq_ret, Prog.bind_assoc, wp_deviceId]
  refine at_out m K (fun c' => k0_off12 c' 2#32) ?_
  refine at_sent m K (credit_st _ _) ?_
  refine at_sent m K (credit_st _ _) ?_
  exact H

end RingSum
-- ==== Proof.Run5.lean ====
module
public import proofs.«01_k».proof.Proof.Text

/-!
# The last waits

The parts of the kernel's text, run on the state.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

theorem part70 {α : Type} {Q : α → sProp 𝕄} {c : Dev nD}
    {k : (PUnit) → Prog (TpuEff nD τ sig (Elt F) Λ₀ .tc) α}
    (H : state m K c 3 4 4 32 48 48 8 5 0 ⊢ WP c (k ⟨⟩) Q) :
    state m K c 3 4 4 32 48 48 8 2 0 ⊢ WP c (onBufs (k0_part70 (F := F))  >>= k) Q := by
  rw [k0_part70_eq_skeleton]
  simp only [k0_part70_skel, semSignalWord, semWaitWord, Prog.lift, Prog.bind_op, Prog.bind_ret, Prog.pure_eq_ret, Prog.bind_assoc, wp_deviceId]
  refine at_sent m K (credit_st _ _) ?_
  refine at_sent m K (credit_st _ _) ?_
  refine at_sent m K (credit_st _ _) ?_
  exact H

theorem part71 {α : Type} {Q : α → sProp 𝕄} {c : Dev nD}
    {k : (PUnit) → Prog (TpuEff nD τ sig (Elt F) Λ₀ .tc) α}
    (H : state m K c 3 4 4 32 48 48 8 8 0 ⊢ WP c (k ⟨⟩) Q) :
    state m K c 3 4 4 32 48 48 8 5 0 ⊢ WP c (onBufs (k0_part71 (F := F))  >>= k) Q := by
  rw [k0_part71_eq_skeleton]
  simp only [k0_part71_skel, semSignalWord, semWaitWord, Prog.lift, Prog.bind_op, Prog.bind_ret, Prog.pure_eq_ret, Prog.bind_assoc, wp_deviceId]
  refine at_sent m K (credit_st _ _) ?_
  refine at_sent m K (credit_st _ _) ?_
  refine at_sent m K (credit_st _ _) ?_
  exact H

theorem part72 {α : Type} {Q : α → sProp 𝕄} {c : Dev nD}
    {k : (PUnit) → Prog (TpuEff nD τ sig (Elt F) Λ₀ .tc) α}
    (H : state m K c 3 4 4 32 48 48 8 11 0 ⊢ WP c (k ⟨⟩) Q) :
    state m K c 3 4 4 32 48 48 8 8 0 ⊢ WP c (onBufs (k0_part72 (F := F))  >>= k) Q := by
  rw [k0_part72_eq_skeleton]
  simp only [k0_part72_skel, semSignalWord, semWaitWord, Prog.lift, Prog.bind_op, Prog.bind_ret, Prog.pure_eq_ret, Prog.bind_assoc, wp_deviceId]
  refine at_sent m K (credit_ac _ _) ?_
  refine at_sent m K (credit_ac _ _) ?_
  refine at_sent m K (credit_ac _ _) ?_
  exact H

theorem part73 {α : Type} {Q : α → sProp 𝕄} {c : Dev nD}
    {k : (PUnit) → Prog (TpuEff nD τ sig (Elt F) Λ₀ .tc) α}
    (H : state m K c 3 4 4 32 48 48 8 14 0 ⊢ WP c (k ⟨⟩) Q) :
    state m K c 3 4 4 32 48 48 8 11 0 ⊢ WP c (onBufs (k0_part73 (F := F))  >>= k) Q := by
  rw [k0_part73_eq_skeleton]
  simp only [k0_part73_skel, semSignalWord, semWaitWord, Prog.lift, Prog.bind_op, Prog.bind_ret, Prog.pure_eq_ret, Prog.bind_assoc, wp_deviceId]
  refine at_sent m K (credit_ac _ _) ?_
  refine at_sent m K (credit_ac _ _) ?_
  refine at_sent m K (credit_ac _ _) ?_
  exact H

theorem part74 {α : Type} {Q : α → sProp 𝕄} {c : Dev nD}
    {k : (PUnit) → Prog (TpuEff nD τ sig (Elt F) Λ₀ .tc) α}
    (H : state m K c 3 4 4 32 48 48 8 16 0 ⊢ WP c (k ⟨⟩) Q) :
    state m K c 3 4 4 32 48 48 8 14 0 ⊢ WP c (onBufs (k0_part74 (F := F))  >>= k) Q := by
  rw [k0_part74_eq_skeleton]
  simp only [k0_part74_skel, semSignalWord, semWaitWord, Prog.lift, Prog.bind_op, Prog.bind_ret, Prog.pure_eq_ret, Prog.bind_assoc, wp_deviceId]
  refine at_sent m K (credit_ac _ _) ?_
  refine at_sent m K (credit_ac _ _) ?_
  exact H

theorem part75 {α : Type} {Q : α → sProp 𝕄} {c : Dev nD}
    {k : (PUnit) → Prog (TpuEff nD τ sig (Elt F) Λ₀ .tc) α}
    (H : state m K c 3 4 4 32 48 48 8 19 0 ⊢ WP c (k ⟨⟩) Q) :
    state m K c 3 4 4 32 48 48 8 16 0 ⊢ WP c (onBufs (k0_part75 (F := F))  >>= k) Q := by
  rw [k0_part75_eq_skeleton]
  simp only [k0_part75_skel, semSignalWord, semWaitWord, Prog.lift, Prog.bind_op, Prog.bind_ret, Prog.pure_eq_ret, Prog.bind_assoc, wp_deviceId]
  refine at_sent m K (credit_ac _ _) ?_
  refine at_sent m K (credit_ac _ _) ?_
  refine at_sent m K (credit_ac _ _) ?_
  exact H

theorem part76 {α : Type} {Q : α → sProp 𝕄} {c : Dev nD}
    {k : (PUnit) → Prog (TpuEff nD τ sig (Elt F) Λ₀ .tc) α}
    (H : state m K c 3 4 4 32 48 48 8 22 0 ⊢ WP c (k ⟨⟩) Q) :
    state m K c 3 4 4 32 48 48 8 19 0 ⊢ WP c (onBufs (k0_part76 (F := F))  >>= k) Q := by
  rw [k0_part76_eq_skeleton]
  simp only [k0_part76_skel, semSignalWord, semWaitWord, Prog.lift, Prog.bind_op, Prog.bind_ret, Prog.pure_eq_ret, Prog.bind_assoc, wp_deviceId]
  refine at_sent m K (credit_ac _ _) ?_
  refine at_sent m K (credit_ac _ _) ?_
  refine at_sent m K (credit_ac _ _) ?_
  exact H

theorem part77 {α : Type} {Q : α → sProp 𝕄} {c : Dev nD}
    {k : (PUnit) → Prog (TpuEff nD τ sig (Elt F) Λ₀ .tc) α}
    (H : state m K c 3 4 4 32 48 48 8 25 0 ⊢ WP c (k ⟨⟩) Q) :
    state m K c 3 4 4 32 48 48 8 22 0 ⊢ WP c (onBufs (k0_part77 (F := F)) c >>= k) Q := by
  rw [k0_part77_eq_skeleton]
  simp only [k0_part77_skel, semSignalWord, semWaitWord, Prog.lift, Prog.bind_op, Prog.bind_ret, Prog.pure_eq_ret, Prog.bind_assoc, wp_deviceId]
  refine at_sent m K (credit_ac _ _) ?_
  refine at_sent m K (credit_ac _ _) ?_
  refine at_sent m K (credit_ov _ _) ?_
  exact H

theorem part78 {α : Type} {Q : α → sProp 𝕄} {c : Dev nD}
    {k : (PUnit) → Prog (TpuEff nD τ sig (Elt F) Λ₀ .tc) α}
    (H : state m K c 3 4 4 32 48 48 8 29 0 ⊢ WP c (k ⟨⟩) Q) :
    state m K c 3 4 4 32 48 48 8 25 0 ⊢ WP c (onBufs (k0_part78 (F := F)) c >>= k) Q := by
  rw [k0_part78_eq_skeleton]
  simp only [k0_part78_skel, semSignalWord, semWaitWord, Prog.lift, Prog.bind_op, Prog.bind_ret, Prog.pure_eq_ret, Prog.bind_assoc, wp_deviceId]
  refine at_sent m K (credit_ov _ _) ?_
  refine at_sent m K (credit_ov _ _) ?_
  refine at_sent m K (credit_ov _ _) ?_
  refine at_sent m K (credit_ov _ _) ?_
  exact H

theorem part79 {α : Type} {Q : α → sProp 𝕄} {c : Dev nD}
    {k : (PUnit) → Prog (TpuEff nD τ sig (Elt F) Λ₀ .tc) α}
    (H : state m K c 3 4 4 32 48 48 8 34 0 ⊢ WP c (k ⟨⟩) Q) :
    state m K c 3 4 4 32 48 48 8 29 0 ⊢ WP c (onBufs (k0_part79 (F := F)) c >>= k) Q := by
  rw [k0_part79_eq_skeleton]
  simp only [k0_part79_skel, semSignalWord, semWaitWord, Prog.lift, Prog.bind_op, Prog.bind_ret, Prog.pure_eq_ret, Prog.bind_assoc, wp_deviceId]
  refine at_sent m K (credit_ov _ _) ?_
  refine at_sent m K (credit_ov _ _) ?_
  refine at_sent m K (credit_ov _ _) ?_
  refine at_sent m K (credit_ov _ _) ?_
  refine at_sent m K (credit_ov _ _) ?_
  exact H

theorem part80 {α : Type} {Q : α → sProp 𝕄} {c : Dev nD}
    {k : (PUnit) → Prog (TpuEff nD τ sig (Elt F) Λ₀ .tc) α}
    (H : state m K c 3 4 4 32 48 48 8 38 0 ⊢ WP c (k ⟨⟩) Q) :
    state m K c 3 4 4 32 48 48 8 34 0 ⊢ WP c (onBufs (k0_part80 (F := F)) c >>= k) Q := by
  rw [k0_part80_eq_skeleton]
  simp only [k0_part80_skel, semSignalWord, semWaitWord, Prog.lift, Prog.bind_op, Prog.bind_ret, Prog.pure_eq_ret, Prog.bind_assoc, wp_deviceId]
  refine at_sent m K (credit_ov _ _) ?_
  refine at_sent m K (credit_ov _ _) ?_
  refine at_sent m K (credit_ov _ _) ?_
  refine at_sent m K (credit_ov _ _) ?_
  exact H

theorem part81 {α : Type} {Q : α → sProp 𝕄} {c : Dev nD}
    {k : (PUnit) → Prog (TpuEff nD τ sig (Elt F) Λ₀ .tc) α}
    (H : state m K c 3 4 4 32 48 48 8 42 0 ⊢ WP c (k ⟨⟩) Q) :
    state m K c 3 4 4 32 48 48 8 38 0 ⊢ WP c (onBufs (k0_part81 (F := F)) c >>= k) Q := by
  rw [k0_part81_eq_skeleton]
  simp only [k0_part81_skel, semSignalWord, semWaitWord, Prog.lift, Prog.bind_op, Prog.bind_ret, Prog.pure_eq_ret, Prog.bind_assoc, wp_deviceId]
  refine at_sent m K (credit_ov _ _) ?_
  refine at_sent m K (credit_ov _ _) ?_
  refine at_sent m K (credit_ov _ _) ?_
  refine at_sent m K (credit_ov _ _) ?_
  exact H

theorem part82 {α : Type} {Q : α → sProp 𝕄} {c : Dev nD}
    {k : (PUnit) → Prog (TpuEff nD τ sig (Elt F) Λ₀ .tc) α}
    (H : state m K c 3 4 4 32 48 48 8 47 0 ⊢ WP c (k ⟨⟩) Q) :
    state m K c 3 4 4 32 48 48 8 42 0 ⊢ WP c (onBufs (k0_part82 (F := F)) c >>= k) Q := by
  rw [k0_part82_eq_skeleton]
  simp only [k0_part82_skel, semSignalWord, semWaitWord, Prog.lift, Prog.bind_op, Prog.bind_ret, Prog.pure_eq_ret, Prog.bind_assoc, wp_deviceId]
  refine at_sent m K (credit_ov _ _) ?_
  refine at_sent m K (credit_ov _ _) ?_
  refine at_sent m K (credit_ov _ _) ?_
  refine at_sent m K (credit_ov _ _) ?_
  refine at_sent m K (credit_ov _ _) ?_
  exact H

theorem part83 {α : Type} {Q : α → sProp 𝕄} {c : Dev nD}
    {k : (PUnit) → Prog (TpuEff nD τ sig (Elt F) Λ₀ .tc) α}
    (H : state m K c 3 4 4 32 48 48 8 48 5 ⊢ WP c (k ⟨⟩) Q) :
    state m K c 3 4 4 32 48 48 8 47 0 ⊢ WP c (onBufs (k0_part83 (F := F)) c >>= k) Q := by
  rw [k0_part83_eq_skeleton]
  simp only [k0_part83_skel, semSignalWord, semWaitWord, Prog.lift, Prog.bind_op, Prog.bind_ret, Prog.pure_eq_ret, Prog.bind_assoc, wp_deviceId]
  refine at_sent m K (credit_ov _ _) ?_
  refine at_outed m K (credit_out _ _) ?_
  refine at_outed m K (credit_out _ _) ?_
  refine at_outed m K (credit_out _ _) ?_
  refine at_outed m K (credit_out _ _) ?_
  refine at_outed m K (credit_out _ _) ?_
  exact H

end RingSum
-- ==== Proof.Body.lean ====
module
public import proofs.«01_k».proof.Proof.Run1
public import proofs.«01_k».proof.Proof.Run2
public import proofs.«01_k».proof.Proof.Run3
public import proofs.«01_k».proof.Proof.Run4
public import proofs.«01_k».proof.Proof.Run5

/-!
# The body

The kernel's text, part by part.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

/-- The kernel's text takes the first state to the last. -/
theorem body_run {Q : PUnit → sProp 𝕄} {c : Dev nD} (t : Fin cfg0.N)
    (H : state m K c 3 4 4 32 48 48 8 48 8 ⊢ Q ⟨⟩) :
    state m K c 0 0 0 0 0 0 0 0 0 ⊢ WP c (bodyAt0 (F := F) t) Q := by
  unfold bodyAt0
  rw [cc0_body_eq_skeleton]
  unfold cc0_body_skel
  rw [k0_part84_eq_skeleton]
  simp only [k0_part84_skel, Prog.lift, Prog.bind_op, Prog.bind_ret, Prog.pure_eq_ret, Prog.bind_assoc]
  refine part1 m K (fun _ _ _ _ => ?_)
  refine part2 m K (fun _ => ?_)
  refine part3 m K ?_
  refine part4 m K ?_
  refine part5 m K ?_
  refine part6 m K ?_
  refine part7 m K (fun _ _ => ?_)
  refine part8 m K ?_
  refine part9 m K (fun _ => ?_)
  refine part10 m K ?_
  refine part11 m K (fun _ => ?_)
  refine part12 m K (fun _ => ?_)
  refine part13 m K ?_
  refine part14 m K (fun _ => ?_)
  refine part15 m K (fun _ => ?_)
  refine part16 m K ?_
  refine part17 m K (fun _ => ?_)
  refine part18 m K (fun _ => ?_)
  refine part19 m K ?_
  refine part20 m K ?_
  refine part21 m K (fun _ _ => ?_)
  refine part22 m K ?_
  refine part23 m K ?_
  refine part24 m K (fun _ => ?_)
  refine part25 m K ?_
  refine part26 m K ?_
  refine part27 m K ?_
  refine part28 m K ?_
  refine part29 m K (fun _ => ?_)
  refine part30 m K ?_
  refine part31 m K ?_
  refine part32 m K (fun _ => ?_)
  refine part33 m K ?_
  refine part34 m K (fun _ _ => ?_)
  refine part35 m K ?_
  refine part36 m K (fun _ => ?_)
  refine part37 m K (fun _ _ _ => ?_)
  refine part38 m K (fun _ => ?_)
  refine part39 m K (fun _ => ?_)
  refine part40 m K (fun _ _ => ?_)
  refine part41 m K (fun _ => ?_)
  refine part42 m K (fun _ _ _ => ?_)
  refine part43 m K (fun _ => ?_)
  refine part44 m K ?_
  refine part45 m K (fun _ => ?_)
  refine part46 m K ?_
  refine part47 m K ?_
  refine part48 m K ?_
  refine part49 m K ?_
  refine part50 m K ?_
  refine part51 m K ?_
  refine part52 m K ?_
  refine part53 m K ?_
  refine part54 m K ?_
  refine part55 m K ?_
  refine part56 m K ?_
  refine part57 m K ?_
  refine part58 m K ?_
  refine part59 m K ?_
  refine part60 m K ?_
  refine part61 m K ?_
  refine part62 m K ?_
  refine part63 m K ?_
  refine part64 m K ?_
  refine part65 m K ?_
  refine part66 m K (fun _ _ => ?_)
  refine part67 m K ?_
  refine part68 m K (fun _ _ _ _ => ?_)
  refine part69 m K ?_
  refine part70 m K ?_
  refine part71 m K ?_
  refine part72 m K ?_
  refine part73 m K ?_
  refine part74 m K ?_
  refine part75 m K ?_
  refine part76 m K ?_
  refine part77 m K ?_
  refine part78 m K ?_
  refine part79 m K ?_
  refine part80 m K ?_
  refine part81 m K ?_
  refine part82 m K ?_
  refine part83 m K ?_
  refine at_outed m K (credit_out _ _) ?_
  refine at_outed m K (credit_out _ _) ?_
  refine at_outed m K (credit_out _ _) ?_
  rw [WP, wp_ret]; exact H.trans fupd_intro

end RingSum
-- ==== Proof.Memory.lean ====
module
public import proofs.«01_k».proof.Proof.State

/-!
# Whole buffers and pieces

A device starts with its buffers whole and ends with them whole; in between they are held in pieces.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

/-! ## Families -/

theorem fam_congr {n : ℕ} {Φ Ψ : ℕ → sProp 𝕄} (h : ∀ j, j < n → Φ j = Ψ j) : fam n Φ = fam n Ψ :=
  BI.bigSep_congr fun j _ => h j.val j.isLt

theorem fam_mono {n : ℕ} {Φ Ψ : ℕ → sProp 𝕄} (h : ∀ j, j < n → Φ j ⊢ Ψ j) : fam n Φ ⊢ fam n Ψ :=
  bigSep_mono fun j _ => h j.val j.isLt

theorem fam_emp {n : ℕ} {Φ : ℕ → sProp 𝕄} (h : ∀ j, j < n → Φ j = iprop(emp)) : fam n Φ = iprop(emp) :=
  (fam_congr h).trans (BI.bigSep_emp_const _)

theorem fam_split (a b : ℕ) (Φ : ℕ → sProp 𝕄) : fam (a + b) Φ = iprop(fam a Φ ∗ fam b fun j => Φ (a + j)) := by
  have e := BI.bigSep_univ_equiv (finSumFinEquiv (m := a) (n := b)) (fun j : Fin (a + b) => Φ j.val)
  rw [BI.bigSep_univ_sum] at e
  exact e

theorem fam_sep (n : ℕ) (Φ Ψ : ℕ → sProp 𝕄) : fam n (fun j => iprop(Φ j ∗ Ψ j)) = iprop(fam n Φ ∗ fam n Ψ) :=
  bigSep_sep' _ _ _

theorem emp_sep_eq (P : sProp 𝕄) : iprop(emp ∗ P) = P := BI.equiv_iff.mp BI.emp_sep
theorem sep_emp_eq (P : sProp 𝕄) : iprop(P ∗ emp) = P := BI.equiv_iff.mp BI.sep_emp

/-! ## The memory at the start -/

/-- What the two neighbours are granted is every landing place of the device. -/
theorem grants (c : Dev nD) :
    iprop(barPay (F := F) (prv c) false ∗ barPay (F := F) (nxt c) true) = fam 48 fun j => (raw c (landM c j) : sProp 𝕄) := by
  unfold barPay
  rw [← bigSep_sep']
  refine BI.bigSep_congr fun j _ => ?_
  unfold grant
  rcases Nat.mod_two_eq_zero_or_one j.val with h | h
  · have e : dst j.val (prv c) = c := by unfold dst; rw [if_pos h, nxt_prv]
    rw [e, h, if_pos (by decide), if_neg (by decide), sep_emp_eq]
  · have e : dst j.val (nxt c) = c := by unfold dst; rw [if_neg (by omega), prv_nxt]
    rw [e, h, if_neg (by decide), if_pos (by decide), emp_sep_eq]

/-- The landing places are the slots of the first three hops and the last three columns of the gathered block. -/
theorem land_fam (c : Dev nD) : (fam 48 fun j => (raw c (landM c j) : sProp 𝕄))
    = iprop((fam 24 fun j => raw c (rsM j)) ∗ fam 24 fun j => raw c (ovM c (32 + j))) := by
  rw [show (48 : ℕ) = 24 + 24 from rfl, fam_split]
  refine congrArg₂ (fun a b => iprop(a ∗ b)) ?_ ?_
  · exact fam_congr fun j hj => by unfold landM; rw [if_pos hj]
  · exact fam_congr fun j hj => by unfold landM; rw [if_neg (by omega), show 24 + j + 8 = 32 + j by omega]

/-- The pieces before anything is computed: the slots of the running sums and the first column of the gathered block. -/
theorem src_fam_start (c : Dev nD) : fam 56 (fun x => srcI m c x (Has 0 0 x) (Lft 0 0 x) (Rgt 0 0 x))
    = iprop((fam 16 fun j => (raw c (acM (8 + j)) : sProp 𝕄)) ∗ fam 8 fun j => raw c (ovM c (24 + j))) := by
  rw [show (56 : ℕ) = 8 + (16 + (8 + 24)) from rfl, fam_split, fam_split, fam_split,
    fam_emp (n := 8) (Φ := fun x => srcI m c x (Has 0 0 x) (Lft 0 0 x) (Rgt 0 0 x)) (fun j hj => by
      unfold srcI; rw [if_neg (by show ¬ Has 0 0 j; unfold Has; rw [if_pos (by omega)]; omega), if_neg (by omega)]), emp_sep_eq,
    fam_emp (n := 24) (fun j hj => by
      unfold srcI; rw [if_neg (by show ¬ Has 0 0 _; unfold Has; rw [if_neg (by omega)]; omega), if_neg (by omega)]), sep_emp_eq]
  refine congrArg₂ (fun a b => iprop(a ∗ b)) ?_ ?_
  · exact fam_congr fun j hj => by
      unfold srcI srcM
      rw [if_neg (by show ¬ Has 0 0 _; unfold Has; rw [if_pos (by omega)]; omega), if_pos (by omega), if_neg (by omega), if_pos (by omega)]
  · exact fam_congr fun j hj => by
      unfold srcI srcM
      rw [if_neg (by show ¬ Has 0 0 _; unfold Has; rw [if_pos (by omega)]; omega), if_pos (by omega), if_neg (by omega), if_neg (by omega),
        show 8 + (16 + j) = 24 + j by omega]

/-- The kernel's own buffers, whole. -/
def bufs (c : Dev nD) : sProp 𝕄 :=
  iprop(raw c (Memref.whole cc0_scratch0) ∗ raw c (Memref.whole cc0_scratch1) ∗ raw c (Memref.whole cc0_scratch2)
    ∗ raw c (Memref.whole cc0_scratch3) ∗ raw c (Memref.whole cc0_scratch4))

/-- A device's memory cut up as the kernel needs it at its start. -/
def mem0 (c : Dev nD) : sProp 𝕄 :=
  iprop((barPay (F := F) (prv c) false ∗ barPay (F := F) (nxt c) true)
    ∗ ((fam 4 fun o => raw c (xvM c o)) ∗ fam 4 fun o => own c (agM c o) fullShare (ldV m c o))
    ∗ stageI (F := F) c 0 ∗ fam 56 (fun x => srcI m c x (Has 0 0 x) (Lft 0 0 x) (Rgt 0 0 x))
    ∗ fam 8 fun k => raw c (ouM c k))

theorem raw_ac (c : Dev nD) : (raw c (Memref.whole cc0_scratch2) : sProp 𝕄) = fam 16 fun j => raw c (acM (8 + j)) := by
  have h : (fam 16 fun j => (raw c (acM (8 + j)) : sProp 𝕄))
      = bigSep Finset.univ fun j : Fin 16 => raw c ((Memref.whole cc0_scratch2).slice (acR (8 + j.val)) (fun _ => rfl)) :=
    BI.bigSep_congr fun j _ => raw_squeeze c _ _
  rw [h]
  exact BI.equiv_iff.mp ⟨raw_rects c (Memref.whole cc0_scratch2) (fun j : Fin 16 => acR (8 + j.val)) (fun _ _ => rfl) ac_apart ac_cover,
    raw_of_rects c (Memref.whole cc0_scratch2) (fun j : Fin 16 => acR (8 + j.val)) (fun _ _ => rfl) ac_apart ac_cover⟩

theorem raw_rs (c : Dev nD) : (raw c (Memref.whole cc0_scratch3) : sProp 𝕄) = fam 24 fun j => raw c (rsM j) := by
  have h : (fam 24 fun j => (raw c (rsM j) : sProp 𝕄))
      = bigSep Finset.univ fun j : Fin 24 => raw c ((Memref.whole cc0_scratch3).slice (rsR j.val) (fun _ => rfl)) :=
    BI.bigSep_congr fun j _ => raw_squeeze c _ _
  rw [h]
  exact BI.equiv_iff.mp ⟨raw_rects c (Memref.whole cc0_scratch3) (fun j : Fin 24 => rsR j.val) (fun _ _ => rfl) rs_apart rs_cover,
    raw_of_rects c (Memref.whole cc0_scratch3) (fun j : Fin 24 => rsR j.val) (fun _ _ => rfl) rs_apart rs_cover⟩

theorem raw_ov (c : Dev nD) : (raw c (Memref.whole cc0_scratch4) : sProp 𝕄) = fam 32 fun j => raw c (ovM c (24 + j)) :=
  BI.equiv_iff.mp ⟨raw_rects c (Memref.whole cc0_scratch4) (fun j : Fin 32 => ovR c (24 + j.val)) (fun _ _ => rfl) (ov_apart c) (ov_cover c),
    raw_of_rects c (Memref.whole cc0_scratch4) (fun j : Fin 32 => ovR c (24 + j.val)) (fun _ _ => rfl) (ov_apart c) (ov_cover c)⟩

theorem raw_st (c : Dev nD) : (raw c (Memref.whole cc0_scratch1) : sProp 𝕄) = fam 8 fun j => raw c (stM j) :=
  BI.equiv_iff.mp ⟨raw_rects c (Memref.whole cc0_scratch1) (fun j : Fin 8 => stR j.val) (fun _ _ => rfl) st_apart st_cover,
    raw_of_rects c (Memref.whole cc0_scratch1) (fun j : Fin 8 => stR j.val) (fun _ _ => rfl) st_apart st_cover⟩

theorem raw_xv (c : Dev nD) : (raw c (Memref.whole cc0_scratch0) : sProp 𝕄) = fam 4 fun o => raw c (xvM c o) :=
  BI.equiv_iff.mp ⟨raw_rects c (Memref.whole cc0_scratch0) (fun o : Fin 4 => ldR c o.val) (fun _ _ => rfl) (ld_apart c) (ld_cover c),
    raw_of_rects c (Memref.whole cc0_scratch0) (fun o : Fin 4 => ldR c o.val) (fun _ _ => rfl) (ld_apart c) (ld_cover c)⟩

theorem own_arg_at (c : Dev nD) (V : S4096x1024.Idx → Elt F .f32) : (own c (Memref.whole main_arg0) fullShare V : sProp 𝕄)
    = fam 4 fun o => own c (agM c o) fullShare (fun y => V ((ldR c o).emb y)) :=
  BI.equiv_iff.mp ⟨owns_rects (c : Thread nD τ) (Memref.whole main_arg0) fullShare (fun o : Fin 4 => ldR c o.val) (fun _ _ => rfl) (ld_apart c) (ld_cover c) V,
    owns_of_rects (c : Thread nD τ) (Memref.whole main_arg0) fullShare (fun o : Fin 4 => ldR c o.val) (fun _ _ => rfl) (ld_apart c) (ld_cover c) V⟩

theorem own_arg (c : Dev nD) : (own c (Memref.whole main_arg0) fullShare (X m c) : sProp 𝕄)
    = fam 4 fun o => own c (agM c o) fullShare (ldV m c o) := own_arg_at c (X m c)

theorem raw_result (c : Dev nD) : (raw c (Memref.whole main_v1) : sProp 𝕄) = fam 8 fun k => raw c (ouM c k) :=
  BI.equiv_iff.mp ⟨raw_rects c (Memref.whole main_v1) (fun k : Fin 8 => coR c k.val) (fun _ _ => rfl) (co_apart c) (co_cover c),
    raw_of_rects c (Memref.whole main_v1) (fun k : Fin 8 => coR c k.val) (fun _ _ => rfl) (co_apart c) (co_cover c)⟩

theorem own_result_at (c : Dev nD) (V : S4096x1024.Idx → Elt F .bf16) : (own c (Memref.whole main_v1) fullShare V : sProp 𝕄)
    = fam 8 fun k => own c (ouM c k) fullShare (fun y => V ((coR c k).emb y)) :=
  BI.equiv_iff.mp ⟨owns_rects (c : Thread nD τ) (Memref.whole main_v1) fullShare (fun k : Fin 8 => coR c k.val) (fun _ _ => rfl) (co_apart c) (co_cover c) V,
    owns_of_rects (c : Thread nD τ) (Memref.whole main_v1) fullShare (fun k : Fin 8 => coR c k.val) (fun _ _ => rfl) (co_apart c) (co_cover c) V⟩

theorem own_result (c : Dev nD) : (own c (Memref.whole main_v1) fullShare (VV m) : sProp 𝕄)
    = fam 8 fun k => own c (ouM c k) fullShare (coV m c k) := own_result_at c (VV m)

/-- The whole buffers cut up. -/
theorem mem_enter (c : Dev nD) :
    iprop(bufs c ∗ own c (Memref.whole main_arg0) fullShare (X m c) ∗ raw c (Memref.whole main_v1)) ⊢ mem0 m c := by
  unfold bufs mem0 stageI
  rw [grants, land_fam, src_fam_start, raw_xv, raw_ac, raw_rs, raw_ov, own_arg, raw_result, if_pos rfl,
    show (fam 32 fun j => (raw c (ovM c (24 + j)) : sProp 𝕄))
      = iprop((fam 8 fun j => raw c (ovM c (24 + j))) ∗ fam 24 fun j => raw c (ovM c (32 + j))) from by
        rw [show (32 : ℕ) = 8 + 24 from rfl, fam_split]
        refine congrArg₂ (fun a b => iprop(a ∗ b)) rfl ?_
        exact fam_congr fun j _ => by rw [show 24 + (8 + j) = 8 + 24 + j by omega]]
  iintro ⟨⟨Hxv, Hst, Hac, Hrs, Hov, Hov'⟩, Hag, Hou⟩
  isplitl [Hrs Hov']
  · isplitl [Hrs] <;> iassumption
  isplitl [Hxv Hag]
  · isplitl [Hxv] <;> iassumption
  isplitl [Hst]; · iexact Hst
  isplitl [Hac Hov]
  · isplitl [Hac] <;> iassumption
  iexact Hou

/-! ## The memory at the end -/

/-- At the end each piece has its value and both shares. -/
theorem src_fam_end (c : Dev nD) : fam 56 (fun x => srcI m c x (Has 32 48 x) (Lft 48 48 x) (Rgt 8 8 x)) ⊢ fam 56 fun x => raw c (srcM c x) :=
  fam_mono fun x hx => by
    have h : Has 32 48 x := by unfold Has; split <;> omega
    unfold srcI
    rw [if_pos h, if_pos (by omega), if_pos (by omega)]
    exact (owns_halves (c : Thread nD τ) (srcM c x) fullShare (srcV m c x)).2.trans (raw_intro c _ _)

theorem srcs_whole (c : Dev nD) : (fam 56 fun x => (raw c (srcM c x) : sProp 𝕄))
    ⊢ iprop(raw c (Memref.whole cc0_scratch1) ∗ raw c (Memref.whole cc0_scratch2) ∗ raw c (Memref.whole cc0_scratch4)) := by
  rw [show (56 : ℕ) = 8 + (16 + 32) from rfl, fam_split, fam_split, raw_st, raw_ac, raw_ov]
  refine BI.sep_mono (fam_mono fun j hj => Entails.of_eq ?_) (BI.sep_mono (fam_mono fun j hj => Entails.of_eq ?_) (fam_mono fun j hj => Entails.of_eq ?_))
  · unfold srcM; rw [if_pos hj]
  · unfold srcM; rw [if_neg (by omega), if_pos (by omega)]
  · unfold srcM; rw [if_neg (by omega), if_neg (by omega), show 8 + (16 + j) = 24 + j by omega]

/-- What has landed in the first three hops. -/
theorem lands_whole (c : Dev nD) : (fam 48 fun j => (if j < 24 then own c (landM c j) fullShare (landV m c j) else iprop(emp) : sProp 𝕄))
    ⊢ raw c (Memref.whole cc0_scratch3) := by
  rw [show (48 : ℕ) = 24 + 24 from rfl, fam_split,
    fam_emp (n := 24) (Φ := fun j => if 24 + j < 24 then own c (landM c (24 + j)) fullShare (landV m c (24 + j)) else iprop(emp))
      (fun j hj => if_neg (by omega)), sep_emp_eq, raw_rs]
  refine fam_mono fun j hj => ?_
  rw [if_pos hj]
  unfold landM; rw [if_pos hj]
  exact raw_intro c _ _

theorem loads_whole (c : Dev nD) : (fam 4 fun o => (own c (xvM c o) fullShare (ldV m c o) : sProp 𝕄)) ⊢ raw c (Memref.whole cc0_scratch0) := by
  rw [raw_xv]; exact fam_mono fun o _ => raw_intro c _ _

end RingSum
-- ==== Proof.Ghost.lean ====
module
public import proofs.«01_k».proof.Proof.Memory

/-!
# The set-up of the semaphores

At launch every semaphore gets its invariant, and every device the tokens of the duties it pays and the
credit of the waits it makes.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

/-! ## The semaphores listed -/

/-- What names a DMA semaphore: a load, a transfer on either side, or an output copy. -/
abbrev Ux := Fin 4 ⊕ (Fin 48 ⊕ (Fin 48 ⊕ Fin 8))

/-- The DMA semaphore of each. -/
def semAt : Ux → DmaSem sig
  | .inl o => loadSem o.val
  | .inr (.inl j) => sendSem j.val
  | .inr (.inr (.inl j)) => recvSem j.val
  | .inr (.inr (.inr k)) => outSem k.val

theorem semAt_injective : Function.Injective semAt := fun x y h => by
  have hu := congrArg (fun q : DmaSem sig => useOf q.val) h
  rcases x with o | j | j | k <;> rcases y with o' | j' | j' | k' <;>
    simp only [semAt, useOf_load, useOf_send, useOf_recv, useOf_out] at hu <;>
    first
      | exact absurd hu (by intro h; cases h)
      | (cases Fin.ext (by injection hu)
         rfl)

/-- Every DMA semaphore is one of these. -/
def semE : Ux ≃ DmaSem sig := Equiv.ofBijective semAt ((Fintype.bijective_iff_injective_and_card semAt).mpr ⟨semAt_injective, by decide⟩)

theorem dma_fam (Φ : DmaSem sig → sProp 𝕄) : bigSep Finset.univ Φ
    = iprop((fam 4 fun o => Φ (loadSem o)) ∗ (fam 48 fun j => Φ (sendSem j)) ∗ (fam 48 fun j => Φ (recvSem j)) ∗ fam 8 fun k => Φ (outSem k)) := by
  rw [BI.bigSep_univ_equiv semE, BI.bigSep_univ_sum, BI.bigSep_univ_sum, BI.bigSep_univ_sum]
  rfl

theorem opt_split (Φ : Option (DmaSem sig) → sProp 𝕄) :
    bigSep Finset.univ Φ = iprop(Φ none ∗ bigSep Finset.univ fun q => Φ (some q)) := by
  rw [BI.bigSep_univ_equiv (Equiv.optionEquivSumPUnit.{0} (DmaSem sig)).symm, BI.bigSep_univ_sum, Finset.univ_unique (α := PUnit), bigSep_singleton]
  exact BI.equiv_iff.mp ⟨BI.sep_comm, BI.sep_comm⟩

theorem bool_split (Φ : Bool → sProp 𝕄) : bigSep Finset.univ Φ = iprop(Φ false ∗ Φ true) := by
  rw [bigSep_univ_eq_bigSepL [false, true] (by decide) (by decide), bigSepL_cons_cons, bigSepL_singleton]; rfl

theorem swap_fam (n : ℕ) (Φ : Dev nD → ℕ → sProp 𝕄) :
    (bigSep Finset.univ fun c : Dev nD => fam n (Φ c)) = fam n fun j => bigSep Finset.univ fun c : Dev nD => Φ c j := by
  have e1 := BI.bigSep_univ_prod (fun x : Dev nD × Fin n => Φ x.1 x.2.val)
  have e2 := BI.bigSep_univ_prod (fun x : Fin n × Dev nD => Φ x.2 x.1.val)
  have e3 := BI.bigSep_univ_equiv (Equiv.prodComm (Fin n) (Dev nD)) (fun x : Dev nD × Fin n => Φ x.1 x.2.val)
  exact e1.symm.trans (e3.trans e2)

theorem cell_inj {c c' : Dev nD} {q q' : DmaSem sig} (h : cell c q = cell c' q') : c = c' ∧ q = q' :=
  ⟨congrArg (fun g : GSem nD τ sig => g.1.1) h, by have := congrArg Prod.snd h; injection this⟩

theorem kcell_injective : Function.Injective (kcell : Dev nD × Option (DmaSem sig) → GSem nD τ sig) := by
  rintro ⟨c, k⟩ ⟨c', k'⟩ h
  have h1 : c = c' := by
    have := congrArg (fun g : GSem nD τ sig => g.1.1) h
    cases k <;> cases k' <;> exact this
  subst h1
  cases k <;> cases k'
  · rfl
  · exact absurd (congrArg Prod.snd h) (by intro h; cases h)
  · exact absurd (congrArg Prod.snd h) (by intro h; cases h)
  · rw [(cell_inj h).2]

/-- The semaphores of all devices. -/
def allCells : Finset (GSem nD τ sig) := Finset.univ.map ⟨kcell, kcell_injective⟩

/-- A device's duties: the two of its start semaphore and one of each DMA semaphore. -/
abbrev tokOf (x : Dev nD × (Bool ⊕ DmaSem sig)) : GSem nD τ sig × ℕ × Bool :=
  match x.2 with
  | .inl b => (barCell x.1, 0, b)
  | .inr q => (cell x.1 q, 0, false)

theorem tokOf_injective : Function.Injective (tokOf : Dev nD × (Bool ⊕ DmaSem sig) → GSem nD τ sig × ℕ × Bool) := by
  rintro ⟨c, k⟩ ⟨c', k'⟩ h
  have h1 : c = c' := by
    have := congrArg (fun g : GSem nD τ sig × ℕ × Bool => g.1.1.1) h
    cases k <;> cases k' <;> exact this
  subst h1
  cases k <;> cases k'
  · have := congrArg (fun g : GSem nD τ sig × ℕ × Bool => g.2.2) h
    simp only at this; rw [this]
  · exact absurd (congrArg (fun g : GSem nD τ sig × ℕ × Bool => g.1.2) h) (by intro h; cases h)
  · exact absurd (congrArg (fun g : GSem nD τ sig × ℕ × Bool => g.1.2) h) (by intro h; cases h)
  · have := congrArg (fun g : GSem nD τ sig × ℕ × Bool => g.1) h
    rw [(cell_inj this).2]

/-- The duties of all devices. -/
def allToks : Finset (GSem nD τ sig × ℕ × Bool) := Finset.univ.map ⟨tokOf, tokOf_injective⟩

/-- The ghost state at launch. -/
def u₀ : UU :=
  (initOf (Pipeline.cells cfgs cellOf_inj) (Pipeline.launchToks cfgs cellOf_inj), initOf allCells allToks)

/-! ## What the launch deals out -/

/-- The tokens of the duties of device `c`'s semaphores. -/
def toks (c : Dev nD) : sProp 𝕄 :=
  iprop((dutyTok ER (barCell c) 0 false ∗ dutyTok ER (barCell c) 0 true)
    ∗ (fam 4 fun o => dutyTok ER (cell c (loadSem o)) 0 false) ∗ (fam 48 fun j => dutyTok ER (cell c (sendSem j)) 0 false)
    ∗ (fam 48 fun j => dutyTok ER (cell c (recvSem j)) 0 false) ∗ fam 8 fun k => dutyTok ER (cell c (outSem k)) 0 false)

/-- The tokens of the duties device `c` pays. -/
def payToks (c : Dev nD) : sProp 𝕄 :=
  iprop((dutyTok ER (barCell (prv c)) 0 false ∗ dutyTok ER (barCell (nxt c)) 0 true)
    ∗ (fam 4 fun o => dutyTok ER (cell c (loadSem o)) 0 false) ∗ (fam 48 fun j => dutyTok ER (cell c (sendSem j)) 0 false)
    ∗ (fam 48 fun j => dutyTok ER (cell (dst j c) (recvSem j)) 0 false) ∗ fam 8 fun k => dutyTok ER (cell c (outSem k)) 0 false)

/-- Device `c`'s place in each of its semaphores' rounds. -/
def places (c : Dev nD) : sProp 𝕄 := bigSep Finset.univ fun k : Option (DmaSem sig) => atPos ER (kcell (c, k)) 0 ∅ 0

/-- What the launch deals device `c`. -/
def G (c : Dev nD) : sProp 𝕄 :=
  iprop((bigSep Finset.univ fun k : Option (DmaSem sig) => roundState ER (Rd m) (kcell (c, k)) 0)
    ∗ (places c ∗ bigSep Finset.univ fun k : Option (DmaSem sig) => reached ER (kcell (c, k)) 0) ∗ toks c)

theorem deal : BI.own (ER (initOf allCells allToks)) ⊢ (|==> bigSep Finset.univ (G m) : sProp 𝕄) := by
  have hX (Φ : GSem nD τ sig → sProp 𝕄) : bigSep allCells Φ
      = bigSep Finset.univ fun c : Dev nD => bigSep Finset.univ fun k : Option (DmaSem sig) => Φ (kcell (c, k)) := by
    unfold allCells; rw [BI.bigSep_map, BI.bigSep_univ_prod]; rfl
  have hT : bigSep allToks (fun x => (dutyTok ER x.1 x.2.1 x.2.2 : sProp 𝕄)) = bigSep Finset.univ fun c : Dev nD => toks c := by
    unfold allToks; rw [BI.bigSep_map, BI.bigSep_univ_prod]
    exact BI.bigSep_congr fun c _ => by unfold toks; rw [BI.bigSep_univ_sum, ← dma_fam (fun q => dutyTok ER (cell c q) 0 false), ← bool_split (fun b => dutyTok ER (barCell c) 0 b)]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G places; simp only [bigSep_sep']
  isplitl [Hst']; · iexact Hst'
  isplitl [Hat' Hr']
  · isplitl [Hat'] <;> iassumption
  iexact Htok'

/-! ## The tokens go around the ring -/

/-- One step around the ring. -/
def ring : Dev nD ≃ Dev nD := ⟨nxt, prv, prv_nxt, nxt_prv⟩

/-- The device transfer `j` goes to, as a rearrangement of the devices. -/
def dstE (j : ℕ) : Dev nD ≃ Dev nD := ⟨dst j, fro j, fro_dst j, dst_fro j⟩

theorem toks_around : (bigSep Finset.univ fun c : Dev nD => (toks c : sProp 𝕄)) ⊢ bigSep Finset.univ fun c : Dev nD => payToks c := by
  have hr : (bigSep Finset.univ fun c : Dev nD => fam 48 fun j => (dutyTok ER (cell c (recvSem j)) 0 false : sProp 𝕄))
      = bigSep Finset.univ fun c : Dev nD => fam 48 fun j => dutyTok ER (cell (dst j c) (recvSem j)) 0 false := by
    rw [swap_fam 48 (fun c j => dutyTok ER (cell c (recvSem j)) 0 false), swap_fam 48 (fun c j => dutyTok ER (cell (dst j c) (recvSem j)) 0 false)]
    exact BI.bigSep_congr fun j _ => BI.bigSep_univ_equiv (dstE j.val) (fun c : Dev nD => (dutyTok ER (cell c (recvSem j.val)) 0 false : sProp 𝕄))
  unfold toks payToks
  rw [bigSep_sep', bigSep_sep', bigSep_sep', bigSep_sep', bigSep_sep', hr, bigSep_sep', bigSep_sep', bigSep_sep', bigSep_sep', bigSep_sep',
    BI.bigSep_univ_equiv ring.symm (fun c : Dev nD => (dutyTok ER (barCell c) 0 false : sProp 𝕄)),
    BI.bigSep_univ_equiv ring (fun c : Dev nD => (dutyTok ER (barCell c) 0 true : sProp 𝕄))]
  exact .rfl

/-! ## The invariants set up -/

/-- The invariants and that each semaphore has reached its round. -/
def ctx0 (K : Dev nD × Option (DmaSem sig) → ℕ) : sProp 𝕄 :=
  iprop((bigSep Finset.univ fun ck => cellInv ER (Rd m) (K ck) (kcell ck)) ∗ (bigSep Finset.univ fun ck => reached ER (kcell ck) 0))

instance ctx0_persistent (K : Dev nD × Option (DmaSem sig) → ℕ) : BI.Persistent (ctx0 m K) := by unfold ctx0; infer_instance

/-- What the set-up leaves device `c`. -/
def G' (c : Dev nD) : sProp 𝕄 := iprop(∃ K, ctx0 m K ∗ places c ∗ payToks c)

/-- The kernel's own semaphores: all DMA semaphores. -/
abbrev osem (q : DmaSem sig) : SemLoc sig := .dma q

theorem ownSemFacts : Pipeline.OwnSemFacts cfg0.spec osem := by decide +kernel

theorem unscopedSems0_eq (c : Dev nD) : (unscopedSems0 c : sProp 𝕄) = semVal (barCell c) 0 := by
  unfold unscopedSems0; rw [bigSep_eq_bigSepL_of_eq [SemLoc.reg barS] (by decide +kernel) (by decide +kernel)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (DmaSem sig) => semVal (kcell (c, k)) 0 : sProp 𝕄) := by
  rw [unscopedSems0_eq, opt_split]
  unfold Pipeline.ownSems0
  iintro ⟨HD, HB⟩
  isplitl [HB]; · iexact HB
  iexact HD

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option (DmaSem sig) => iprop(∃ κ : ℕ, cellInv ER (Rd m) κ (kcell (c, k))))
          ∗ (places c ∗ bigSep Finset.univ fun k : Option (DmaSem sig) => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (DmaSem sig) => semVal (kcell (c, k)) 0) ∗ bigSep Finset.univ fun k : Option (DmaSem sig) => roundState ER (Rd m) (kcell (c, k)) 0)
      ⊢ (|={Set.univ}=> bigSep Finset.univ fun k : Option (DmaSem sig) => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : Option (DmaSem sig) => iprop(∃ κ : ℕ, cellInv ER (Rd m) κ (kcell (c, k))))
          ∗ (places c ∗ bigSep Finset.univ fun k : Option (DmaSem sig) => reached ER (kcell (c, k)) 0) ∗ toks c) : sProp 𝕄)
      ⊢ bigSep Finset.univ (G' m) := by
  rw [bigSep_sep', bigSep_sep', ← BI.bigSep_univ_prod (fun ck : Dev nD × Option (DmaSem sig) => iprop(∃ κ : ℕ, cellInv ER (Rd m) κ (kcell ck))),
    bigSep_sep', ← BI.bigSep_univ_prod (fun ck : Dev nD × Option (DmaSem sig) => (reached ER (kcell ck) 0 : sProp 𝕄))]
  iintro ⟨HI, ⟨Hat, #HR⟩, Htok⟩
  ihave HK := (BI.bigSep_exists_pi Finset.univ (fun (ck : Dev nD × Option (DmaSem sig)) (κ : ℕ) => (cellInv ER (Rd m) κ (kcell ck) : sProp 𝕄))) $$ HI
  icases HK with ⟨%K, #HI⟩
  ihave Htk := (toks_around (F := F)) $$ Htok
  iapply (BI.bigSep_with_persistent (R := ctx0 m K) (S := Finset.univ) (Φ := fun c : Dev nD => iprop(places c ∗ payToks c)) (Ψ := G' m)
    fun c _ => (show iprop(ctx0 m K ∗ places c ∗ payToks c) ⊢ G' m c from by unfold G'; iintro H; iexists K; iexact H))
  isplitr
  · unfold ctx0; isplitl; · iexact HI
    iexact HR
  · rw [bigSep_sep']
    isplitl [Hat]; · iexact Hat
    iexact Htk

/-- All devices' semaphores set up at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem bar_ne_cell (c c' : Dev nD) (q : DmaSem sig) : barCell c ≠ cell c' q := fun h => by
  have := congrArg Prod.snd h; cases this

theorem bar_eq_iff {a b : Dev nD} : barCell a = barCell b ↔ a = b :=
  ⟨fun h => congrArg (fun g : GSem nD τ sig => g.1.1) h, fun h => h ▸ rfl⟩

/-- What device `d` owes device `c`'s start semaphore. -/
theorem owed_to_bar (d c : Dev nD) : owed d 0 0 (barCell c) () = (if d = prv c then 1 else 0) + (if d = nxt c then 1 else 0) := by
  unfold owed
  rw [if_pos (by decide), if_pos (by decide), Pi.add_apply, Finsupp.add_apply, Pi.add_apply, Finsupp.add_apply, Finset.sum_apply, Finsupp.finset_sum_apply,
    Finset.sum_eq_zero (fun j _ => by rw [tallyAt_apply, if_neg fun h => bar_ne_cell _ _ _ h.1]), tallyAt_apply, tallyAt_apply, Nat.zero_add]
  congr 1
  · by_cases h : d = prv c
    · subst h; rw [nxt_prv, if_pos ⟨rfl, rfl⟩, if_pos rfl]
    · rw [if_neg (fun h' => h (by rw [bar_eq_iff.mp h'.1, prv_nxt])), if_neg h]
  · by_cases h : d = nxt c
    · subst h; rw [prv_nxt, if_pos ⟨rfl, rfl⟩, if_pos rfl]
    · rw [if_neg (fun h' => h (by rw [bar_eq_iff.mp h'.1, nxt_prv])), if_neg h]

theorem recvSem_inj {j j' : ℕ} (h : j < 48) (h' : j' < 48) (e : recvSem j = recvSem j') : j = j' := by
  have hu := use_recv h
  rw [e, use_recv h'] at hu
  injection hu with hu
  exact hu.symm

/-- What device `d` owes the receiver's semaphore of transfer `j` on device `c`. -/
theorem owed_to_recv (d c : Dev nD) (j : ℕ) (hj : j < 48) : owed d 0 0 (cell c (recvSem j)) () = if d = fro j c then N else 0 := by
  unfold owed
  rw [if_pos (by decide), if_pos (by decide), Pi.add_apply, Finsupp.add_apply, Pi.add_apply, Finsupp.add_apply, Finset.sum_apply, Finsupp.finset_sum_apply,
    tallyAt_apply, tallyAt_apply, if_neg (fun h => bar_ne_cell _ _ _ h.1.symm), if_neg (fun h => bar_ne_cell _ _ _ h.1.symm), Nat.add_zero,
    Finset.sum_eq_single_of_mem j (Finset.mem_Ico.mpr ⟨Nat.zero_le _, hj⟩) (fun j' hj' hne => by
      rw [tallyAt_apply, if_neg fun h => hne (recvSem_inj (Finset.mem_Ico.mp hj').2 hj (cell_inj h.1).2.symm)]), tallyAt_apply]
  by_cases h : d = fro j c
  · subst h; rw [dst_fro, if_pos ⟨rfl, rfl⟩, if_pos rfl]
  · rw [if_neg (fun h' => h (by rw [(cell_inj h'.1).1, fro_dst])), if_neg h]

/-- What all devices owe at launch. -/
abbrev O₀ (c : Dev nD) : CellTallies nD τ sig Unit := owed c 0 0

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_to_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (j : ℕ) (hj : j < 48) :
    tallyOn (cell c (recvSem j)) (launchCredit (Pipeline.owing O₀) 0 (cell c (recvSem j))) = (tallyAt (cell c (recvSem j)) () N : CellTallies nD τ sig Unit) := by
  unfold tallyAt; refine congrArg _ (Finsupp.ext fun u => ?_); cases u
  rw [Pipeline.launchCredit_owing, Finsupp.single_eq_same, Finset.sum_congr rfl fun d _ => owed_to_recv d c j hj,
    Finset.sum_ite_eq' Finset.univ (fro j c) fun _ => N, if_pos (Finset.mem_univ _)]

/-- The credit device `c` needs for its waits on the neighbours. -/
def creds (c : Dev nD) : sProp 𝕄 :=
  iprop(cred (tallyAt (barCell c) () 2) ∗ fam 48 fun j => cred (tallyAt (cell c (recvSem j)) () N))

theorem creds_intro (c : Dev nD) : (Pipeline.launchCred O₀ c : sProp 𝕄) ⊢ creds c := by
  unfold Pipeline.launchCred creds
  rw [bigSep_univ_at _ (SemLoc.reg barS), launch_bar]
  refine sep_mono_right ?_
  have hi : Function.Injective fun j : Fin 48 => (SemLoc.dma (recvSem j.val) : SemLoc sig) :=
    fun j j' h => Fin.ext (recvSem_inj j.isLt j'.isLt (by injection h))
  have hs : (Finset.univ : Finset (Fin 48)).map ⟨_, hi⟩ ⊆ Finset.univ.erase (SemLoc.reg barS) := fun x hx => by
    obtain ⟨j, _, rfl⟩ := Finset.mem_map.mp hx
    exact Finset.mem_erase.mpr ⟨(by intro h; cases h), Finset.mem_univ _⟩
  have e (Φ : SemLoc sig → sProp 𝕄) : bigSep (Finset.univ.erase (SemLoc.reg barS)) Φ
      = iprop((bigSep Finset.univ fun j : Fin 48 => Φ (SemLoc.dma (recvSem j.val))) ∗ bigSep (Finset.univ.erase (SemLoc.reg barS) \ (Finset.univ : Finset (Fin 48)).map ⟨_, hi⟩) Φ) :=
    (BI.bigSep_sdiff_split hs).trans (by rw [BI.bigSep_map]; rfl)
  rw [e]
  refine sep_elim_left.trans (Entails.of_eq ?_)
  exact fam_congr (Φ := fun j => cred (tallyOn (cell c (recvSem j)) (launchCredit (Pipeline.owing O₀) 0 (cell c (recvSem j))))) fun j hj => by rw [launch_recv c j hj]

end RingSum
-- ==== Proof.Launch.lean ====
module
public import proofs.«01_k».proof.Proof.Body
public import proofs.«01_k».proof.Proof.Ghost
public import Idealize.ShloMosaic.Lib.Pipeline.CollectiveSegs

/-!
# The launch

The four kernels run together.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

variable (K : Dev nD × Option (DmaSem sig) → ℕ)

open Idealize.ShloMosaic.Pipeline (Dat Cfg Window BodyObligation cellOf)

/-! ## The first and the last state -/

/-- What a device holds at its start makes the first state. -/
theorem state_first (c : Dev nD) :
    iprop(ctx m K ∗ (∃ W, owes (c : Thread nD τ) (owed c 0 0) W) ∗ (places c ∗ payToks c) ∗ creds c ∗ mem0 m c) ⊢ state m K c 0 0 0 0 0 0 0 0 0 := by
  have hl : fam 4 (loadI m c 0 0) = iprop((fam 4 fun o => dutyTok ER (cell c (loadSem o)) 0 false) ∗ (fam 4 fun o => atPos ER (cell c (loadSem o)) 0 ∅ 0)
      ∗ (fam 4 fun o => raw c (xvM c o)) ∗ fam 4 fun o => own c (agM c o) fullShare (ldV m c o)) := by
    rw [← fam_sep, ← fam_sep, ← fam_sep]
    exact fam_congr fun o _ => by unfold loadI; rw [if_neg (by omega), if_neg (by omega)]
  have hs : fam 48 (sendI (F := F) c 0 0) = iprop((fam 48 fun j => dutyTok ER (cell c (sendSem j)) 0 false)
      ∗ (fam 48 fun j => dutyTok ER (cell (dst j c) (recvSem j)) 0 false) ∗ fam 48 fun j => atPos ER (cell c (sendSem j)) 0 ∅ 0) := by
    rw [← fam_sep, ← fam_sep]
    exact fam_congr fun j _ => by unfold sendI; rw [if_neg (by omega)]
  have hr : fam 48 (recvI m c 0) = iprop((fam 48 fun j => cred (tallyAt (cell c (recvSem j)) () N)) ∗ fam 48 fun j => atPos ER (cell c (recvSem j)) 0 ∅ 0) := by
    rw [← fam_sep]
    exact fam_congr fun j _ => by unfold recvI; rw [if_neg (by omega)]
  have ho : fam 8 (outI m c 0 0) = iprop((fam 8 fun k => dutyTok ER (cell c (outSem k)) 0 false) ∗ (fam 8 fun k => atPos ER (cell c (outSem k)) 0 ∅ 0)
      ∗ fam 8 fun k => raw c (ouM c k)) := by
    rw [← fam_sep, ← fam_sep]
    exact fam_congr fun k _ => by unfold outI; rw [if_neg (by omega)]
  have hp : (places c : sProp 𝕄) = iprop(atPos ER (barCell c) 0 ∅ 0 ∗ (fam 4 fun o => atPos ER (cell c (loadSem o)) 0 ∅ 0)
      ∗ (fam 48 fun j => atPos ER (cell c (sendSem j)) 0 ∅ 0) ∗ (fam 48 fun j => atPos ER (cell c (recvSem j)) 0 ∅ 0)
      ∗ fam 8 fun k => atPos ER (cell c (outSem k)) 0 ∅ 0) := by
    unfold places; rw [opt_split, dma_fam]
  unfold state landI payToks creds mem0
  rw [hl, hs, hr, ho, hp, if_pos (by decide)]
  show _ ⊢ iprop(_ ∗ _ ∗ ((dutyTok ER (barCell (prv c)) 0 false ∗ barPay (F := F) (prv c) false)
      ∗ (dutyTok ER (barCell (nxt c)) 0 true ∗ barPay (F := F) (nxt c) true)
      ∗ cred (tallyAt (barCell c) () 2) ∗ atPos ER (barCell c) 0 ∅ 0) ∗ _)
  iintro ⟨Hctx, Ho, ⟨⟨HaB, HaL, HaS, HaV, HaO⟩, ⟨HtP, HtN⟩, HtL, HtS, HtV, HtO⟩, ⟨HcB, HcV⟩, ⟨HpP, HpN⟩, ⟨Hxv, Hag⟩, Hst, Hsrc, Hou⟩
  isplitl [Hctx]; · iexact Hctx
  isplitl [Ho]; · iexact Ho
  isplitl [HtP HpP HtN HpN HcB HaB]
  · isplitl [HtP HpP]
    · isplitl [HtP] <;> iassumption
    isplitl [HtN HpN]
    · isplitl [HtN] <;> iassumption
    isplitl [HcB] <;> iassumption
  isplitr; · iempintro
  isplitl [HtL HaL Hxv Hag]
  · isplitl [HtL]; · iexact HtL
    isplitl [HaL]; · iexact HaL
    isplitl [Hxv] <;> iassumption
  isplitl [HtS HtV HaS]
  · isplitl [HtS]; · iexact HtS
    isplitl [HtV] <;> iassumption
  isplitl [HcV HaV]
  · isplitl [HcV] <;> iassumption
  isplitl [Hst]; · iexact Hst
  isplitl [Hsrc]; · iexact Hsrc
  isplitl [HtO]; · iexact HtO
  isplitl [HaO] <;> iassumption

theorem ordW_lt (o : ℕ) : ordW o < 4 := by
  unfold ordW
  split_ifs <;> omega

/-- What a device holds at its end: its buffers whole, the result, and every semaphore at zero. -/
def Φ₁ (c : Dev nD) : sProp 𝕄 :=
  iprop((bufs c ∗ own c (Memref.whole main_arg0) fullShare (X m c) ∗ own c (Memref.whole main_v1) fullShare (VV m))
    ∗ semVal (barCell c) 0 ∗ bigSep Finset.univ fun q : DmaSem sig => semVal (cell c q) 0)

/-- The last state gives what the device must hand back. -/
theorem state_last (c : Dev nD) : state m K c 3 4 4 32 48 48 8 48 8 ⊢ iprop(Φ₁ m c ∗ ∃ W, owes (c : Thread nD τ) 0 W) := by
  have hl : fam 4 (loadI m c 4 4) = iprop((fam 4 fun o => semVal (cell c (loadSem o)) 0)
      ∗ (fam 4 fun o => own c (xvM c o) fullShare (ldV m c o)) ∗ fam 4 fun o => own c (agM c o) fullShare (ldV m c o)) := by
    rw [← fam_sep, ← fam_sep]
    exact fam_congr fun o _ => by unfold loadI; rw [if_pos (ordW_lt o)]
  have hs : fam 48 (sendI (F := F) c 48 48) = fam 48 fun j => semVal (cell c (sendSem j)) 0 :=
    fam_congr fun j hj => by unfold sendI; rw [if_pos hj, if_pos hj]
  have hr : fam 48 (recvI m c 48) = iprop((fam 48 fun j => semVal (cell c (recvSem j)) 0)
      ∗ fam 48 fun j => if j < 24 then own c (landM c j) fullShare (landV m c j) else iprop(emp)) := by
    rw [← fam_sep]
    exact fam_congr fun j hj => by unfold recvI; rw [if_pos hj]
  have ho : fam 8 (outI m c 8 8) = iprop((fam 8 fun k => semVal (cell c (outSem k)) 0) ∗ fam 8 fun k => own c (ouM c k) fullShare (coV m c k)) := by
    rw [← fam_sep]
    exact fam_congr fun k hk => by unfold outI; rw [if_pos hk, if_pos hk]
  unfold state Φ₁ bufs
  rw [hl, hs, hr, ho, owed_three, owed_end, own_arg, own_result, dma_fam]
  rw [show (startI (F := F) c 3) = semVal (barCell c) 0 from rfl]
  iintro ⟨-, HO, Hb, -, ⟨HL, Hxv, Hag⟩, HS, ⟨HV, Hland⟩, -, Hsrc, ⟨HOu, Hou⟩⟩
  ihave Hsrc := ((src_fam_end m c).trans (srcs_whole c)) $$ Hsrc
  icases Hsrc with ⟨Hst, Hac, Hov⟩
  ihave Hrs := (lands_whole m c) $$ Hland
  ihave Hxv := (loads_whole m c) $$ Hxv
  isplitr [HO]
  · isplitl [Hxv Hst Hac Hrs Hov Hag Hou]
    · isplitl [Hxv Hst Hac Hrs Hov]
      · isplitl [Hxv]; · iexact Hxv
        isplitl [Hst]; · iexact Hst
        isplitl [Hac]; · iexact Hac
        isplitl [Hrs]; · iexact Hrs
        iexact Hov
      isplitl [Hag] <;> iassumption
    isplitl [Hb]; · iexact Hb
    isplitl [HL]; · iexact HL
    isplitl [HS]; · iexact HS
    isplitl [HV] <;> iassumption
  iexact HO

/-! ## The pipeline's data -/

variable (ρ : Dev nD → PrngReg)

/-- What a device brings to its kernel besides the kernel's own buffers. -/
def start (c : Dev nD) : sProp 𝕄 :=
  iprop((∃ K, ctx m K ∗ places c ∗ payToks c) ∗ creds c
    ∗ own c (Memref.whole main_arg0) fullShare (X m c) ∗ raw c (Memref.whole main_v1))

/-- The kernel has no windows and one point. -/
def dats (_ : Fin 1) (c : Dev nD) : Dat τ (Elt F) Unit ℕ UU ℕ cfg0 c where
  A w := w.elim0
  after w _ := w.elim0
  Φ t := match t with
    | ⟨0, _⟩ => iprop(start m c ∗ bufs c)
    | ⟨_ + 1, _⟩ => Φ₁ m c
  q _ := fullShare
  owed t := match t with
    | ⟨0, _⟩ => O₀ c
    | ⟨_ + 1, _⟩ => 0

theorem no_windows (Φ : Fin cfg0.W → sProp 𝕄) : bigSep Finset.univ Φ = iprop(emp) := by
  rw [show (Finset.univ : Finset (Fin cfg0.W)) = ∅ from rfl, BI.bigSep_empty]
  rfl

theorem body_text (t : Fin cfg0.N) : defs₀ (F := F) .tc cfg0.body (cfg0.bodyArgs t (cfg0.slots t)) = bodyAt0 (F := F) t := rfl

set_option maxRecDepth 8000 in
theorem body_obligation (c : Dev nD) : BodyObligation (dats (F := F) m 0 c) (defs₀ (F := F)) 𝒱₀ () Set.univ := fun t => by
  rw [fin_N0 t, no_windows, no_windows, body_text]
  rw [show (dats (F := F) m 0 c).Φ (Fin.castSucc t0_0) = iprop(start m c ∗ bufs c) from rfl,
    show (dats (F := F) m 0 c).Φ (Fin.succ t0_0) = Φ₁ m c from rfl]
  unfold Dat.owesAt Pipeline.owesWithin start
  iintro ⟨⟨⟨⟨%K, Hctx, Hpl, Htk⟩, Hcr, Hag, Hou⟩, Hb⟩, ⟨%W, %hW, HO⟩, -⟩
  iapply (body_run m K t0_0 (Q := fun _ => iprop(Φ₁ m c ∗ (∃ W, ⌜_⌝ ∗ owes (c : Thread nD τ) 0 W) ∗ emp)) ((state_last m K c).trans (by
    iintro ⟨H, ⟨%W, HO⟩⟩
    isplitl [H]; · iexact H
    isplitl [HO]
    · iexists W
      isplitr; · ipureintro; exact fun _ _ => Or.inl trivial
      iexact HO
    iempintro)))
  iapply (state_first m K c)
  isplitl [Hctx]; · iexact Hctx
  isplitl [HO]; · iexists W; iexact HO
  isplitl [Hpl Htk]
  · isplitl [Hpl] <;> iassumption
  isplitl [Hcr]; · iexact Hcr
  iapply (mem_enter m c)
  isplitl [Hb]; · iexact Hb
  isplitl [Hag] <;> iassumption

/-! ## The launch's side conditions -/

theorem raw_whole (c : Dev nD) (b : Ref sig .tc) :
    (raw c (Memref.whole b) : sProp 𝕄) = iprop(∃ f : Buf (Elt F) ((c : Thread nD τ).loc b), ((c : Thread nD τ).loc b) ↦{fullShare} f) := by
  refine (BI.equiv_iff.mp ⟨(ownsSat_true (c : Thread nD τ) (Memref.whole b) fullShare).1, (ownsSat_true (c : Thread nD τ) (Memref.whole b) fullShare).2⟩).trans ?_
  simp only [owns_whole]

theorem bufs_eq (c : Dev nD) : (bufs c : sProp 𝕄) = Pipeline.scopedRest (cfg0.spec) c := by
  rw [scopedRest0_eq]; unfold bufs; rw [raw_whole, raw_whole, raw_whole, raw_whole, raw_whole]

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold start G' ctx ctx0
  iintro ⟨⟨Hx, Hv⟩, Hlev, Hcr, -, ⟨%K, ⟨HI, HR⟩, Hpl, Htk⟩⟩
  ihave Hc := (creds_intro (F := F) c) $$ Hcr
  imodintro
  isplitl
  · isplitl [HI HR Hlev Hpl Htk]
    · iexists K
      isplitl [HI HR Hlev]
      · isplitl [HI]; · iexact HI
        isplitl [HR] <;> iassumption
      isplitl [Hpl] <;> iassumption
    isplitl [Hc]; · iexact Hc
    isplitl [Hx]
    · iapply (Entails.of_eq (owns_whole (c : Thread nD τ) main_arg0 fullShare (X m c)).symm); iexact Hx
    rw [raw_whole]; iexists _; iexact Hv
  · iempintro

/-- What a device gives back besides the kernel's own buffers and semaphores. -/
def finish (c : Dev nD) : sProp 𝕄 :=
  iprop(unscopedSems0 c ∗ own c (Memref.whole main_arg0) fullShare (X m c) ∗ own c (Memref.whole main_v1) fullShare (VV m))

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ bufs c) from rfl, bufs_eq]
  iintro ⟨Hs, -, Hr⟩
  isplitl [Hs] <;> iassumption

theorem last_elim (c : Dev nD) :
    (dats m 0 c).Φ (Fin.last cfg0.N) ⊢ iprop(finish m c ∗ Pipeline.ownSems0 osem c ∗ Pipeline.scopedRest cfg0.spec c) := by
  rw [show (dats m 0 c).Φ (Fin.last cfg0.N) = Φ₁ m c from rfl, ← bufs_eq]
  unfold Φ₁ finish Pipeline.ownSems0
  rw [unscopedSems0_eq]
  iintro ⟨⟨Hb, Hx, Hv⟩, HzB, HzD⟩
  isplitl [HzB Hx Hv]
  · isplitl [HzB]; · iexact HzB
    isplitl [Hx] <;> iassumption
  isplitl [HzD] <;> iassumption

theorem waits (c : Dev nD) : (levAts L lv : sProp 𝕄) ⊢ Pipeline.cellsWaits cfgs (dats m) () 0 c :=
  Pipeline.cellsWaits_intro cfgs (dats m) () 0 c fun w => w.elim0

/-- One whole buffer read off the final memory. -/
theorem read_whole (c : Dev nD) (b : Ref sig .tc) (f : b.ty.Contents (Elt F)) (s' : Phys nD τ sig (Elt F)) :
    iprop(own c (Memref.whole b) fullShare f ∗ SI s') ⊢ (iprop(⌜s'.mem.mem ((c : Thread nD τ).loc b) = f⌝ ∗ SI s') : sProp 𝕄) := by
  have h := pointsTo_read_all (Ix := Unit) (Name := ℕ) (U := UU) (Lvl := ℕ) (Val := Elt F) (nD := nD) (τ := τ) (sig := sig)
    (Finset.univ : Finset Unit) (fun _ => (c : Thread nD τ).loc b) (fun _ => f) s'
  rw [Finset.univ_unique (α := Unit), bigSep_singleton, ← owns_whole (c : Thread nD τ) b fullShare f] at h
  refine h.trans ?_
  iintro ⟨%h, H⟩
  isplitr; · ipureintro; exact h () (Finset.mem_singleton_self _)
  iexact H

/-! ## The run -/

/-- What the final memory holds: the result on every device, and every argument as it was. -/
def QC : PUnit × MemSt nD τ sig (Elt F) → Prop := fun r =>
  ∀ c : Dev nD, r.2.mem ((c : Thread nD τ).loc main_v1) = VV m ∧ r.2.mem ((c : Thread nD τ).loc main_arg0) = X m c

set_option maxRecDepth 40000 in
/-- On four devices, for any float values and from any memory with its semaphores at zero, the program ends, and at the end
    every device holds the result, its argument unchanged, and every semaphore at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ w => w.elim0) (hpf := fun _ k => k.elim0)
    (X := start m) (Y := finish m) (Z := fun _ => iprop(emp))
    (hX := start_intro m ρ) (hin := first_intro m) (hout := last_elim m)
    (QY := fun c s => (∀ sm : SemLoc sig, sm.isScoped .tc = false → s.sem ((c.tc : Thread nD τ), sm) = 0)
      ∧ s.mem ((c : Thread nD τ).loc main_v1) = VV m ∧ s.mem ((c : Thread nD τ).loc main_arg0) = X m c)
    (hY := fun c s' => by
      unfold finish
      iintro ⟨⟨Hu, Hx, Hv⟩, -, HSI⟩
      ihave H := (read_whole c main_arg0 (X m c) s') $$ [Hx HSI]
      · isplitl [Hx] <;> iassumption
      icases H with ⟨%h1, HSI⟩
      ihave H := (read_whole c main_v1 (VV m) s') $$ [Hv HSI]
      · isplitl [Hv] <;> iassumption
      icases H with ⟨%h2, HSI⟩
      imod (Pipeline.unscopedSems0_read (X := unscopedSems0 c) (c := c) fupd_intro s') $$ [Hu HSI] with ⟨%h3, HSI⟩
      · isplitl [Hu] <;> iassumption
      imodintro
      isplitr; · ipureintro; exact ⟨h3, h2, h1⟩
      iexact HSI)
    (hQ := fun _ h hs => ⟨fun c => (h c).2.2.2, sem_eq_zero hs fun c => (h c).2.2.1⟩)

end RingSum
-- ==== Proof.Value.lean ====
module
public import proofs.«01_k».proof.Proof.Launch
public import proofs.«01_k».proof.Proof.Gen.Kernel
public import proofs.«01_k».proof.Proof.Gen.ReferenceIdeal.Run
public import proofs.«01_k».proof.Defs
public import Idealize.ShloMosaic.Lib.Layout
public import Idealize.ShloMosaic.Lib.Pointwise

/-!
# The value

Over the extended reals the result is the sum of the four arguments.
-/

@[expose] public section
noncomputable section

namespace RingSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The kernel's result is the sum over the devices -/

section Kernel

variable (mi : (ℓ : Loc nD τ sig) → Buf (Elt Ideal) ℓ)

/-- Around the ring from any device, either way, each device is met once. -/
theorem ring_total (g : Dev nD → EReal) (i : ℕ) (c : Dev nD) :
    g (fro i (fro i (fro i c))) + g (fro i (fro i c)) + g (fro i c) + g c = ∑ d : Dev nD, g d := by
  rw [show (∑ d : Dev nD, g d) = g 0 + g 1 + g 2 + g 3 from Fin.sum_univ_four g]
  have hp : prv 0 = 3 ∧ prv 1 = 0 ∧ prv 2 = 1 ∧ prv 3 = 2 := by decide
  have hn : nxt 0 = 1 ∧ nxt 1 = 2 ∧ nxt 2 = 3 ∧ nxt 3 = 0 := by decide
  obtain ⟨p0, p1, p2, p3⟩ := hp
  obtain ⟨n0, n1, n2, n3⟩ := hn
  unfold fro
  rcases (show c = 0 ∨ c = 1 ∨ c = 2 ∨ c = 3 by revert c; decide) with rfl | rfl | rfl | rfl
  all_goals
    split
    · simp only [p0, p1, p2, p3] <;> ac_rfl
    · simp only [n0, n1, n2, n3] <;> ac_rfl

/-- The lane an element lies in. -/
abbrev laneAt (i : S4096x1024.Idx) : ℕ := 2 * ((i 0).val % 1024 / 256) + (i 1).val / 512

/-- A piece whose rows and columns hold the element `i` has it at `sub i`. -/
theorem piece_at (c : Dev nD) (j : ℕ) (i : S4096x1024.Idx) (hc : chunk c j = (i 0).val / 1024) (hj : j % 8 = laneAt i) :
    (ovR c j).emb (sub i) = i := by
  have h0 : (i 0).val < 4096 := (i 0).isLt
  have h1 : (i 1).val < 1024 := (i 1).isLt
  unfold laneAt at hj
  funext a; fin_cases a
  · refine Fin.ext ?_
    rw [Rect.emb_apply]
    show 1024 * chunk c j + 256 * (j % 8 / 2) + 1 * ((i 0).val % 256) = (i 0).val
    rw [hc]; omega
  · refine Fin.ext ?_
    rw [Rect.emb_apply]
    show 512 * (j % 2) + 1 * ((i 1).val % 512) = (i 1).val
    omega

/-- The device that finishes a chunk, and those before it on the ring, have that chunk's pieces at each hop. -/
theorem chunks_met : ∀ (r : Fin 4) (i : Fin 8),
    chunk (home (i.val % 2) r.val) (24 + i.val) = r.val
    ∧ chunk (fro i.val (home (i.val % 2) r.val)) (16 + i.val) = r.val
    ∧ chunk (fro i.val (fro i.val (home (i.val % 2) r.val))) (8 + i.val) = r.val
    ∧ chunk (fro i.val (fro i.val (fro i.val (home (i.val % 2) r.val)))) i.val = r.val := by decide +kernel

/-- What a lane holds after three hops, over the extended reals. -/
theorem sums_three (i : ℕ) (c : Dev nD) (y : S256x512.Idx) :
    (Sv mi i 3 c y : EReal) = (xp mi (fro i (fro i (fro i c))) i y : EReal) + (xp mi (fro i (fro i c)) (8 + i) y : EReal)
      + (xp mi (fro i c) (16 + i) y : EReal) + (xp mi c (24 + i) y : EReal) := rfl

/-- Over the extended reals the result at an element is the sum of the four arguments there. -/
theorem result_sum (i : S4096x1024.Idx) : VV mi i = ∑ d : Dev nD, (X mi d i : EReal) := by
  have h0 : (i 0).val < 4096 := (i 0).isLt
  have h1 : (i 1).val < 1024 := (i 1).isLt
  have hl : laneAt i < 8 := by unfold laneAt; omega
  have hd : laneAt i % 2 = (i 1).val / 512 := by unfold laneAt; omega
  obtain ⟨a0, a1, a2, a3⟩ := chunks_met ⟨(i 0).val / 1024, by omega⟩ ⟨laneAt i, hl⟩
  simp only [hd] at a0 a1 a2 a3
  rw [← ring_total (fun d => (X mi d i : EReal)) (laneAt i) (home ((i 1).val / 512) ((i 0).val / 1024))]
  have e0 := piece_at _ (24 + laneAt i) i a0 (by omega)
  have e1 := piece_at _ (16 + laneAt i) i a1 (by omega)
  have e2 := piece_at _ (8 + laneAt i) i a2 (by omega)
  have e3 := piece_at _ (laneAt i) i a3 (by omega)
  have hs := sums_three mi (laneAt i) (home ((i 1).val / 512) ((i 0).val / 1024)) (sub i)
  unfold xp at hs
  rw [e0, e1, e2, e3] at hs
  exact hs

end Kernel

/-! ## The reference's result is the same sum -/

section Reference

open Cert.ReferenceIdeal.Gen (shapeCasts_S16384x1024_S4x4096x1024 reducesTo_S4x4096x1024_S4096x1024_d0 h_S_)

/-- The reference's term at an element: the sum over the four blocks of rows. -/
theorem reference_sum (A : FVec Ideal Cert.ReferenceIdeal.S16384x1024 .f32) (h : Layout.Tiles ⟨2, ![4096, 1024]⟩ ⟨2, ![16384, 1024]⟩ 0 4)
    (i : S4096x1024.Idx) :
    (truncf .bf16 (Host.reduceAdd (shapeCast Cert.ReferenceIdeal.S4x4096x1024 A shapeCasts_S16384x1024_S4x4096x1024) (constant Cert.ReferenceIdeal.S_ .f32 0x00000000#32)
      reducesTo_S4x4096x1024_S4096x1024_d0 h_S_ : FVec Ideal Cert.ReferenceIdeal.S4096x1024 .f32) Cert.ReferenceIdeal.Gen.bitsLt_bf16_f32 : FVec Ideal Cert.ReferenceIdeal.S4096x1024 .bf16) i
      = ∑ d : Fin 4, (A (h.idx d i) : EReal) := by
  simp only [pointwise, Ideal.hostReduceAdd_def]
  rw [zero_add]
  refine Finset.sum_congr rfl fun d _ => congrArg A ?_
  funext a; fin_cases a
  · exact Fin.ext (Layout.Tiles.idx_val h d i 0).symm
  · exact Fin.ext (Layout.Tiles.idx_val h d i 1).symm

/-- When the devices' arguments are the blocks of the reference's, both programs end with the same result. -/
theorem same_result (mi : (ℓ : Loc nD τ sig) → Buf (Elt Ideal) ℓ) (A : FVec Ideal Cert.ReferenceIdeal.S16384x1024 .f32)
    (hA : ∀ c : Dev nD, X mi c = Layout.block ⟨2, ![4096, 1024]⟩ ⟨2, ![16384, 1024]⟩ 0 4 c A) :
    VV mi = (truncf .bf16 (Host.reduceAdd (shapeCast Cert.ReferenceIdeal.S4x4096x1024 A shapeCasts_S16384x1024_S4x4096x1024) (constant Cert.ReferenceIdeal.S_ .f32 0x00000000#32)
      reducesTo_S4x4096x1024_S4096x1024_d0 h_S_ : FVec Ideal Cert.ReferenceIdeal.S4096x1024 .f32) Cert.ReferenceIdeal.Gen.bitsLt_bf16_f32 : FVec Ideal Cert.ReferenceIdeal.S4096x1024 .bf16) := by
  funext i
  rw [result_sum]
  refine Eq.trans ?_ (reference_sum A (by decide) i).symm
  exact Finset.sum_congr rfl fun d _ => congrFun (hA d) i

end Reference

/-! ## The claims -/

/-- The idealized kernel ends as its frame claim says. -/
theorem frame_ideal : Cert.quiescent_KernelIdeal := fun mi g _ =>
  (θ_run Cert.KernelIdeal.defs _ _).mono (fun _ h => ⟨fun c => (h.1 c).2, h.2⟩) (run_main (F := Ideal) mi g)

/-- The kernel as compiled has the same text, so the same run serves. -/
theorem frame_kernel : Cert.quiescent_Kernel := fun mb g _ =>
  (θ_run Cert.KernelIdeal.defs _ _).mono (fun _ h => ⟨fun c => (h.1 c).2, h.2⟩) (run_main (F := Bits) mb g)

/-- The reference has no semaphore, so its run leaves none up. -/
theorem frame_reference : Cert.quiescent_ReferenceIdeal := fun m' g' _ =>
  (θ_run Cert.ReferenceIdeal.defs _ _).mono (fun _ h => ⟨fun c => (h c).2, funext fun q => match q with
    | (_, .reg s) => s.elim0
    | (_, .dma s) => s.elim0⟩) (Cert.ReferenceIdeal.Value.run (F := Ideal) m' g')

/-- The kernel's result is the reference's, on every device. -/
theorem value : Cert.algebraic_KernelIdeal_ReferenceIdeal := fun mi g m' g' _ hA =>
  ⟨_, (θ_run Cert.KernelIdeal.defs _ _).mono
      (fun _ h c => ⟨(h.1 c).1.trans (same_result mi _ hA), (h.1 c).2⟩) (run_main (F := Ideal) mi g),
    (θ_run Cert.ReferenceIdeal.defs _ _).mono (fun _ h => h 0) (Cert.ReferenceIdeal.Value.run (F := Ideal) m' g')⟩

end RingSum
-- ==== Proof.lean ====
/- The proof of the claim: the kernel's two frames from one run over any float values, the reference's frame and value from its
   generated run, and the sum of the four blocks that both results are. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  RingSum.frame_kernel, RingSum.frame_ideal, RingSum.frame_reference, trivial, RingSum.value⟩

end Cert.Proof

end
